-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def preserves_Kernel_KernelIdeal : Prop :=
  IdealRules.named_const.Statement Cert.KernelIdeal.κ "qk_scale" .f32 0x3DD53B95#32 (((Real.sqrt 192)⁻¹ * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)) →
    ∃ (v0 : (c : Dev Cert.Kernel2Ideal.nD) → Buf (Elt Ideal) ((c.tc : Thread Cert.Kernel2Ideal.nD Cert.Kernel2Ideal.τ).loc Cert.Kernel2Ideal.main_v9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v84) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12))

def preserves_Kernel3_Kernel3Ideal : Prop :=
  IdealRules.named_const.Statement Cert.Kernel3Ideal.κ "qk_scale" .f32 0x3DD53B95#32 (((Real.sqrt 192)⁻¹ * (Real.log 2)⁻¹ : ℝ) : EReal)

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v47_0)) (v1 : (c : Dev Cert.Kernel3Ideal.nD) → Buf (Elt Ideal) ((c.tc : Thread Cert.Kernel3Ideal.nD Cert.Kernel3Ideal.τ).loc Cert.Kernel3Ideal.main_v47_1)) (v2 : (c : Dev Cert.Kernel3Ideal.nD) → Buf (Elt Ideal) ((c.tc : Thread Cert.Kernel3Ideal.nD Cert.Kernel3Ideal.τ).loc Cert.Kernel3Ideal.main_v47_2)) (v3 : (c : Dev Cert.Kernel3Ideal.nD) → Buf (Elt Ideal) ((c.tc : Thread Cert.Kernel3Ideal.nD Cert.Kernel3Ideal.τ).loc Cert.Kernel3Ideal.main_v47_3)) (v4 : (c : Dev Cert.Kernel3Ideal.nD) → Buf (Elt Ideal) ((c.tc : Thread Cert.Kernel3Ideal.nD Cert.Kernel3Ideal.τ).loc Cert.Kernel3Ideal.main_v47_4)) (v5 : (c : Dev Cert.Kernel3Ideal.nD) → Buf (Elt Ideal) ((c.tc : Thread Cert.Kernel3Ideal.nD Cert.Kernel3Ideal.τ).loc Cert.Kernel3Ideal.main_v47_5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v47_0) = v0 c
          ∧ r.2.mem ((c.tc : Thread Cert.Kernel3Ideal.nD Cert.Kernel3Ideal.τ).loc Cert.Kernel3Ideal.main_v47_1) = v1 c
          ∧ r.2.mem ((c.tc : Thread Cert.Kernel3Ideal.nD Cert.Kernel3Ideal.τ).loc Cert.Kernel3Ideal.main_v47_2) = v2 c
          ∧ r.2.mem ((c.tc : Thread Cert.Kernel3Ideal.nD Cert.Kernel3Ideal.τ).loc Cert.Kernel3Ideal.main_v47_3) = v3 c
          ∧ r.2.mem ((c.tc : Thread Cert.Kernel3Ideal.nD Cert.Kernel3Ideal.τ).loc Cert.Kernel3Ideal.main_v47_4) = v4 c
          ∧ r.2.mem ((c.tc : Thread Cert.Kernel3Ideal.nD Cert.Kernel3Ideal.τ).loc Cert.Kernel3Ideal.main_v47_5) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v146) = v0 c
          ∧ r.2.mem ((c.tc : Thread Cert.Reference3Ideal.nD Cert.Reference3Ideal.τ).loc Cert.Reference3Ideal.main_v148) = v1 c
          ∧ r.2.mem ((c.tc : Thread Cert.Reference3Ideal.nD Cert.Reference3Ideal.τ).loc Cert.Reference3Ideal.main_v150) = v2 c
          ∧ r.2.mem ((c.tc : Thread Cert.Reference3Ideal.nD Cert.Reference3Ideal.τ).loc Cert.Reference3Ideal.main_v32) = v3 c
          ∧ r.2.mem ((c.tc : Thread Cert.Reference3Ideal.nD Cert.Reference3Ideal.τ).loc Cert.Reference3Ideal.main_v33) = v4 c
          ∧ r.2.mem ((c.tc : Thread Cert.Reference3Ideal.nD Cert.Reference3Ideal.τ).loc Cert.Reference3Ideal.main_v144) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite.lean ====
abbrev S2x16384x4x128 : Shape := ⟨4, ![2, 16384, 4, 128]⟩
abbrev S2x16384x4x64 : Shape := ⟨4, ![2, 16384, 4, 64]⟩
abbrev S2x16384x64 : Shape := ⟨3, ![2, 16384, 64]⟩
abbrev S_ : Shape := ⟨0, ![]⟩

class Facts : Prop where
  bcast_S_S2x16384x4x128 : S_.BroadcastsInDim S2x16384x4x128 (![] : Fin 0 → Fin S2x16384x4x128.rank)
  reducesTo_S2x16384x4x128_S_d0_1_2_3 : S2x16384x4x128.ReducesTo [0, 1, 2, 3] S_
  h_S_ : 0 < S_.numel
  bcast_S_S2x16384x4x64 : S_.BroadcastsInDim S2x16384x4x64 (![] : Fin 0 → Fin S2x16384x4x64.rank)
  reducesTo_S2x16384x4x64_S_d0_1_2_3 : S2x16384x4x64.ReducesTo [0, 1, 2, 3] S_
  bcast_S_S2x16384x64 : S_.BroadcastsInDim S2x16384x64 (![] : Fin 0 → Fin S2x16384x64.rank)
  reducesTo_S2x16384x64_S_d0_1_2 : S2x16384x64.ReducesTo [0, 1, 2] S_

variable [Facts]

def fn_part1 {F : FTy → Type} [FloatOps F] (main_v13 : IVec S_ 1) (main_v16 : IVec S2x16384x64 1) : IVec S_ 1 :=
  let main_c_5 : IVec S_ 1 := constantI S_ 1 1#1
  let main_v17 : IVec S_ 1 := (fun x v => Host.reduce IntOp.andi x v reducesTo_S2x16384x64_S_d0_1_2 h_S_) main_v16 main_c_5
  let main_v18 : IVec S_ 1 := andi main_v13 main_v17
  main_v18

def fn {F : FTy → Type} [FloatOps F] (main_arg0 : FVec F S2x16384x4x128 .f32) (main_arg1 : FVec F S2x16384x4x64 .f32) (main_arg2 : FVec F S2x16384x4x128 .f32) (main_arg3 : FVec F S2x16384x64 .f32) (main_arg4 : FVec F S2x16384x4x128 .f32) : IVec S_ 1 :=
  let main_v0 : FVec F S2x16384x4x128 .f32 := Host.absf main_arg0
  let main_cst : FVec F S_ .f32 := constant S_ .f32 0x7F800000#32
  let main_v1 : FVec F S2x16384x4x128 .f32 := broadcastInDim S2x16384x4x128 ![] bcast_S_S2x16384x4x128 main_cst
  let main_v2 : IVec S2x16384x4x128 1 := cmpf .olt main_v0 main_v1
  let main_c : IVec S_ 1 := constantI S_ 1 1#1
  let main_v3 : IVec S_ 1 := (fun x v => Host.reduce IntOp.andi x v reducesTo_S2x16384x4x128_S_d0_1_2_3 h_S_) main_v2 main_c
  let main_v4 : FVec F S2x16384x4x64 .f32 := Host.absf main_arg1
  let main_cst_0 : FVec F S_ .f32 := constant S_ .f32 0x7F800000#32
  let main_v5 : FVec F S2x16384x4x64 .f32 := broadcastInDim S2x16384x4x64 ![] bcast_S_S2x16384x4x64 main_cst_0
  let main_v6 : IVec S2x16384x4x64 1 := cmpf .olt main_v4 main_v5
  let main_c_1 : IVec S_ 1 := constantI S_ 1 1#1
  let main_v7 : IVec S_ 1 := (fun x v => Host.reduce IntOp.andi x v reducesTo_S2x16384x4x64_S_d0_1_2_3 h_S_) main_v6 main_c_1
  let main_v8 : IVec S_ 1 := andi main_v3 main_v7
  let main_v9 : FVec F S2x16384x4x128 .f32 := Host.absf main_arg2
  let main_cst_2 : FVec F S_ .f32 := constant S_ .f32 0x7F800000#32
  let main_v10 : FVec F S2x16384x4x128 .f32 := broadcastInDim S2x16384x4x128 ![] bcast_S_S2x16384x4x128 main_cst_2
  let main_v11 : IVec S2x16384x4x128 1 := cmpf .olt main_v9 main_v10
  let main_c_3 : IVec S_ 1 := constantI S_ 1 1#1
  let main_v12 : IVec S_ 1 := (fun x v => Host.reduce IntOp.andi x v reducesTo_S2x16384x4x128_S_d0_1_2_3 h_S_) main_v11 main_c_3
  let main_v13 : IVec S_ 1 := andi main_v8 main_v12
  let main_v14 : FVec F S2x16384x64 .f32 := Host.absf main_arg3
  let main_cst_4 : FVec F S_ .f32 := constant S_ .f32 0x7F800000#32
  let main_v15 : FVec F S2x16384x64 .f32 := broadcastInDim S2x16384x64 ![] bcast_S_S2x16384x64 main_cst_4
  let main_v16 : IVec S2x16384x64 1 := cmpf .olt main_v14 main_v15
  fn_part1 (F := F) main_v13 main_v16
-- ==== Kernel.lean ====
abbrev S2x16384x4x128 : Shape := ⟨4, ![2, 16384, 4, 128]⟩
abbrev S2x16384x4x64 : Shape := ⟨4, ![2, 16384, 4, 64]⟩
abbrev S2x16384x64 : Shape := ⟨3, ![2, 16384, 64]⟩
abbrev S_ : Shape := ⟨0, ![]⟩
abbrev S2x16384x4x192 : Shape := ⟨4, ![2, 16384, 4, 192]⟩
abbrev S2x16384x4x256 : Shape := ⟨4, ![2, 16384, 4, 256]⟩
abbrev S2x4x256x16384 : Shape := ⟨4, ![2, 4, 256, 16384]⟩
abbrev S2x16384x1x64 : Shape := ⟨4, ![2, 16384, 1, 64]⟩
abbrev S2x4x16384x256 : Shape := ⟨4, ![2, 4, 16384, 256]⟩
abbrev S2x4x128x16384 : Shape := ⟨4, ![2, 4, 128, 16384]⟩
abbrev S2x4x16x16384 : Shape := ⟨4, ![2, 4, 16, 16384]⟩
abbrev S2x4x144x16384 : Shape := ⟨4, ![2, 4, 144, 16384]⟩
abbrev S2x16384x512 : Shape := ⟨3, ![2, 16384, 512]⟩
abbrev S1x1x256x1024 : Shape := ⟨4, ![1, 1, 256, 1024]⟩
abbrev S1x1x16384x256 : Shape := ⟨4, ![1, 1, 16384, 256]⟩
abbrev S1x1x144x16384 : Shape := ⟨4, ![1, 1, 144, 16384]⟩
abbrev S1x1024x128 : Shape := ⟨3, ![1, 1024, 128]⟩
abbrev S2x1024x1024 : Shape := ⟨3, ![2, 1024, 1024]⟩
abbrev S144x1024 : Shape := ⟨2, ![144, 1024]⟩
abbrev S1x1024 : Shape := ⟨2, ![1, 1024]⟩
abbrev S2x1x1024 : Shape := ⟨3, ![2, 1, 1024]⟩
abbrev S256x1024 : Shape := ⟨2, ![256, 1024]⟩
abbrev S1x1x1024x256 : Shape := ⟨4, ![1, 1, 1024, 256]⟩
abbrev S1024x256 : Shape := ⟨2, ![1024, 256]⟩
abbrev S1024x1024 : Shape := ⟨2, ![1024, 1024]⟩
abbrev S1x1024x1024 : Shape := ⟨3, ![1, 1024, 1024]⟩
abbrev S1024 : Shape := ⟨1, ![1024]⟩
abbrev S1x1x1024 : Shape := ⟨3, ![1, 1, 1024]⟩
abbrev S1x1x144x1024 : Shape := ⟨4, ![1, 1, 144, 1024]⟩
abbrev S128x1024 : Shape := ⟨2, ![128, 1024]⟩
abbrev S1024x128 : Shape := ⟨2, ![1024, 128]⟩

abbrev nBuf : Space → Nat
  | .hbm => 22
  | .vmem => 14
  | .smem => 0
  | _ => 0

abbrev bufTy : (tb : Table) → Fin (tcTables nBuf tb) → BufTy
  | .hbm, ⟨0, _⟩ => ⟨S2x16384x4x128, .f32⟩
  | .hbm, ⟨1, _⟩ => ⟨S2x16384x4x64, .f32⟩
  | .hbm, ⟨2, _⟩ => ⟨S2x16384x4x128, .f32⟩
  | .hbm, ⟨3, _⟩ => ⟨S2x16384x64, .f32⟩
  | .hbm, ⟨4, _⟩ => ⟨S2x16384x4x128, .f32⟩
  | .hbm, ⟨5, _⟩ => ⟨S_, .f32⟩
  | .hbm, ⟨6, _⟩ => ⟨S2x16384x4x64, .f32⟩
  | .hbm, ⟨7, _⟩ => ⟨S2x16384x4x192, .f32⟩
  | .hbm, ⟨8, _⟩ => ⟨S2x16384x4x256, .f32⟩
  | .hbm, ⟨9, _⟩ => ⟨S2x4x256x16384, .f32⟩
  | .hbm, ⟨10, _⟩ => ⟨S2x16384x1x64, .f32⟩
  | .hbm, ⟨11, _⟩ => ⟨S2x16384x4x64, .f32⟩
  | .hbm, ⟨12, _⟩ => ⟨S2x16384x4x192, .f32⟩
  | .hbm, ⟨13, _⟩ => ⟨S2x16384x4x256, .f32⟩
  | .hbm, ⟨14, _⟩ => ⟨S2x4x16384x256, .f32⟩
  | .hbm, ⟨15, _⟩ => ⟨S2x4x16384x256, .bf16⟩
  | .hbm, ⟨16, _⟩ => ⟨S2x4x128x16384, .f32⟩
  | .hbm, ⟨17, _⟩ => ⟨S_, .f32⟩
  | .hbm, ⟨18, _⟩ => ⟨S2x4x16x16384, .f32⟩
  | .hbm, ⟨19, _⟩ => ⟨S2x4x144x16384, .f32⟩
  | .hbm, ⟨20, _⟩ => ⟨S2x4x144x16384, .bf16⟩
  | .hbm, ⟨21, _⟩ => ⟨S2x16384x512, .bf16⟩
  | .local _ .vmem, ⟨0, _⟩ => ⟨S1x1x256x1024, .f32⟩
  | .local _ .vmem, ⟨1, _⟩ => ⟨S1x1x256x1024, .f32⟩
  | .local _ .vmem, ⟨2, _⟩ => ⟨S1x1x16384x256, .bf16⟩
  | .local _ .vmem, ⟨3, _⟩ => ⟨S1x1x16384x256, .bf16⟩
  | .local _ .vmem, ⟨4, _⟩ => ⟨S1x1x144x16384, .bf16⟩
  | .local _ .vmem, ⟨5, _⟩ => ⟨S1x1x144x16384, .bf16⟩
  | .local _ .vmem, ⟨6, _⟩ => ⟨S1x1024x128, .bf16⟩
  | .local _ .vmem, ⟨7, _⟩ => ⟨S1x1024x128, .bf16⟩
  | .local _ .vmem, ⟨8, _⟩ => ⟨S2x1024x1024, .f32⟩
  | .local _ .vmem, ⟨9, _⟩ => ⟨S2x1024x1024, .bf16⟩
  | .local _ .vmem, ⟨10, _⟩ => ⟨S144x1024, .f32⟩
  | .local _ .vmem, ⟨11, _⟩ => ⟨S1x1024, .f32⟩
  | .local _ .vmem, ⟨12, _⟩ => ⟨S2x1x1024, .f32⟩
  | .local _ .vmem, ⟨13, _⟩ => ⟨S2x1x1024, .f32⟩
  | _, _ => ⟨S2x16384x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 16], ![false, false, false]⟩

def k0_mult1 : BitVec 32 :=
  let c0_i32 : BitVec 32 := 0#32
  c0_i32
def k0_mult2 : BitVec 32 :=
  let c1024_i32 : BitVec 32 := 1024#32
  c1024_i32
@[reducible] def k0_t1_loop : Scf.Loop 32 :=
  let c0_i32_46 : BitVec 32 := 0#32
  let c7_i32 : BitVec 32 := 7#32
  let v60 : BitVec 32 := Scalar.addi c0_i32_46 c7_i32
  let c1_i32 : BitVec 32 := 1#32
  ⟨c0_i32_46, v60, c1_i32⟩
def k0_mult3 (k0_t1 : Fin k0_t1_loop.trips) : BitVec 32 :=
  let c2_i32 : BitVec 32 := 2#32
  let c0_i32_46 : BitVec 32 := 0#32
  let c1_i32 : BitVec 32 := 1#32
  let arg13 : BitVec 32 := Scf.iv c0_i32_46 c1_i32 k0_t1
  let v124 : BitVec 32 := Scalar.muli c2_i32 arg13
  let c1_i32_97 : BitVec 32 := 1#32
  let v125 : BitVec 32 := Scalar.addi v124 c1_i32_97
  let c1_i32_114 : BitVec 32 := 1#32
  let v147 : BitVec 32 := Scalar.subi v125 c1_i32_114
  let c1024_i32_115 : BitVec 32 := 1024#32
  let v148 : BitVec 32 := Scalar.muli v147 c1024_i32_115
  v148
def k0_off1 (k0_t1 : Fin k0_t1_loop.trips) : Fin 4 → Nat :=
  let c0_116 : Index := 0#32
  let c0_117 : Index := 0#32
  let c0_118 : Index := 0#32
  let c2_i32 : BitVec 32 := 2#32
  let c0_i32_46 : BitVec 32 := 0#32
  let c1_i32 : BitVec 32 := 1#32
  let arg13 : BitVec 32 := Scf.iv c0_i32_46 c1_i32 k0_t1
  let v124 : BitVec 32 := Scalar.muli c2_i32 arg13
  let c1_i32_97 : BitVec 32 := 1#32
  let v125 : BitVec 32 := Scalar.addi v124 c1_i32_97
  let c1_i32_114 : BitVec 32 := 1#32
  let v147 : BitVec 32 := Scalar.subi v125 c1_i32_114
  let c1024_i32_115 : BitVec 32 := 1024#32
  let v148 : BitVec 32 := Scalar.muli v147 c1024_i32_115
  let v149 : BitVec 32 := v148
  let v150 : Index := Scalar.indexCast v149
  ![0, 0, 0, v150.toNat]
def k0_mult4 (k0_t1 : Fin k0_t1_loop.trips) : BitVec 32 :=
  let c2_i32 : BitVec 32 := 2#32
  let c0_i32_46 : BitVec 32 := 0#32
  let c1_i32 : BitVec 32 := 1#32
  let arg13 : BitVec 32 := Scf.iv c0_i32_46 c1_i32 k0_t1
  let v124 : BitVec 32 := Scalar.muli c2_i32 arg13
  let c1_i32_97 : BitVec 32 := 1#32
  let v125 : BitVec 32 := Scalar.addi v124 c1_i32_97
  let c1_i32_130 : BitVec 32 := 1#32
  let v165 : BitVec 32 := Scalar.addi v125 c1_i32_130
  let c1024_i32_131 : BitVec 32 := 1024#32
  let v166 : BitVec 32 := Scalar.muli v165 c1024_i32_131
  v166
def k0_off2 (k0_t1 : Fin k0_t1_loop.trips) : Fin 4 → Nat :=
  let c0_132 : Index := 0#32
  let c0_133 : Index := 0#32
  let c2_i32 : BitVec 32 := 2#32
  let c0_i32_46 : BitVec 32 := 0#32
  let c1_i32 : BitVec 32 := 1#32
  let arg13 : BitVec 32 := Scf.iv c0_i32_46 c1_i32 k0_t1
  let v124 : BitVec 32 := Scalar.muli c2_i32 arg13
  let c1_i32_97 : BitVec 32 := 1#32
  let v125 : BitVec 32 := Scalar.addi v124 c1_i32_97
  let c1_i32_130 : BitVec 32 := 1#32
  let v165 : BitVec 32 := Scalar.addi v125 c1_i32_130
  let c1024_i32_131 : BitVec 32 := 1024#32
  let v166 : BitVec 32 := Scalar.muli v165 c1024_i32_131
  let v167 : BitVec 32 := v166
  let v168 : Index := Scalar.indexCast v167
  let c0_134 : Index := 0#32
  ![0, 0, v168.toNat, 0]
def k0_cond1 (k0_t1 : Fin k0_t1_loop.trips) : BitVec 1 :=
  let c0_i32_46 : BitVec 32 := 0#32
  let c1_i32 : BitVec 32 := 1#32
  let arg13 : BitVec 32 := Scf.iv c0_i32_46 c1_i32 k0_t1
  let c0_i32_143 : BitVec 32 := 0#32
  let v180 : BitVec 1 := Scalar.cmpi .sge arg13 c0_i32_143
  let v181 : BitVec 32 := Scalar.extui v180
  let c0_i32_144 : BitVec 32 := 0#32
  let v182 : BitVec 1 := Scalar.cmpi .ne v181 c0_i32_144
  v182

def k0_mult5 (k0_t1 : Fin k0_t1_loop.trips) : BitVec 32 :=
  let c2_i32_145 : BitVec 32 := 2#32
  let c0_i32_46 : BitVec 32 := 0#32
  let c1_i32 : BitVec 32 := 1#32
  let arg13 : BitVec 32 := Scf.iv c0_i32_46 c1_i32 k0_t1
  let v183 : BitVec 32 := Scalar.muli c2_i32_145 arg13
  let c2_i32_146 : BitVec 32 := 2#32
  let v184 : BitVec 32 := Scalar.addi v183 c2_i32_146
  let c1_i32_163 : BitVec 32 := 1#32
  let v206 : BitVec 32 := Scalar.subi v184 c1_i32_163
  let c1024_i32_164 : BitVec 32 := 1024#32
  let v207 : BitVec 32 := Scalar.muli v206 c1024_i32_164
  v207
def k0_off3 (k0_t1 : Fin k0_t1_loop.trips) : Fin 4 → Nat :=
  let c0_165 : Index := 0#32
  let c0_166 : Index := 0#32
  let c0_167 : Index := 0#32
  let c2_i32_145 : BitVec 32 := 2#32
  let c0_i32_46 : BitVec 32 := 0#32
  let c1_i32 : BitVec 32 := 1#32
  let arg13 : BitVec 32 := Scf.iv c0_i32_46 c1_i32 k0_t1
  let v183 : BitVec 32 := Scalar.muli c2_i32_145 arg13
  let c2_i32_146 : BitVec 32 := 2#32
  let v184 : BitVec 32 := Scalar.addi v183 c2_i32_146
  let c1_i32_163 : BitVec 32 := 1#32
  let v206 : BitVec 32 := Scalar.subi v184 c1_i32_163
  let c1024_i32_164 : BitVec 32 := 1024#32
  let v207 : BitVec 32 := Scalar.muli v206 c1024_i32_164
  let v208 : BitVec 32 := v207
  let v209 : Index := Scalar.indexCast v208
  ![0, 0, 0, v209.toNat]
def k0_mult6 (k0_t1 : Fin k0_t1_loop.trips) : BitVec 32 :=
  let c2_i32_145 : BitVec 32 := 2#32
  let c0_i32_46 : BitVec 32 := 0#32
  let c1_i32 : BitVec 32 := 1#32
  let arg13 : BitVec 32 := Scf.iv c0_i32_46 c1_i32 k0_t1
  let v183 : BitVec 32 := Scalar.muli c2_i32_145 arg13
  let c2_i32_146 : BitVec 32 := 2#32
  let v184 : BitVec 32 := Scalar.addi v183 c2_i32_146
  let c1_i32_179 : BitVec 32 := 1#32
  let v224 : BitVec 32 := Scalar.addi v184 c1_i32_179
  let c1024_i32_180 : BitVec 32 := 1024#32
  let v225 : BitVec 32 := Scalar.muli v224 c1024_i32_180
  v225
def k0_off4 (k0_t1 : Fin k0_t1_loop.trips) : Fin 4 → Nat :=
  let c0_181 : Index := 0#32
  let c0_182 : Index := 0#32
  let c2_i32_145 : BitVec 32 := 2#32
  let c0_i32_46 : BitVec 32 := 0#32
  let c1_i32 : BitVec 32 := 1#32
  let arg13 : BitVec 32 := Scf.iv c0_i32_46 c1_i32 k0_t1
  let v183 : BitVec 32 := Scalar.muli c2_i32_145 arg13
  let c2_i32_146 : BitVec 32 := 2#32
  let v184 : BitVec 32 := Scalar.addi v183 c2_i32_146
  let c1_i32_179 : BitVec 32 := 1#32
  let v224 : BitVec 32 := Scalar.addi v184 c1_i32_179
  let c1024_i32_180 : BitVec 32 := 1024#32
  let v225 : BitVec 32 := Scalar.muli v224 c1024_i32_180
  let v226 : BitVec 32 := v225
  let v227 : Index := Scalar.indexCast v226
  let c0_183 : Index := 0#32
  ![0, 0, v227.toNat, 0]
def k0_mult7 : BitVec 32 :=
  let c14336_i32 : BitVec 32 := 14336#32
  c14336_i32
def k0_mult8 : BitVec 32 :=
  let c15360_i32 : BitVec 32 := 15360#32
  c15360_i32
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x16384x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x144x16384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "qk_scale" => some (((Real.sqrt 192)⁻¹ * (Real.log 2)⁻¹ : ℝ) : EReal)
  | _ => none
-- ==== ReferenceIdeal.lean ====
abbrev S2x16384x4x128 : Shape := ⟨4, ![2, 16384, 4, 128]⟩
abbrev S2x16384x4x64 : Shape := ⟨4, ![2, 16384, 4, 64]⟩
abbrev S2x16384x64 : Shape := ⟨3, ![2, 16384, 64]⟩
abbrev S_ : Shape := ⟨0, ![]⟩
abbrev S2x4x16384x16384 : Shape := ⟨4, ![2, 4, 16384, 16384]⟩
abbrev S2x16384x16384x4 : Shape := ⟨4, ![2, 16384, 16384, 4]⟩
abbrev S2x4x16384 : Shape := ⟨3, ![2, 4, 16384]⟩
abbrev S2x4x16384x1 : Shape := ⟨4, ![2, 4, 16384, 1]⟩
abbrev S2x4x128x16384 : Shape := ⟨4, ![2, 4, 128, 16384]⟩
abbrev S2x16384x512 : Shape := ⟨3, ![2, 16384, 512]⟩

abbrev nBuf : Space → Nat
  | .hbm => 33
  | .vmem => 0
  | .smem => 0
  | _ => 0

abbrev bufTy : (tb : Table) → Fin (tcTables nBuf tb) → BufTy
  | .hbm, ⟨0, _⟩ => ⟨S2x16384x4x128, .f32⟩
  | .hbm, ⟨1, _⟩ => ⟨S2x16384x4x64, .f32⟩
  | .hbm, ⟨2, _⟩ => ⟨S2x16384x4x128, .f32⟩
  | .hbm, ⟨3, _⟩ => ⟨S2x16384x64, .f32⟩
  | .hbm, ⟨4, _⟩ => ⟨S2x16384x4x128, .f32⟩
  | .hbm, ⟨5, _⟩ => ⟨S_, .f32⟩
  | .hbm, ⟨6, _⟩ => ⟨S_, .f32⟩
  | .hbm, ⟨7, _⟩ => ⟨S2x16384x4x128, .f32⟩
  | .hbm, ⟨8, _⟩ => ⟨S2x16384x4x128, .f32⟩
  | .hbm, ⟨9, _⟩ => ⟨S2x4x16384x16384, .f32⟩
  | .hbm, ⟨10, _⟩ => ⟨S2x16384x4x64, .f32⟩
  | .hbm, ⟨11, _⟩ => ⟨S2x16384x4x64, .f32⟩
  | .hbm, ⟨12, _⟩ => ⟨S2x16384x16384x4, .f32⟩
  | .hbm, ⟨13, _⟩ => ⟨S2x4x16384x16384, .f32⟩
  | .hbm, ⟨14, _⟩ => ⟨S2x4x16384x16384, .f32⟩
  | .hbm, ⟨15, _⟩ => ⟨S_, .f32⟩
  | .hbm, ⟨16, _⟩ => ⟨S2x4x16384, .f32⟩
  | .hbm, ⟨17, _⟩ => ⟨S_, .f32⟩
  | .hbm, ⟨18, _⟩ => ⟨S2x4x16384, .f32⟩
  | .hbm, ⟨19, _⟩ => ⟨S2x4x16384, .f32⟩
  | .hbm, ⟨20, _⟩ => ⟨S2x4x16384x1, .f32⟩
  | .hbm, ⟨21, _⟩ => ⟨S2x4x16384x16384, .f32⟩
  | .hbm, ⟨22, _⟩ => ⟨S2x4x16384x16384, .f32⟩
  | .hbm, ⟨23, _⟩ => ⟨S2x4x16384x16384, .f32⟩
  | .hbm, ⟨24, _⟩ => ⟨S_, .f32⟩
  | .hbm, ⟨25, _⟩ => ⟨S2x4x16384, .f32⟩
  | .hbm, ⟨26, _⟩ => ⟨S2x4x16384x1, .f32⟩
  | .hbm, ⟨27, _⟩ => ⟨S2x4x16384x16384, .f32⟩
  | .hbm, ⟨28, _⟩ => ⟨S2x4x16384x16384, .f32⟩
  | .hbm, ⟨29, _⟩ => ⟨S2x4x128x16384, .f32⟩
  | .hbm, ⟨30, _⟩ => ⟨S2x16384x4x128, .f32⟩
  | .hbm, ⟨31, _⟩ => ⟨S2x16384x512, .f32⟩
  | .hbm, ⟨32, _⟩ => ⟨S2x16384x512, .bf16⟩
  | _, _ => ⟨S2x16384x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== Kernel2.lean ====
abbrev S2x16384x1024 : Shape := ⟨3, ![2, 16384, 1024]⟩
abbrev S2x6144 : Shape := ⟨2, ![2, 6144]⟩
abbrev S2x2048 : Shape := ⟨2, ![2, 2048]⟩
abbrev S2x16384x512 : Shape := ⟨3, ![2, 16384, 512]⟩
abbrev S1x128 : Shape := ⟨2, ![1, 128]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024 : Shape := ⟨1, ![1024]⟩
abbrev S2x1x6144 : Shape := ⟨3, ![2, 1, 6144]⟩
abbrev S2x1x2048 : Shape := ⟨3, ![2, 1, 2048]⟩
abbrev S1024x1024 : Shape := ⟨2, ![1024, 1024]⟩
abbrev S1024x4096 : Shape := ⟨2, ![1024, 4096]⟩
abbrev S4096x1024 : Shape := ⟨2, ![4096, 1024]⟩
abbrev S1x512x1024 : Shape := ⟨3, ![1, 512, 1024]⟩
abbrev S1x1x6144 : Shape := ⟨3, ![1, 1, 6144]⟩
abbrev S1x1x2048 : Shape := ⟨3, ![1, 1, 2048]⟩
abbrev S1x512x512 : Shape := ⟨3, ![1, 512, 512]⟩
abbrev S512x1024 : Shape := ⟨2, ![512, 1024]⟩
abbrev S1x6144 : Shape := ⟨2, ![1, 6144]⟩
abbrev S1x2048 : Shape := ⟨2, ![1, 2048]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S128x1024 : Shape := ⟨2, ![128, 1024]⟩

abbrev nBuf : Space → Nat
  | .hbm => 23
  | .vmem => 22
  | .smem => 0
  | _ => 0

abbrev bufTy : (tb : Table) → Fin (tcTables nBuf tb) → BufTy
  | .hbm, ⟨0, _⟩ => ⟨S2x16384x1024, .f32⟩
  | .hbm, ⟨1, _⟩ => ⟨S2x6144, .f32⟩
  | .hbm, ⟨2, _⟩ => ⟨S2x2048, .f32⟩
  | .hbm, ⟨3, _⟩ => ⟨S2x16384x512, .bf16⟩
  | .hbm, ⟨4, _⟩ => ⟨S2x16384x512, .f32⟩
  | .hbm, ⟨5, _⟩ => ⟨S2x16384x512, .f32⟩
  | .hbm, ⟨6, _⟩ => ⟨S2x16384x512, .f32⟩
  | .hbm, ⟨7, _⟩ => ⟨S1x128, .f32⟩
  | .hbm, ⟨8, _⟩ => ⟨S1x1024x1024, .f32⟩
  | .hbm, ⟨9, _⟩ => ⟨S1x1024, .f32⟩
  | .hbm, ⟨10, _⟩ => ⟨S1x1024x4096, .f32⟩
  | .hbm, ⟨11, _⟩ => ⟨S1x4096x1024, .f32⟩
  | .hbm, ⟨12, _⟩ => ⟨S1024, .f32⟩
  | .hbm, ⟨13, _⟩ => ⟨S2x1x6144, .f32⟩
  | .hbm, ⟨14, _⟩ => ⟨S2x1x2048, .f32⟩
  | .hbm, ⟨15, _⟩ => ⟨S1024x1024, .f32⟩
  | .hbm, ⟨16, _⟩ => ⟨S1024x1024, .bf16⟩
  | .hbm, ⟨17, _⟩ => ⟨S1024x4096, .f32⟩
  | .hbm, ⟨18, _⟩ => ⟨S1024x4096, .bf16⟩
  | .hbm, ⟨19, _⟩ => ⟨S4096x1024, .f32⟩
  | .hbm, ⟨20, _⟩ => ⟨S4096x1024, .bf16⟩
  | .hbm, ⟨21, _⟩ => ⟨S1x1024, .f32⟩
  | .hbm, ⟨22, _⟩ => ⟨S2x16384x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x6144, .f32⟩
  | .local _ .vmem, ⟨3, _⟩ => ⟨S1x1x6144, .f32⟩
  | .local _ .vmem, ⟨4, _⟩ => ⟨S1x1x2048, .f32⟩
  | .local _ .vmem, ⟨5, _⟩ => ⟨S1x1x2048, .f32⟩
  | .local _ .vmem, ⟨6, _⟩ => ⟨S1x512x512, .bf16⟩
  | .local _ .vmem, ⟨7, _⟩ => ⟨S1x512x512, .bf16⟩
  | .local _ .vmem, ⟨8, _⟩ => ⟨S1x512x512, .f32⟩
  | .local _ .vmem, ⟨9, _⟩ => ⟨S1x512x512, .f32⟩
  | .local _ .vmem, ⟨10, _⟩ => ⟨S1x512x512, .f32⟩
  | .local _ .vmem, ⟨11, _⟩ => ⟨S1x512x512, .f32⟩
  | .local _ .vmem, ⟨12, _⟩ => ⟨S1x512x512, .f32⟩
  | .local _ .vmem, ⟨13, _⟩ => ⟨S1x512x512, .f32⟩
  | .local _ .vmem, ⟨14, _⟩ => ⟨S1x128, .f32⟩
  | .local _ .vmem, ⟨15, _⟩ => ⟨S1024x1024, .bf16⟩
  | .local _ .vmem, ⟨16, _⟩ => ⟨S1x1024, .f32⟩
  | .local _ .vmem, ⟨17, _⟩ => ⟨S1024x4096, .bf16⟩
  | .local _ .vmem, ⟨18, _⟩ => ⟨S4096x1024, .bf16⟩
  | .local _ .vmem, ⟨19, _⟩ => ⟨S1x1024, .f32⟩
  | .local _ .vmem, ⟨20, _⟩ => ⟨S1x512x1024, .f32⟩
  | .local _ .vmem, ⟨21, _⟩ => ⟨S1x512x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x4096 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S4096x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference2Ideal.lean ====
abbrev S2x16384x1024 : Shape := ⟨3, ![2, 16384, 1024]⟩
abbrev S2x6144 : Shape := ⟨2, ![2, 6144]⟩
abbrev S2x2048 : Shape := ⟨2, ![2, 2048]⟩
abbrev S2x16384x512 : Shape := ⟨3, ![2, 16384, 512]⟩
abbrev S1x128 : Shape := ⟨2, ![1, 128]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024 : Shape := ⟨1, ![1024]⟩
abbrev S2x1x6144 : Shape := ⟨3, ![2, 1, 6144]⟩
abbrev S2x1x1024 : Shape := ⟨3, ![2, 1, 1024]⟩
abbrev S2x1x2048 : Shape := ⟨3, ![2, 1, 2048]⟩
abbrev S2x16384x4x128 : Shape := ⟨4, ![2, 16384, 4, 128]⟩
abbrev S128 : Shape := ⟨1, ![128]⟩
abbrev S_ : Shape := ⟨0, ![]⟩
abbrev S2x16384x4 : Shape := ⟨3, ![2, 16384, 4]⟩
abbrev S2x16384x4x1 : Shape := ⟨4, ![2, 16384, 4, 1]⟩
abbrev S1x1x1x128 : Shape := ⟨4, ![1, 1, 1, 128]⟩
abbrev S1024x1024 : Shape := ⟨2, ![1024, 1024]⟩
abbrev S2x16384 : Shape := ⟨2, ![2, 16384]⟩
abbrev S2x16384x1 : Shape := ⟨3, ![2, 16384, 1]⟩
abbrev S1x1x1024 : Shape := ⟨3, ![1, 1, 1024]⟩
abbrev S1024x4096 : Shape := ⟨2, ![1024, 4096]⟩
abbrev S2x16384x4096 : Shape := ⟨3, ![2, 16384, 4096]⟩
abbrev S4096x1024 : Shape := ⟨2, ![4096, 1024]⟩

abbrev nBuf : Space → Nat
  | .hbm => 119
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x6144, .f32⟩
  | .hbm, ⟨2, _⟩ => ⟨S2x2048, .f32⟩
  | .hbm, ⟨3, _⟩ => ⟨S2x16384x512, .bf16⟩
  | .hbm, ⟨4, _⟩ => ⟨S2x16384x512, .f32⟩
  | .hbm, ⟨5, _⟩ => ⟨S2x16384x512, .f32⟩
  | .hbm, ⟨6, _⟩ => ⟨S2x16384x512, .f32⟩
  | .hbm, ⟨7, _⟩ => ⟨S1x128, .f32⟩
  | .hbm, ⟨8, _⟩ => ⟨S1x1024x1024, .f32⟩
  | .hbm, ⟨9, _⟩ => ⟨S1x1024, .f32⟩
  | .hbm, ⟨10, _⟩ => ⟨S1x1024x4096, .f32⟩
  | .hbm, ⟨11, _⟩ => ⟨S1x4096x1024, .f32⟩
  | .hbm, ⟨12, _⟩ => ⟨S1024, .f32⟩
  | .hbm, ⟨13, _⟩ => ⟨S2x1x6144, .f32⟩
  | .hbm, ⟨14, _⟩ => ⟨S2x1x1024, .f32⟩
  | .hbm, ⟨15, _⟩ => ⟨S2x1x1024, .f32⟩
  | .hbm, ⟨16, _⟩ => ⟨S2x1x1024, .f32⟩
  | .hbm, ⟨17, _⟩ => ⟨S2x1x1024, .f32⟩
  | .hbm, ⟨18, _⟩ => ⟨S2x1x1024, .f32⟩
  | .hbm, ⟨19, _⟩ => ⟨S2x1x1024, .f32⟩
  | .hbm, ⟨20, _⟩ => ⟨S2x1x2048, .f32⟩
  | .hbm, ⟨21, _⟩ => ⟨S2x1x1024, .f32⟩
  | .hbm, ⟨22, _⟩ => ⟨S2x1x1024, .f32⟩
  | .hbm, ⟨23, _⟩ => ⟨S2x16384x512, .f32⟩
  | .hbm, ⟨24, _⟩ => ⟨S2x16384x4x128, .f32⟩
  | .hbm, ⟨25, _⟩ => ⟨S128, .f32⟩
  | .hbm, ⟨26, _⟩ => ⟨S2x16384x4x128, .f32⟩
  | .hbm, ⟨27, _⟩ => ⟨S_, .f32⟩
  | .hbm, ⟨28, _⟩ => ⟨S2x16384x4, .f32⟩
  | .hbm, ⟨29, _⟩ => ⟨S2x16384x4x1, .f32⟩
  | .hbm, ⟨30, _⟩ => ⟨S_, .f32⟩
  | .hbm, ⟨31, _⟩ => ⟨S2x16384x4x1, .f32⟩
  | .hbm, ⟨32, _⟩ => ⟨S2x16384x4x1, .f32⟩
  | .hbm, ⟨33, _⟩ => ⟨S_, .f32⟩
  | .hbm, ⟨34, _⟩ => ⟨S2x16384x4x1, .f32⟩
  | .hbm, ⟨35, _⟩ => ⟨S2x16384x4x1, .f32⟩
  | .hbm, ⟨36, _⟩ => ⟨S2x16384x4x1, .f32⟩
  | .hbm, ⟨37, _⟩ => ⟨S2x16384x4x128, .f32⟩
  | .hbm, ⟨38, _⟩ => ⟨S2x16384x4x128, .f32⟩
  | .hbm, ⟨39, _⟩ => ⟨S1x1x1x128, .f32⟩
  | .hbm, ⟨40, _⟩ => ⟨S2x16384x4x128, .f32⟩
  | .hbm, ⟨41, _⟩ => ⟨S2x16384x4x128, .f32⟩
  | .hbm, ⟨42, _⟩ => ⟨S2x16384x4x128, .f32⟩
  | .hbm, ⟨43, _⟩ => ⟨S2x16384x4x128, .f32⟩
  | .hbm, ⟨44, _⟩ => ⟨S2x16384x4x128, .f32⟩
  | .hbm, ⟨45, _⟩ => ⟨S_, .f32⟩
  | .hbm, ⟨46, _⟩ => ⟨S2x16384x4x128, .f32⟩
  | .hbm, ⟨47, _⟩ => ⟨S2x16384x4x128, .f32⟩
  | .hbm, ⟨48, _⟩ => ⟨S_, .f32⟩
  | .hbm, ⟨49, _⟩ => ⟨S2x16384x4x128, .f32⟩
  | .hbm, ⟨50, _⟩ => ⟨S2x16384x4x128, .f32⟩
  | .hbm, ⟨51, _⟩ => ⟨S2x16384x4x128, .f32⟩
  | .hbm, ⟨52, _⟩ => ⟨S2x16384x4x128, .f32⟩
  | .hbm, ⟨53, _⟩ => ⟨S2x16384x512, .f32⟩
  | .hbm, ⟨54, _⟩ => ⟨S2x16384x512, .f32⟩
  | .hbm, ⟨55, _⟩ => ⟨S2x16384x1024, .f32⟩
  | .hbm, ⟨56, _⟩ => ⟨S1024x1024, .f32⟩
  | .hbm, ⟨57, _⟩ => ⟨S2x16384x1024, .f32⟩
  | .hbm, ⟨58, _⟩ => ⟨S2x16384x1024, .f32⟩
  | .hbm, ⟨59, _⟩ => ⟨S2x16384x1024, .f32⟩
  | .hbm, ⟨60, _⟩ => ⟨S2x16384x1024, .f32⟩
  | .hbm, ⟨61, _⟩ => ⟨S1024, .f32⟩
  | .hbm, ⟨62, _⟩ => ⟨S2x16384x1024, .f32⟩
  | .hbm, ⟨63, _⟩ => ⟨S_, .f32⟩
  | .hbm, ⟨64, _⟩ => ⟨S2x16384, .f32⟩
  | .hbm, ⟨65, _⟩ => ⟨S2x16384x1, .f32⟩
  | .hbm, ⟨66, _⟩ => ⟨S_, .f32⟩
  | .hbm, ⟨67, _⟩ => ⟨S2x16384x1, .f32⟩
  | .hbm, ⟨68, _⟩ => ⟨S2x16384x1, .f32⟩
  | .hbm, ⟨69, _⟩ => ⟨S_, .f32⟩
  | .hbm, ⟨70, _⟩ => ⟨S2x16384x1, .f32⟩
  | .hbm, ⟨71, _⟩ => ⟨S2x16384x1, .f32⟩
  | .hbm, ⟨72, _⟩ => ⟨S2x16384x1, .f32⟩
  | .hbm, ⟨73, _⟩ => ⟨S2x16384x1024, .f32⟩
  | .hbm, ⟨74, _⟩ => ⟨S2x16384x1024, .f32⟩
  | .hbm, ⟨75, _⟩ => ⟨S1x1x1024, .f32⟩
  | .hbm, ⟨76, _⟩ => ⟨S2x16384x1024, .f32⟩
  | .hbm, ⟨77, _⟩ => ⟨S2x16384x1024, .f32⟩
  | .hbm, ⟨78, _⟩ => ⟨S_, .f32⟩
  | .hbm, ⟨79, _⟩ => ⟨S2x1x1024, .f32⟩
  | .hbm, ⟨80, _⟩ => ⟨S2x1x1024, .f32⟩
  | .hbm, ⟨81, _⟩ => ⟨S2x16384x1024, .f32⟩
  | .hbm, ⟨82, _⟩ => ⟨S2x16384x1024, .f32⟩
  | .hbm, ⟨83, _⟩ => ⟨S2x16384x1024, .f32⟩
  | .hbm, ⟨84, _⟩ => ⟨S2x16384x1024, .f32⟩
  | .hbm, ⟨85, _⟩ => ⟨S1024x4096, .f32⟩
  | .hbm, ⟨86, _⟩ => ⟨S2x16384x4096, .f32⟩
  | .hbm, ⟨87, _⟩ => ⟨S_, .f32⟩
  | .hbm, ⟨88, _⟩ => ⟨S2x16384x4096, .f32⟩
  | .hbm, ⟨89, _⟩ => ⟨S2x16384x4096, .f32⟩
  | .hbm, ⟨90, _⟩ => ⟨S2x16384x4096, .f32⟩
  | .hbm, ⟨91, _⟩ => ⟨S4096x1024, .f32⟩
  | .hbm, ⟨92, _⟩ => ⟨S2x16384x1024, .f32⟩
  | .hbm, ⟨93, _⟩ => ⟨S2x16384x1024, .f32⟩
  | .hbm, ⟨94, _⟩ => ⟨S2x16384x1024, .f32⟩
  | .hbm, ⟨95, _⟩ => ⟨S2x16384x1024, .f32⟩
  | .hbm, ⟨96, _⟩ => ⟨S2x16384x1024, .f32⟩
  | .hbm, ⟨97, _⟩ => ⟨S_, .f32⟩
  | .hbm, ⟨98, _⟩ => ⟨S2x16384, .f32⟩
  | .hbm, ⟨99, _⟩ => ⟨S2x16384x1, .f32⟩
  | .hbm, ⟨100, _⟩ => ⟨S_, .f32⟩
  | .hbm, ⟨101, _⟩ => ⟨S2x16384x1, .f32⟩
  | .hbm, ⟨102, _⟩ => ⟨S2x16384x1, .f32⟩
  | .hbm, ⟨103, _⟩ => ⟨S_, .f32⟩
  | .hbm, ⟨104, _⟩ => ⟨S2x16384x1, .f32⟩
  | .hbm, ⟨105, _⟩ => ⟨S2x16384x1, .f32⟩
  | .hbm, ⟨106, _⟩ => ⟨S2x16384x1, .f32⟩
  | .hbm, ⟨107, _⟩ => ⟨S2x16384x1024, .f32⟩
  | .hbm, ⟨108, _⟩ => ⟨S2x16384x1024, .f32⟩
  | .hbm, ⟨109, _⟩ => ⟨S1x1x1024, .f32⟩
  | .hbm, ⟨110, _⟩ => ⟨S2x16384x1024, .f32⟩
  | .hbm, ⟨111, _⟩ => ⟨S2x16384x1024, .f32⟩
  | .hbm, ⟨112, _⟩ => ⟨S_, .f32⟩
  | .hbm, ⟨113, _⟩ => ⟨S2x1x1024, .f32⟩
  | .hbm, ⟨114, _⟩ => ⟨S2x1x1024, .f32⟩
  | .hbm, ⟨115, _⟩ => ⟨S2x16384x1024, .f32⟩
  | .hbm, ⟨116, _⟩ => ⟨S2x16384x1024, .f32⟩
  | .hbm, ⟨117, _⟩ => ⟨S2x16384x1024, .f32⟩
  | .hbm, ⟨118, _⟩ => ⟨S2x16384x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst : Ref sig .tc := ⟨.hbm, 27, rfl⟩
abbrev main_v14 : Ref sig .tc := ⟨.hbm, 28, rfl⟩
abbrev main_v15 : Ref sig .tc := ⟨.hbm, 29, rfl⟩
abbrev main_cst_0 : Ref sig .tc := ⟨.hbm, 30, rfl⟩
abbrev main_v16 : Ref sig .tc := ⟨.hbm, 31, rfl⟩
abbrev main_v17 : Ref sig .tc := ⟨.hbm, 32, rfl⟩
abbrev main_cst_1 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_call0_v5 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_2 : Ref sig .tc := ⟨.hbm, 63, rfl⟩
abbrev main_v39 : Ref sig .tc := ⟨.hbm, 64, rfl⟩
abbrev main_v40 : Ref sig .tc := ⟨.hbm, 65, rfl⟩
abbrev main_cst_3 : Ref sig .tc := ⟨.hbm, 66, rfl⟩
abbrev main_v41 : Ref sig .tc := ⟨.hbm, 67, rfl⟩
abbrev main_v42 : Ref sig .tc := ⟨.hbm, 68, rfl⟩
abbrev main_cst_4 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_cst_5 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_call1_cst : Ref sig .tc := ⟨.hbm, 87, rfl⟩
abbrev main_call1_v0 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_cst_6 : Ref sig .tc := ⟨.hbm, 97, rfl⟩
abbrev main_v67 : Ref sig .tc := ⟨.hbm, 98, rfl⟩
abbrev main_v68 : Ref sig .tc := ⟨.hbm, 99, rfl⟩
abbrev main_cst_7 : Ref sig .tc := ⟨.hbm, 100, rfl⟩
abbrev main_v69 : Ref sig .tc := ⟨.hbm, 101, rfl⟩
abbrev main_v70 : Ref sig .tc := ⟨.hbm, 102, rfl⟩
abbrev main_cst_8 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_cst_9 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩

abbrev nD : Nat := 1
abbrev τ : Topo := Topo.v7x

variable {F : FTy → Type} [FloatOps F]
-- ==== Kernel3.lean ====
abbrev S2x16384x1024 : Shape := ⟨3, ![2, 16384, 1024]⟩
abbrev S2x6144 : Shape := ⟨2, ![2, 6144]⟩
abbrev S1x1024 : Shape := ⟨2, ![1, 1024]⟩
abbrev S1x1024x2768 : Shape := ⟨3, ![1, 1024, 2768]⟩
abbrev S1x384 : Shape := ⟨2, ![1, 384]⟩
abbrev S1x384x768 : Shape := ⟨3, ![1, 384, 768]⟩
abbrev S1x256 : Shape := ⟨2, ![1, 256]⟩
abbrev S1x256x1024 : Shape := ⟨3, ![1, 256, 1024]⟩
abbrev S32 : Shape := ⟨1, ![32]⟩
abbrev S_ : Shape := ⟨0, ![]⟩
abbrev S16384 : Shape := ⟨1, ![16384]⟩
abbrev S16384x1 : Shape := ⟨2, ![16384, 1]⟩
abbrev S1x32 : Shape := ⟨2, ![1, 32]⟩
abbrev S16384x32 : Shape := ⟨2, ![16384, 32]⟩
abbrev S16384x64 : Shape := ⟨2, ![16384, 64]⟩
abbrev S16384x96 : Shape := ⟨2, ![16384, 96]⟩
abbrev S16384x128 : Shape := ⟨2, ![16384, 128]⟩
abbrev S1024x2768 : Shape := ⟨2, ![1024, 2768]⟩
abbrev S1024x704 : Shape := ⟨2, ![1024, 704]⟩
abbrev S1024x32 : Shape := ⟨2, ![1024, 32]⟩
abbrev S1024x2064 : Shape := ⟨2, ![1024, 2064]⟩
abbrev S1024x112 : Shape := ⟨2, ![1024, 112]⟩
abbrev S1024x2176 : Shape := ⟨2, ![1024, 2176]⟩
abbrev S1024x2208 : Shape := ⟨2, ![1024, 2208]⟩
abbrev S1024x2240 : Shape := ⟨2, ![1024, 2240]⟩
abbrev S1024x2944 : Shape := ⟨2, ![1024, 2944]⟩
abbrev S384x768 : Shape := ⟨2, ![384, 768]⟩
abbrev S384x4x192 : Shape := ⟨3, ![384, 4, 192]⟩
abbrev S384x4x32 : Shape := ⟨3, ![384, 4, 32]⟩
abbrev S384x4x64 : Shape := ⟨3, ![384, 4, 64]⟩
abbrev S384x4x256 : Shape := ⟨3, ![384, 4, 256]⟩
abbrev S384x1024 : Shape := ⟨2, ![384, 1024]⟩
abbrev S2x1x6144 : Shape := ⟨3, ![2, 1, 6144]⟩
abbrev S256x1024 : Shape := ⟨2, ![256, 1024]⟩
abbrev S2x4x256x16384 : Shape := ⟨4, ![2, 4, 256, 16384]⟩
abbrev S2x4x16384x256 : Shape := ⟨4, ![2, 4, 16384, 256]⟩
abbrev S2x4x144x16384 : Shape := ⟨4, ![2, 4, 144, 16384]⟩
abbrev S2x16384x1536 : Shape := ⟨3, ![2, 16384, 1536]⟩
abbrev S2x16384x512 : Shape := ⟨3, ![2, 16384, 512]⟩
abbrev S2x16384x128 : Shape := ⟨3, ![2, 16384, 128]⟩
abbrev S1x512x1024 : Shape := ⟨3, ![1, 512, 1024]⟩
abbrev S1x1x6144 : Shape := ⟨3, ![1, 1, 6144]⟩
abbrev S512x128 : Shape := ⟨2, ![512, 128]⟩
abbrev S1x4x256x512 : Shape := ⟨4, ![1, 4, 256, 512]⟩
abbrev S1x4x512x256 : Shape := ⟨4, ![1, 4, 512, 256]⟩
abbrev S1x4x144x512 : Shape := ⟨4, ![1, 4, 144, 512]⟩
abbrev S1x512x1536 : Shape := ⟨3, ![1, 512, 1536]⟩
abbrev S1x512x512 : Shape := ⟨3, ![1, 512, 512]⟩
abbrev S1x512x128 : Shape := ⟨3, ![1, 512, 128]⟩
abbrev S512x1024 : Shape := ⟨2, ![512, 1024]⟩
abbrev S1x6144 : Shape := ⟨2, ![1, 6144]⟩
abbrev S512 : Shape := ⟨1, ![512]⟩
abbrev S512x1 : Shape := ⟨2, ![512, 1]⟩
abbrev S16x512 : Shape := ⟨2, ![16, 512]⟩
abbrev S1024x384 : Shape := ⟨2, ![1024, 384]⟩
abbrev S512x384 : Shape := ⟨2, ![512, 384]⟩
abbrev S1024x256 : Shape := ⟨2, ![1024, 256]⟩
abbrev S512x256 : Shape := ⟨2, ![512, 256]⟩
abbrev S1024x128 : Shape := ⟨2, ![1024, 128]⟩
abbrev S128x512 : Shape := ⟨2, ![128, 512]⟩
abbrev S1x1x128x512 : Shape := ⟨4, ![1, 1, 128, 512]⟩
abbrev S1x1x512x128 : Shape := ⟨4, ![1, 1, 512, 128]⟩
abbrev S1x1x16x512 : Shape := ⟨4, ![1, 1, 16, 512]⟩
abbrev S1024x1536 : Shape := ⟨2, ![1024, 1536]⟩
abbrev S512x1536 : Shape := ⟨2, ![512, 1536]⟩
abbrev S1024x512 : Shape := ⟨2, ![1024, 512]⟩
abbrev S512x512 : Shape := ⟨2, ![512, 512]⟩

abbrev nBuf : Space → Nat
  | .hbm => 68
  | .vmem => 26
  | .smem => 0
  | _ => 0

abbrev bufTy : (tb : Table) → Fin (tcTables nBuf tb) → BufTy
  | .hbm, ⟨0, _⟩ => ⟨S2x16384x1024, .f32⟩
  | .hbm, ⟨1, _⟩ => ⟨S2x6144, .f32⟩
  | .hbm, ⟨2, _⟩ => ⟨S1x1024, .f32⟩
  | .hbm, ⟨3, _⟩ => ⟨S1x1024x2768, .f32⟩
  | .hbm, ⟨4, _⟩ => ⟨S1x384, .f32⟩
  | .hbm, ⟨5, _⟩ => ⟨S1x384x768, .f32⟩
  | .hbm, ⟨6, _⟩ => ⟨S1x256, .f32⟩
  | .hbm, ⟨7, _⟩ => ⟨S1x256x1024, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S_, .f32⟩
  | .hbm, ⟨22, _⟩ => ⟨S32, .f32⟩
  | .hbm, ⟨23, _⟩ => ⟨S32, .f32⟩
  | .hbm, ⟨24, _⟩ => ⟨S16384, .f32⟩
  | .hbm, ⟨25, _⟩ => ⟨S16384x1, .f32⟩
  | .hbm, ⟨26, _⟩ => ⟨S1x32, .f32⟩
  | .hbm, ⟨27, _⟩ => ⟨S16384x32, .f32⟩
  | .hbm, ⟨28, _⟩ => ⟨S16384x32, .f32⟩
  | .hbm, ⟨29, _⟩ => ⟨S16384x32, .f32⟩
  | .hbm, ⟨30, _⟩ => ⟨S16384x32, .f32⟩
  | .hbm, ⟨31, _⟩ => ⟨S16384x32, .f32⟩
  | .hbm, ⟨32, _⟩ => ⟨S_, .f32⟩
  | .hbm, ⟨33, _⟩ => ⟨S16384x64, .f32⟩
  | .hbm, ⟨34, _⟩ => ⟨S16384x96, .f32⟩
  | .hbm, ⟨35, _⟩ => ⟨S16384x128, .f32⟩
  | .hbm, ⟨36, _⟩ => ⟨S16384x32, .f32⟩
  | .hbm, ⟨37, _⟩ => ⟨S16384x96, .f32⟩
  | .hbm, ⟨38, _⟩ => ⟨S16384x128, .f32⟩
  | .hbm, ⟨39, _⟩ => ⟨S1024x2768, .f32⟩
  | .hbm, ⟨40, _⟩ => ⟨S1024x704, .f32⟩
  | .hbm, ⟨41, _⟩ => ⟨S1024x32, .f32⟩
  | .hbm, ⟨42, _⟩ => ⟨S1024x32, .f32⟩
  | .hbm, ⟨43, _⟩ => ⟨S1024x2064, .f32⟩
  | .hbm, ⟨44, _⟩ => ⟨S_, .f32⟩
  | .hbm, ⟨45, _⟩ => ⟨S1024x112, .f32⟩
  | .hbm, ⟨46, _⟩ => ⟨S1024x2176, .f32⟩
  | .hbm, ⟨47, _⟩ => ⟨S1024x2208, .f32⟩
  | .hbm, ⟨48, _⟩ => ⟨S1024x2240, .f32⟩
  | .hbm, ⟨49, _⟩ => ⟨S1024x2944, .f32⟩
  | .hbm, ⟨50, _⟩ => ⟨S1024x2944, .bf16⟩
  | .hbm, ⟨51, _⟩ => ⟨S384x768, .f32⟩
  | .hbm, ⟨52, _⟩ => ⟨S384x4x192, .f32⟩
  | .hbm, ⟨53, _⟩ => ⟨S384x4x32, .f32⟩
  | .hbm, ⟨54, _⟩ => ⟨S384x4x32, .f32⟩
  | .hbm, ⟨55, _⟩ => ⟨S384x4x64, .f32⟩
  | .hbm, ⟨56, _⟩ => ⟨S384x4x256, .f32⟩
  | .hbm, ⟨57, _⟩ => ⟨S384x1024, .f32⟩
  | .hbm, ⟨58, _⟩ => ⟨S384x1024, .bf16⟩
  | .hbm, ⟨59, _⟩ => ⟨S2x1x6144, .f32⟩
  | .hbm, ⟨60, _⟩ => ⟨S256x1024, .f32⟩
  | .hbm, ⟨61, _⟩ => ⟨S256x1024, .bf16⟩
  | .hbm, ⟨62, _⟩ => ⟨S2x4x256x16384, .bf16⟩
  | .hbm, ⟨63, _⟩ => ⟨S2x4x16384x256, .bf16⟩
  | .hbm, ⟨64, _⟩ => ⟨S2x4x144x16384, .bf16⟩
  | .hbm, ⟨65, _⟩ => ⟨S2x16384x1536, .f32⟩
  | .hbm, ⟨66, _⟩ => ⟨S2x16384x512, .f32⟩
  | .hbm, ⟨67, _⟩ => ⟨S2x16384x128, .f32⟩
  | .local _ .vmem, ⟨0, _⟩ => ⟨S1x512x1024, .f32⟩
  | .local _ .vmem, ⟨1, _⟩ => ⟨S1x512x1024, .f32⟩
  | .local _ .vmem, ⟨2, _⟩ => ⟨S1x1x6144, .f32⟩
  | .local _ .vmem, ⟨3, _⟩ => ⟨S1x1x6144, .f32⟩
  | .local _ .vmem, ⟨4, _⟩ => ⟨S1x1024, .f32⟩
  | .local _ .vmem, ⟨5, _⟩ => ⟨S1024x2944, .bf16⟩
  | .local _ .vmem, ⟨6, _⟩ => ⟨S1x384, .f32⟩
  | .local _ .vmem, ⟨7, _⟩ => ⟨S384x1024, .bf16⟩
  | .local _ .vmem, ⟨8, _⟩ => ⟨S1x256, .f32⟩
  | .local _ .vmem, ⟨9, _⟩ => ⟨S256x1024, .bf16⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S1x4x256x512, .bf16⟩
  | .local _ .vmem, ⟨15, _⟩ => ⟨S1x4x256x512, .bf16⟩
  | .local _ .vmem, ⟨16, _⟩ => ⟨S1x4x512x256, .bf16⟩
  | .local _ .vmem, ⟨17, _⟩ => ⟨S1x4x512x256, .bf16⟩
  | .local _ .vmem, ⟨18, _⟩ => ⟨S1x4x144x512, .bf16⟩
  | .local _ .vmem, ⟨19, _⟩ => ⟨S1x4x144x512, .bf16⟩
  | .local _ .vmem, ⟨20, _⟩ => ⟨S1x512x1536, .f32⟩
  | .local _ .vmem, ⟨21, _⟩ => ⟨S1x512x1536, .f32⟩
  | .local _ .vmem, ⟨22, _⟩ => ⟨S1x512x512, .f32⟩
  | .local _ .vmem, ⟨23, _⟩ => ⟨S1x512x512, .f32⟩
  | .local _ .vmem, ⟨24, _⟩ => ⟨S1x512x128, .f32⟩
  | .local _ .vmem, ⟨25, _⟩ => ⟨S1x512x128, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_v7 : Ref sig .tc := ⟨.hbm, 19, rfl⟩
abbrev main_v8 : Ref sig .tc := ⟨.hbm, 20, rfl⟩
abbrev main_cst_3 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_5 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47_0 : Ref sig .tc := ⟨.hbm, 62, rfl⟩
abbrev main_v47_1 : Ref sig .tc := ⟨.hbm, 63, rfl⟩
abbrev main_v47_2 : Ref sig .tc := ⟨.hbm, 64, rfl⟩
abbrev main_v47_3 : Ref sig .tc := ⟨.hbm, 65, rfl⟩
abbrev main_v47_4 : Ref sig .tc := ⟨.hbm, 66, rfl⟩
abbrev main_v47_5 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2944 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S384x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x4x256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x4x512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x4x144x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x1536 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== Kernel3Ideal.lean ====
variable {F : FTy → Type} [FloatOps F] [Named F]
def κ : String → Option EReal := fun
  | "qk_scale" => some (((Real.sqrt 192)⁻¹ * (Real.log 2)⁻¹ : ℝ) : EReal)
  | _ => none
-- ==== Reference3Ideal.lean ====
abbrev S2x16384x1024 : Shape := ⟨3, ![2, 16384, 1024]⟩
abbrev S2x6144 : Shape := ⟨2, ![2, 6144]⟩
abbrev S1x1024 : Shape := ⟨2, ![1, 1024]⟩
abbrev S1x1024x2768 : Shape := ⟨3, ![1, 1024, 2768]⟩
abbrev S1x384 : Shape := ⟨2, ![1, 384]⟩
abbrev S1x384x768 : Shape := ⟨3, ![1, 384, 768]⟩
abbrev S1x256 : Shape := ⟨2, ![1, 256]⟩
abbrev S1x256x1024 : Shape := ⟨3, ![1, 256, 1024]⟩
abbrev S2x1x6144 : Shape := ⟨3, ![2, 1, 6144]⟩
abbrev S2x1x1024 : Shape := ⟨3, ![2, 1, 1024]⟩
abbrev S1024 : Shape := ⟨1, ![1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S1024x2768 : Shape := ⟨2, ![1024, 2768]⟩
abbrev S2x16384x2768 : Shape := ⟨3, ![2, 16384, 2768]⟩
abbrev S2x16384x384 : Shape := ⟨3, ![2, 16384, 384]⟩
abbrev S2x16384x256 : Shape := ⟨3, ![2, 16384, 256]⟩
abbrev S2x16384x64 : Shape := ⟨3, ![2, 16384, 64]⟩
abbrev S2x16384x1536 : Shape := ⟨3, ![2, 16384, 1536]⟩
abbrev S2x16384x512 : Shape := ⟨3, ![2, 16384, 512]⟩
abbrev S2x16384x16 : Shape := ⟨3, ![2, 16384, 16]⟩
abbrev S32 : Shape := ⟨1, ![32]⟩
abbrev S16384 : Shape := ⟨1, ![16384]⟩
abbrev S16384x1 : Shape := ⟨2, ![16384, 1]⟩
abbrev S1x32 : Shape := ⟨2, ![1, 32]⟩
abbrev S16384x32 : Shape := ⟨2, ![16384, 32]⟩
abbrev S384 : Shape := ⟨1, ![384]⟩
abbrev S1x1x384 : Shape := ⟨3, ![1, 1, 384]⟩
abbrev S384x768 : Shape := ⟨2, ![384, 768]⟩
abbrev S2x16384x768 : Shape := ⟨3, ![2, 16384, 768]⟩
abbrev S2x16384x4x192 : Shape := ⟨4, ![2, 16384, 4, 192]⟩
abbrev S2x16384x4x128 : Shape := ⟨4, ![2, 16384, 4, 128]⟩
abbrev S2x16384x4x64 : Shape := ⟨4, ![2, 16384, 4, 64]⟩
abbrev S16384x1x32 : Shape := ⟨3, ![16384, 1, 32]⟩
abbrev S2x16384x4x32 : Shape := ⟨4, ![2, 16384, 4, 32]⟩
abbrev S1x16384x1x32 : Shape := ⟨4, ![1, 16384, 1, 32]⟩
abbrev S256 : Shape := ⟨1, ![256]⟩
abbrev S1x1x256 : Shape := ⟨3, ![1, 1, 256]⟩
abbrev S256x1024 : Shape := ⟨2, ![256, 1024]⟩
abbrev S2x16384x4x256 : Shape := ⟨4, ![2, 16384, 4, 256]⟩
abbrev S2x16384x32 : Shape := ⟨3, ![2, 16384, 32]⟩
abbrev S1x16384x32 : Shape := ⟨3, ![1, 16384, 32]⟩
abbrev S2x16384x1x64 : Shape := ⟨4, ![2, 16384, 1, 64]⟩
abbrev S2x16384x4x16 : Shape := ⟨4, ![2, 16384, 4, 16]⟩
abbrev S2x16384x4x144 : Shape := ⟨4, ![2, 16384, 4, 144]⟩
abbrev S2x16384x112 : Shape := ⟨3, ![2, 16384, 112]⟩
abbrev S2x16384x128 : Shape := ⟨3, ![2, 16384, 128]⟩
abbrev S2x4x256x16384 : Shape := ⟨4, ![2, 4, 256, 16384]⟩
abbrev S2x4x16384x256 : Shape := ⟨4, ![2, 4, 16384, 256]⟩
abbrev S2x4x144x16384 : Shape := ⟨4, ![2, 4, 144, 16384]⟩

abbrev nBuf : Space → Nat
  | .hbm => 179
  | .vmem => 0
  | .smem => 0
  | _ => 0

abbrev hbmTy0_0 (i : Nat) : BufTy := match i % 128 with
  | 0 => ⟨S2x16384x1024, .f32⟩
  | 1 => ⟨S2x6144, .f32⟩
  | 2 => ⟨S1x1024, .f32⟩
  | 3 => ⟨S1x1024x2768, .f32⟩
  | 4 => ⟨S1x384, .f32⟩
  | 5 => ⟨S1x384x768, .f32⟩
  | 6 => ⟨S1x256, .f32⟩
  | 7 => ⟨S1x256x1024, .f32⟩
  | 8 => ⟨S2x1x6144, .f32⟩
  | 9 => ⟨S2x1x1024, .f32⟩
  | 10 => ⟨S2x1x1024, .f32⟩
  | 11 => ⟨S2x1x1024, .f32⟩
  | 12 => ⟨S2x1x1024, .f32⟩
  | 13 => ⟨S2x1x1024, .f32⟩
  | 14 => ⟨S2x1x1024, .f32⟩
  | 15 => ⟨S1024, .f32⟩
  | 16 => ⟨S2x16384x1024, .f32⟩
  | 17 => ⟨S_, .f32⟩
  | 18 => ⟨S2x16384, .f32⟩
  | 19 => ⟨S2x16384x1, .f32⟩
  | 20 => ⟨S_, .f32⟩
  | 21 => ⟨S2x16384x1, .f32⟩
  | 22 => ⟨S2x16384x1, .f32⟩
  | 23 => ⟨S_, .f32⟩
  | 24 => ⟨S2x16384x1, .f32⟩
  | 25 => ⟨S2x16384x1, .f32⟩
  | 26 => ⟨S2x16384x1, .f32⟩
  | 27 => ⟨S2x16384x1024, .f32⟩
  | 28 => ⟨S2x16384x1024, .f32⟩
  | 29 => ⟨S1x1x1024, .f32⟩
  | 30 => ⟨S2x16384x1024, .f32⟩
  | 31 => ⟨S2x16384x1024, .f32⟩
  | 32 => ⟨S_, .f32⟩
  | 33 => ⟨S2x1x1024, .f32⟩
  | 34 => ⟨S2x1x1024, .f32⟩
  | 35 => ⟨S2x16384x1024, .f32⟩
  | 36 => ⟨S2x16384x1024, .f32⟩
  | 37 => ⟨S2x16384x1024, .f32⟩
  | 38 => ⟨S2x16384x1024, .f32⟩
  | 39 => ⟨S1024x2768, .f32⟩
  | 40 => ⟨S2x16384x2768, .f32⟩
  | 41 => ⟨S2x16384x384, .f32⟩
  | 42 => ⟨S2x16384x256, .f32⟩
  | 43 => ⟨S2x16384x64, .f32⟩
  | 44 => ⟨S2x16384x1536, .f32⟩
  | 45 => ⟨S2x16384x512, .f32⟩
  | 46 => ⟨S2x16384x16, .f32⟩
  | 47 => ⟨S32, .f32⟩
  | 48 => ⟨S_, .f32⟩
  | 49 => ⟨S32, .f32⟩
  | 50 => ⟨S32, .f32⟩
  | 51 => ⟨S_, .f32⟩
  | 52 => ⟨S32, .f32⟩
  | 53 => ⟨S32, .f32⟩
  | 54 => ⟨S_, .f32⟩
  | 55 => ⟨S32, .f32⟩
  | 56 => ⟨S32, .f32⟩
  | 57 => ⟨S_, .f32⟩
  | 58 => ⟨S32, .f32⟩
  | 59 => ⟨S32, .f32⟩
  | 60 => ⟨S_, .f32⟩
  | 61 => ⟨S32, .f32⟩
  | 62 => ⟨S32, .f32⟩
  | 63 => ⟨S16384, .f32⟩
  | 64 => ⟨S16384x1, .f32⟩
  | 65 => ⟨S1x32, .f32⟩
  | 66 => ⟨S16384x32, .f32⟩
  | 67 => ⟨S16384x32, .f32⟩
  | 68 => ⟨S16384x32, .f32⟩
  | 69 => ⟨S16384x32, .f32⟩
  | 70 => ⟨S16384x32, .f32⟩
  | 71 => ⟨S_, .f32⟩
  | 72 => ⟨S_, .f32⟩
  | 73 => ⟨S384, .f32⟩
  | 74 => ⟨S2x16384x384, .f32⟩
  | 75 => ⟨S_, .f32⟩
  | 76 => ⟨S2x16384, .f32⟩
  | 77 => ⟨S2x16384x1, .f32⟩
  | 78 => ⟨S_, .f32⟩
  | 79 => ⟨S2x16384x1, .f32⟩
  | 80 => ⟨S2x16384x1, .f32⟩
  | 81 => ⟨S_, .f32⟩
  | 82 => ⟨S2x16384x1, .f32⟩
  | 83 => ⟨S2x16384x1, .f32⟩
  | 84 => ⟨S2x16384x1, .f32⟩
  | 85 => ⟨S2x16384x384, .f32⟩
  | 86 => ⟨S2x16384x384, .f32⟩
  | 87 => ⟨S1x1x384, .f32⟩
  | 88 => ⟨S2x16384x384, .f32⟩
  | 89 => ⟨S2x16384x384, .f32⟩
  | 90 => ⟨S384x768, .f32⟩
  | 91 => ⟨S2x16384x768, .f32⟩
  | 92 => ⟨S2x16384x4x192, .f32⟩
  | 93 => ⟨S2x16384x4x128, .f32⟩
  | 94 => ⟨S2x16384x4x128, .f32⟩
  | 95 => ⟨S2x16384x4x128, .f32⟩
  | 96 => ⟨S2x16384x4x64, .f32⟩
  | 97 => ⟨S16384x1x32, .f32⟩
  | 98 => ⟨S16384x1x32, .f32⟩
  | 99 => ⟨S2x16384x4x32, .f32⟩
  | 100 => ⟨S2x16384x4x32, .f32⟩
  | 101 => ⟨S1x16384x1x32, .f32⟩
  | 102 => ⟨S2x16384x4x32, .f32⟩
  | 103 => ⟨S2x16384x4x32, .f32⟩
  | 104 => ⟨S1x16384x1x32, .f32⟩
  | 105 => ⟨S2x16384x4x32, .f32⟩
  | 106 => ⟨S2x16384x4x32, .f32⟩
  | 107 => ⟨S2x16384x4x32, .f32⟩
  | 108 => ⟨S1x16384x1x32, .f32⟩
  | 109 => ⟨S2x16384x4x32, .f32⟩
  | 110 => ⟨S2x16384x4x32, .f32⟩
  | 111 => ⟨S1x16384x1x32, .f32⟩
  | 112 => ⟨S2x16384x4x32, .f32⟩
  | 113 => ⟨S2x16384x4x32, .f32⟩
  | 114 => ⟨S2x16384x4x32, .f32⟩
  | 115 => ⟨S2x16384x4x64, .f32⟩
  | 116 => ⟨S2x16384x4x64, .f32⟩
  | 117 => ⟨S2x16384x4x64, .f32⟩
  | 118 => ⟨S256, .f32⟩
  | 119 => ⟨S2x16384x256, .f32⟩
  | 120 => ⟨S_, .f32⟩
  | 121 => ⟨S2x16384, .f32⟩
  | 122 => ⟨S2x16384x1, .f32⟩
  | 123 => ⟨S_, .f32⟩
  | 124 => ⟨S2x16384x1, .f32⟩
  | 125 => ⟨S2x16384x1, .f32⟩
  | 126 => ⟨S_, .f32⟩
  | 127 => ⟨S2x16384x1, .f32⟩
  | _ => ⟨S2x16384x1024, .f32⟩

abbrev hbmTy0_1 (i : Nat) : BufTy := match i % 128 with
  | 0 => ⟨S2x16384x1, .f32⟩
  | 1 => ⟨S2x16384x1, .f32⟩
  | 2 => ⟨S2x16384x256, .f32⟩
  | 3 => ⟨S2x16384x256, .f32⟩
  | 4 => ⟨S1x1x256, .f32⟩
  | 5 => ⟨S2x16384x256, .f32⟩
  | 6 => ⟨S2x16384x256, .f32⟩
  | 7 => ⟨S256x1024, .f32⟩
  | 8 => ⟨S2x16384x1024, .f32⟩
  | 9 => ⟨S2x16384x4x256, .f32⟩
  | 10 => ⟨S2x16384x4x128, .f32⟩
  | 11 => ⟨S2x16384x4x128, .f32⟩
  | 12 => ⟨S2x16384x32, .f32⟩
  | 13 => ⟨S2x16384x32, .f32⟩
  | 14 => ⟨S1x16384x32, .f32⟩
  | 15 => ⟨S2x16384x32, .f32⟩
  | 16 => ⟨S2x16384x32, .f32⟩
  | 17 => ⟨S1x16384x32, .f32⟩
  | 18 => ⟨S2x16384x32, .f32⟩
  | 19 => ⟨S2x16384x32, .f32⟩
  | 20 => ⟨S2x16384x32, .f32⟩
  | 21 => ⟨S1x16384x32, .f32⟩
  | 22 => ⟨S2x16384x32, .f32⟩
  | 23 => ⟨S2x16384x32, .f32⟩
  | 24 => ⟨S1x16384x32, .f32⟩
  | 25 => ⟨S2x16384x32, .f32⟩
  | 26 => ⟨S2x16384x32, .f32⟩
  | 27 => ⟨S2x16384x32, .f32⟩
  | 28 => ⟨S2x16384x64, .f32⟩
  | 29 => ⟨S2x16384x1x64, .f32⟩
  | 30 => ⟨S2x16384x4x64, .f32⟩
  | 31 => ⟨S_, .f32⟩
  | 32 => ⟨S2x16384x4x64, .f32⟩
  | 33 => ⟨S2x16384x4x256, .f32⟩
  | 34 => ⟨S_, .f32⟩
  | 35 => ⟨S_, .f32⟩
  | 36 => ⟨S2x16384x4x256, .f32⟩
  | 37 => ⟨S2x16384x4x256, .f32⟩
  | 38 => ⟨S2x16384x4x256, .f32⟩
  | 39 => ⟨S_, .f32⟩
  | 40 => ⟨S2x16384x4x16, .f32⟩
  | 41 => ⟨S2x16384x4x144, .f32⟩
  | 42 => ⟨S_, .f32⟩
  | 43 => ⟨S2x16384x112, .f32⟩
  | 44 => ⟨S2x16384x128, .f32⟩
  | 45 => ⟨S2x4x256x16384, .f32⟩
  | 46 => ⟨S2x4x256x16384, .bf16⟩
  | 47 => ⟨S2x4x16384x256, .f32⟩
  | 48 => ⟨S2x4x16384x256, .bf16⟩
  | 49 => ⟨S2x4x144x16384, .f32⟩
  | 50 => ⟨S2x4x144x16384, .bf16⟩
  | _ => ⟨S2x16384x1024, .f32⟩

abbrev hbmTy (i : Nat) : BufTy := match i / 128 with
  | 0 => hbmTy0_0 i
  | 1 => hbmTy0_1 i
  | _ => ⟨S2x16384x1024, .f32⟩

abbrev bufTy : (tb : Table) → Fin (tcTables nBuf tb) → BufTy
  | .hbm, ⟨i, _⟩ => hbmTy i
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_3 : Ref sig .tc := ⟨.hbm, 48, rfl⟩
abbrev main_v36 : Ref sig .tc := ⟨.hbm, 49, rfl⟩
abbrev main_v37 : Ref sig .tc := ⟨.hbm, 50, rfl⟩
abbrev main_cst_4 : Ref sig .tc := ⟨.hbm, 51, rfl⟩
abbrev main_v38 : Ref sig .tc := ⟨.hbm, 52, rfl⟩
abbrev main_v39 : Ref sig .tc := ⟨.hbm, 53, rfl⟩
abbrev main_cst_5 : Ref sig .tc := ⟨.hbm, 54, rfl⟩
abbrev main_v40 : Ref sig .tc := ⟨.hbm, 55, rfl⟩
abbrev main_v41 : Ref sig .tc := ⟨.hbm, 56, rfl⟩
abbrev main_cst_6 : Ref sig .tc := ⟨.hbm, 57, rfl⟩
abbrev main_v42 : Ref sig .tc := ⟨.hbm, 58, rfl⟩
abbrev main_v43 : Ref sig .tc := ⟨.hbm, 59, rfl⟩
abbrev main_cst_7 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_8 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_9 : Ref sig .tc := ⟨.hbm, 75, rfl⟩
abbrev main_v57 : Ref sig .tc := ⟨.hbm, 76, rfl⟩
abbrev main_v58 : Ref sig .tc := ⟨.hbm, 77, rfl⟩
abbrev main_cst_10 : Ref sig .tc := ⟨.hbm, 78, rfl⟩
abbrev main_v59 : Ref sig .tc := ⟨.hbm, 79, rfl⟩
abbrev main_v60 : Ref sig .tc := ⟨.hbm, 80, rfl⟩
abbrev main_cst_11 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_cst_12 : Ref sig .tc := ⟨.hbm, 120, rfl⟩
abbrev main_v99 : Ref sig .tc := ⟨.hbm, 121, rfl⟩
abbrev main_v100 : Ref sig .tc := ⟨.hbm, 122, rfl⟩
abbrev main_cst_13 : Ref sig .tc := ⟨.hbm, 123, rfl⟩
abbrev main_v101 : Ref sig .tc := ⟨.hbm, 124, rfl⟩
abbrev main_v102 : Ref sig .tc := ⟨.hbm, 125, rfl⟩
abbrev main_cst_14 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_v130 : Ref sig .tc := ⟨.hbm, 154, rfl⟩
abbrev main_v131 : Ref sig .tc := ⟨.hbm, 155, rfl⟩
abbrev main_v132 : Ref sig .tc := ⟨.hbm, 156, rfl⟩
abbrev main_v133 : Ref sig .tc := ⟨.hbm, 157, rfl⟩
abbrev main_v134 : Ref sig .tc := ⟨.hbm, 158, rfl⟩
abbrev main_cst_15 : Ref sig .tc := ⟨.hbm, 159, rfl⟩
abbrev main_v135 : Ref sig .tc := ⟨.hbm, 160, rfl⟩
abbrev main_v136 : Ref sig .tc := ⟨.hbm, 161, rfl⟩
abbrev main_cst_16 : Ref sig .tc := ⟨.hbm, 162, rfl⟩
abbrev main_v137 : Ref sig .tc := ⟨.hbm, 163, rfl⟩
abbrev main_v138 : Ref sig .tc := ⟨.hbm, 164, rfl⟩
abbrev main_v139 : Ref sig .tc := ⟨.hbm, 165, rfl⟩
abbrev main_v140 : Ref sig .tc := ⟨.hbm, 166, rfl⟩
abbrev main_cst_17 : Ref sig .tc := ⟨.hbm, 167, rfl⟩
abbrev main_v141 : Ref sig .tc := ⟨.hbm, 168, rfl⟩
abbrev main_v142 : Ref sig .tc := ⟨.hbm, 169, rfl⟩
abbrev main_cst_18 : Ref sig .tc := ⟨.hbm, 170, rfl⟩
abbrev main_v143 : Ref sig .tc := ⟨.hbm, 171, rfl⟩
abbrev main_v144 : Ref sig .tc := ⟨.hbm, 172, rfl⟩
abbrev main_v145 : Ref sig .tc := ⟨.hbm, 173, rfl⟩
abbrev main_v146 : Ref sig .tc := ⟨.hbm, 174, rfl⟩
abbrev main_v147 : Ref sig .tc := ⟨.hbm, 175, rfl⟩
abbrev main_v148 : Ref sig .tc := ⟨.hbm, 176, rfl⟩
abbrev main_v149 : Ref sig .tc := ⟨.hbm, 177, rfl⟩
abbrev main_v150 : Ref sig .tc := ⟨.hbm, 178, rfl⟩

abbrev nD : Nat := 1
abbrev τ : Topo := Topo.v7x

variable {F : FTy → Type} [FloatOps F]
-- ==== Proof.BodyBits.lean ====
module

public import proofs.«01_k».proof.Proof.TripBits

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ
local notation "𝒱₀" => Variants.none

variable (c : Dev nD) (i : grid0.Coords)
  (arg3 : Memref sig .tc .vmem S1x1x256x1024 .f32) (harg3 : arg3.IsWhole)
  (arg4 : Memref sig .tc .vmem S1x1x16384x256 .bf16) (harg4 : arg4.IsWhole)
  (arg5 : Memref sig .tc .vmem S1x1x144x16384 .bf16) (harg5 : arg5.IsWhole)
  (arg6 : Memref sig .tc .vmem S1x1024x128 .bf16) (harg6 : arg6.IsWhole)
  (arg7 : Memref sig .tc .vmem S2x1024x1024 .f32) (harg7 : arg7.IsWhole)
  (arg8 : Memref sig .tc .vmem S2x1024x1024 .bf16) (harg8 : arg8.IsWhole)
  (arg9 : Memref sig .tc .vmem S144x1024 .f32) (harg9 : arg9.IsWhole)
  (arg10 : Memref sig .tc .vmem S1x1024 .f32) (harg10 : arg10.IsWhole)
  (arg11 : Memref sig .tc .vmem S2x1x1024 .f32) (harg11 : arg11.IsWhole)
  (arg12 : Memref sig .tc .vmem S2x1x1024 .f32) (harg12 : arg12.IsWhole)
  (v1 : FVec F S256x1024 .bf16) (w : BitVec 32)

abbrev R3 : Rect S1x1x256x1024 := Rect.unit (s := S1x1x256x1024) ![0, 0, 0, 0] S1x1x256x1024.size inb_S1x1x256x1024_S1x1x256x1024_0_0_0_0
abbrev R6 : Rect S1x1024x128 := Rect.unit (s := S1x1024x128) ![0, 0, 0] S1x1024x128.size inb_S1x1024x128_S1x1024x128_0_0_0

/-- The query block. -/
abbrev qBlk (X3 : BufOf (F := F) c arg3) : Vec F S1x1x256x1024 .f32 := arg3.view.readAt (Elt F) R3.toLoadRect X3

/-- What the body stores into the output block. -/
def tileOut (X3 : BufOf (F := F) c arg3) (X4 : BufOf (F := F) c arg4) (X5 : BufOf (F := F) c arg5) : Vec F S1x1024x128 .bf16 :=
  finish (vBlk c arg5 X5 ![0, 0, 0, 14336] inb_S1x1x144x16384_S1x1x144x1024_0_0_0_14336)
    (vBlk c arg5 X5 ![0, 0, 0, 15360] inb_S1x1x144x16384_S1x1x144x1024_0_0_0_15360)
    (carriedAt c arg4 arg5 (k0_pay13 (qBlk c arg3 X3)) X4 X5
      (start (qBlk c arg3 X3) (kBlk c arg4 X4 ![0, 0, 0, 0] inb_S1x1x16384x256_S1x1x1024x256_0_0_0_0)
        (kBlk c arg4 X4 ![0, 0, 1024, 0] inb_S1x1x16384x256_S1x1x1024x256_0_0_1024_0)) k0_t1_loop.trips)

theorem body_sound (X3 : BufOf (F := F) c arg3) (X4 : BufOf (F := F) c arg4) (X5 : BufOf (F := F) c arg5) (K : PUnit → sProp 𝕄) :
    iprop(Pt c arg3 X3 ∗ Pt c arg4 X4 ∗ Pt c arg5 X5 ∗ (∃ f, Pt c arg6 f) ∗ (∃ f, Pt c arg7 f) ∗ (∃ f, Pt c arg8 f) ∗ (∃ f, Pt c arg9 f)
        ∗ (∃ f, Pt c arg10 f) ∗ (∃ f, Pt c arg11 f) ∗ (∃ f, Pt c arg12 f)
        ∗ (iprop(Pt c arg3 X3 ∗ Pt c arg4 X4 ∗ Pt c arg5 X5
            ∗ (∃ f, Pt c arg6 (arg6.view.writes (Elt F) f [⟨R6, tileOut c arg3 arg4 arg5 X3 X4 X5⟩])) ∗ (∃ f, Pt c arg7 f) ∗ (∃ f, Pt c arg8 f)
            ∗ (∃ f, Pt c arg9 f) ∗ (∃ f, Pt c arg10 f) ∗ (∃ f, Pt c arg11 f) ∗ (∃ f, Pt c arg12 f)) -∗ K ⟨⟩))
      ⊢ wp frame (wpE (defs₀ (F := F)) 𝒱₀ (c : Thread nD τ) none) Set.univ
        (cc0_attn (F := F) i arg3 harg3 arg4 harg4 arg5 harg5 arg6 harg6 arg7 harg7 arg8 harg8 arg9 harg9 arg10 harg10 arg11 harg11 arg12 harg12) K := by
  simp only [cc0_attn_eq_skeleton]; unfold cc0_attn_skel
  iintro ⟨H3, H4, H5, ⟨%f6, H6⟩, ⟨%f7, H7⟩, ⟨%f8, H8⟩, ⟨%f9, H9⟩, ⟨%f10, H10⟩, ⟨%f11, H11⟩, ⟨%f12, H12⟩, HK⟩
  sl_exec
  sl_for (fun k _ => Inv c arg4 arg5 arg7 arg8 arg9 arg10 arg11 arg12 X4 X5 (carriedAt c arg4 arg5 (k0_pay13 (qBlk c arg3 X3)) X4 X5
      (start (qBlk c arg3 X3) (kBlk c arg4 X4 ![0, 0, 0, 0] inb_S1x1x16384x256_S1x1x1024x256_0_0_0_0)
        (kBlk c arg4 X4 ![0, 0, 1024, 0] inb_S1x1x16384x256_S1x1x1024x256_0_0_1024_0)) k)) $$ [H4 H5 H7 H8 H9 H10 H11 H12]
  case region =>
    intro k _
    rw [carriedAt_succ]
    delta body_sound.sl.prog.body_1
    exact trip_sound c i arg3 harg3 arg4 harg4 arg5 harg5 arg6 harg6 arg7 harg7 arg8 harg8 arg9 harg9 arg10 harg10 arg11 harg11 arg12 harg12 _ _ _ k X4 X5 _
  · unfold Inv
    isplitl [H4]; · iexact H4
    isplitl [H5]; · iexact H5
    iexists _, _, _, _, _, _
    isplitl [H7]; · iexact H7
    isplitl [H8]; · iexact H8
    isplitl [H9]; · iexact H9
    isplitl [H10]; · iexact H10
    isplitl [H11]; · iexact H11
    isplitl [H12]; · iexact H12
    ipureintro
    constructor
    all_goals
      repeat first
        | delta body_sound.sl.H10_1 | delta body_sound.sl.H10_2 | delta body_sound.sl.H11_1 | delta body_sound.sl.H12_1
        | delta body_sound.sl.H12_2 | delta body_sound.sl.H7_1 | delta body_sound.sl.H7_2 | delta body_sound.sl.H8_1
        | delta body_sound.sl.H9_1 | delta body_sound.sl.H9_1_1 | delta body_sound.sl.H9_2 | delta body_sound.sl.r
        | delta body_sound.sl.r_1 | delta body_sound.sl.r_2 | delta body_sound.sl.r_3 | delta body_sound.sl.v102
        | delta body_sound.sl.v104 | delta body_sound.sl.v107 | delta body_sound.sl.v114 | delta body_sound.sl.v26
        | delta body_sound.sl.v27 | delta body_sound.sl.v38 | delta body_sound.sl.v57 | delta body_sound.sl.v86
        | delta body_sound.sl.v91
      simp (disch := decide) only [View.readCov, read_hit, read_skip, View.writes_nil, carriedAt, start]
      try rfl
  · iintro %_ HI
    unfold Inv
    icases HI with ⟨H4, H5, %g7, %g8, %g9, %g10, %g11, %g12, H7, H8, H9, H10, H11, H12, %hσ⟩
    sl_exec
    sl_step
    iapply HK
    isplitl [H3]; · iexact H3
    isplitl [H4]; · iexact H4
    isplitl [H5]; · iexact H5
    isplitl [H6]
    · iexists f6
      rw [show tileOut c arg3 arg4 arg5 X3 X4 X5 = k0_pay1 (body_sound.sl.r_3 c arg5 arg7 arg8 arg9 arg10 arg11 arg12 X5 g7 g8 g9 g10 g11 g12) from ?_]
      · iexact H6
      obtain ⟨h1, h2, h3, h4, h5, h6⟩ := hσ
      repeat first
        | delta body_sound.sl.H10_1 | delta body_sound.sl.H10_2 | delta body_sound.sl.H11_1 | delta body_sound.sl.H12_1
        | delta body_sound.sl.H12_2 | delta body_sound.sl.H7_1 | delta body_sound.sl.H7_2 | delta body_sound.sl.H8_1
        | delta body_sound.sl.H9_1 | delta body_sound.sl.H9_1_1 | delta body_sound.sl.H9_2 | delta body_sound.sl.r
        | delta body_sound.sl.r_1 | delta body_sound.sl.r_2 | delta body_sound.sl.r_3 | delta body_sound.sl.v102
        | delta body_sound.sl.v104 | delta body_sound.sl.v107 | delta body_sound.sl.v114 | delta body_sound.sl.v26
        | delta body_sound.sl.v27 | delta body_sound.sl.v38 | delta body_sound.sl.v57 | delta body_sound.sl.v86
        | delta body_sound.sl.v91
      simp (disch := decide) only [View.readCov, read_hit, read_skip, View.writes_nil, tileOut, finish, h1, h2, h3, h4, h5, h6]
      try rfl
    isplitl [H7]; · iexists _; iexact H7
    isplitl [H8]; · iexists _; iexact H8
    isplitl [H9]; · iexists _; iexact H9
    isplitl [H10]; · iexists _; iexact H10
    isplitl [H11]; · iexists _; iexact H11
    iexists _; iexact H12

end Cert.Kernel.Body
end
-- ==== Proof.TripIdeal.lean ====
module

public import proofs.«01_k».proof.Proof.Gen.KernelIdeal.Frame
public import proofs.«01_k».proof.Proof.Gen.KernelIdeal.Loops

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ
local notation "𝒱₀" => Variants.none

variable (c : Dev nD) (i : grid0.Coords)
  (arg3 : Memref sig .tc .vmem S1x1x256x1024 .f32) (harg3 : arg3.IsWhole)
  (arg4 : Memref sig .tc .vmem S1x1x16384x256 .bf16) (harg4 : arg4.IsWhole)
  (arg5 : Memref sig .tc .vmem S1x1x144x16384 .bf16) (harg5 : arg5.IsWhole)
  (arg6 : Memref sig .tc .vmem S1x1024x128 .bf16) (harg6 : arg6.IsWhole)
  (arg7 : Memref sig .tc .vmem S2x1024x1024 .f32) (harg7 : arg7.IsWhole)
  (arg8 : Memref sig .tc .vmem S2x1024x1024 .bf16) (harg8 : arg8.IsWhole)
  (arg9 : Memref sig .tc .vmem S144x1024 .f32) (harg9 : arg9.IsWhole)
  (arg10 : Memref sig .tc .vmem S1x1024 .f32) (harg10 : arg10.IsWhole)
  (arg11 : Memref sig .tc .vmem S2x1x1024 .f32) (harg11 : arg11.IsWhole)
  (arg12 : Memref sig .tc .vmem S2x1x1024 .f32) (harg12 : arg12.IsWhole)
  (v1 : FVec F S256x1024 .bf16) (w : FVec F S1x1024 .f32) (w' : Vec F S1x1x1024 .f32)

/-- The contents of the whole buffer behind a memref, on core `c`. -/
abbrev BufOf {sp : Space} {S : Shape} {e : EltTy} (M : Memref sig .tc sp S e) : Type := Buf (Elt F) (M.view.loc (c : Thread nD τ))
/-- The whole buffer behind a memref holds `f`. -/
abbrev Pt {sp : Space} {S : Shape} {e : EltTy} (M : Memref sig .tc sp S e) (f : BufOf (F := F) c M) : sProp 𝕄 :=
  M.view.loc (c : Thread nD τ) ↦[M.view.set]{fullShare} f

theorem cond1_true (k : Fin k0_t1_loop.trips) : k0_cond1 k = 1#1 := by
  revert k; decide

/-! ## The values a tile's body carries -/

/-- What the buffers hold before a trip of the loop: slot 1 of the scores and of their column maxima, the running
    maximum, slot 0 of the rescaling factors and of the weights, the accumulator. -/
structure Carried (F : FTy → Type) where
  s1 : Vec F S1x1024x1024 .f32
  t1 : Vec F S1x1x1024 .f32
  m : Vec F S1x1024 .f32
  a0 : Vec F S1x1x1024 .f32
  p0 : Vec F S1x1024x1024 .bf16
  acc : Vec F S144x1024 .f32

/-- Before the first trip: the scores of key blocks 0 and 1 are taken and block 0 is through its softmax step. -/
def start (v0 : Vec F S1x1x256x1024 .f32) (kA kB : Vec F S1x1x1024x256 .bf16) : Carried F where
  s1 := k0_pay24 (k0_pay13 v0) kB
  t1 := k0_pay26 (k0_pay25 (k0_pay13 v0) kB)
  m := k0_pay21 k0_pay14 (k0_pay18 v0 kA)
  a0 := k0_pay20 k0_pay14 (k0_pay18 v0 kA)
  p0 := k0_pay22 k0_pay14 (k0_pay18 v0 kA) (k0_pay17 v0 kA)
  acc := k0_pay15

/-- One trip: the softmax step and the value product of two key blocks, the scores of the two blocks that follow. -/
def next (v1 : FVec F S256x1024 .bf16) (kA kB : Vec F S1x1x1024x256 .bf16) (vA vB : Vec F S1x1x144x1024 .bf16)
    (σ : Carried F) : Carried F where
  s1 := k0_pay33 v1 kB
  t1 := k0_pay34 v1 kB
  m := k0_pay4 (k0_pay10 σ.m σ.t1) (k0_pay30 v1 kA)
  a0 := k0_pay3 (k0_pay10 σ.m σ.t1) (k0_pay30 v1 kA)
  p0 := k0_pay5 (k0_pay10 σ.m σ.t1) (k0_pay30 v1 kA) (k0_pay29 v1 kA)
  acc := k0_pay31 (k0_pay6 vB) (k0_pay7 (k0_pay9 σ.m σ.t1)) (k0_pay27 (k0_pay12 vA) σ.a0 σ.acc σ.p0)
    (k0_pay11 σ.m σ.t1 σ.s1)

/-- After the last trip: the last block's softmax step, the last two value products, the division. -/
def finish (vA vB : Vec F S1x1x144x1024 .bf16) (σ : Carried F) : Vec F S1x1024x128 .bf16 :=
  k0_pay1 (k0_pay42 (k0_pay41 vB (k0_pay36 σ.m σ.t1) (k0_pay40 (k0_pay39 vA) σ.a0 σ.acc σ.p0) (k0_pay38 σ.m σ.t1 σ.s1)))

abbrev R7_0 : Rect S2x1024x1024 := Rect.unit (s := S2x1024x1024) ![0, 0, 0] S1x1024x1024.size inb_S2x1024x1024_S1x1024x1024_0_0_0
abbrev R7_1 : Rect S2x1024x1024 := Rect.unit (s := S2x1024x1024) ![1, 0, 0] S1x1024x1024.size inb_S2x1024x1024_S1x1024x1024_1_0_0
abbrev R9 : Rect S144x1024 := Rect.unit (s := S144x1024) ![0, 0] S144x1024.size inb_S144x1024_S144x1024_0_0
abbrev R10 : Rect S1x1024 := Rect.unit (s := S1x1024) ![0, 0] S1x1024.size inb_S1x1024_S1x1024_0_0
abbrev R11_0 : Rect S2x1x1024 := Rect.unit (s := S2x1x1024) ![0, 0, 0] S1x1x1024.size inb_S2x1x1024_S1x1x1024_0_0_0
abbrev R11_1 : Rect S2x1x1024 := Rect.unit (s := S2x1x1024) ![1, 0, 0] S1x1x1024.size inb_S2x1x1024_S1x1x1024_1_0_0

/-- The buffers hold the carried values `σ` in the slots the next trip reads. -/
structure Holds (σ : Carried F) (f7 : BufOf (F := F) c arg7) (f8 : BufOf (F := F) c arg8)
    (f9 : BufOf (F := F) c arg9) (f10 : BufOf (F := F) c arg10) (f11 : BufOf (F := F) c arg11)
    (f12 : BufOf (F := F) c arg12) : Prop where
  s1 : arg7.view.readAt (Elt F) R7_1.toLoadRect f7 = σ.s1
  t1 : arg12.view.readAt (Elt F) R11_1.toLoadRect f12 = σ.t1
  m : arg10.view.readAt (Elt F) R10.toLoadRect f10 = σ.m
  a0 : arg11.view.readAt (Elt F) R11_0.toLoadRect f11 = σ.a0
  p0 : arg8.view.readAt (Elt F) R7_0.toLoadRect f8 = σ.p0
  acc : arg9.view.readAt (Elt F) R9.toLoadRect f9 = σ.acc

theorem read_hit {sp : Space} {S : Shape} {e : EltTy} (v : View sig .tc sp S e) (f : v.ty.Contents (Elt F)) (r : Rect S)
    (w : r.shape.Idx → Elt F e) (L : List (View.Piece (Elt F) S e)) :
    v.readAt (Elt F) r.toLoadRect (v.writes (Elt F) f (⟨r, w⟩ :: L)) = w :=
  View.read_write_univ _ _

theorem read_skip {sp : Space} {S : Shape} {e : EltTy} (v : View sig .tc sp S e) (f : v.ty.Contents (Elt F)) (r r' : Rect S)
    (w : r.shape.Idx → Elt F e) (L : List (View.Piece (Elt F) S e)) (h : LoadRect.disj r r'.toLoadRect = true) :
    v.readAt (Elt F) r'.toLoadRect (v.writes (Elt F) f (⟨r, w⟩ :: L)) = v.readAt (Elt F) r'.toLoadRect (v.writes (Elt F) f L) := by
  funext j
  rw [View.readAt_apply, View.readAt_apply, View.writes_cons]
  exact View.read_slice_write_of_not_mem _ _ _ _ (by rw [Rect.map_emb_univ]; exact LoadRect.idx_not_mem_of_disj h j)

/-- The key block and the value block at a load's rectangle. -/
abbrev kBlk (X4 : BufOf (F := F) c arg4) (off : Fin 4 → ℕ) (h : ∀ a, off a + S1x1x1024x256.size a ≤ S1x1x16384x256.size a) :
    Vec F S1x1x1024x256 .bf16 :=
  arg4.view.readAt (Elt F) (Rect.unit (s := S1x1x16384x256) off S1x1x1024x256.size h).toLoadRect X4
abbrev vBlk (X5 : BufOf (F := F) c arg5) (off : Fin 4 → ℕ) (h : ∀ a, off a + S1x1x144x1024.size a ≤ S1x1x144x16384.size a) :
    Vec F S1x1x144x1024 .bf16 :=
  arg5.view.readAt (Elt F) (Rect.unit (s := S1x1x144x16384) off S1x1x144x1024.size h).toLoadRect X5

/-- Trip `k`'s step over the key and value blocks it loads. -/
def trip (X4 : BufOf (F := F) c arg4) (X5 : BufOf (F := F) c arg5) (k : Fin k0_t1_loop.trips) (σ : Carried F) : Carried F :=
  next v1 (kBlk c arg4 X4 (k0_off2 k) (k0_off2_inb k)) (kBlk c arg4 X4 (k0_off4 k) (k0_off4_inb k (cond1_true k)))
    (vBlk c arg5 X5 (k0_off1 k) (k0_off1_inb k)) (vBlk c arg5 X5 (k0_off3 k) (k0_off3_inb k (cond1_true k))) σ

/-- The loop's invariant: the key and value blocks, and the scratch holding `σ`. -/
def Inv (X4 : BufOf (F := F) c arg4) (X5 : BufOf (F := F) c arg5) (σ : Carried F) : sProp 𝕄 :=
  iprop(Pt c arg4 X4 ∗ Pt c arg5 X5 ∗ ∃ f7 f8 f9 f10 f11 f12, Pt c arg7 f7 ∗ Pt c arg8 f8 ∗ Pt c arg9 f9 ∗ Pt c arg10 f10
    ∗ Pt c arg11 f11 ∗ Pt c arg12 f12 ∗ ⌜Holds c arg7 arg8 arg9 arg10 arg11 arg12 σ f7 f8 f9 f10 f11 f12⌝)

theorem trip_sound (k : Fin k0_t1_loop.trips) (X4 : BufOf (F := F) c arg4) (X5 : BufOf (F := F) c arg5) (σ : Carried F) :
   Inv c arg4 arg5 arg7 arg8 arg9 arg10 arg11 arg12 X4 X5 σ
     ⊢ wp frame (wpE (defs₀ (F := F)) 𝒱₀ (c : Thread nD τ) none) Set.univ
        (k0_t1_body (F := F) i arg3 harg3 arg4 harg4 arg5 harg5 arg6 harg6 arg7 harg7 arg8 harg8 arg9 harg9 arg10 harg10 arg11 harg11 arg12 harg12 v1 w w' k ())
        (fun _ => Inv c arg4 arg5 arg7 arg8 arg9 arg10 arg11 arg12 X4 X5 (trip c arg4 arg5 v1 X4 X5 k σ)) := by
  have hc := cond1_true k
  unfold Inv
  iintro ⟨H4, H5, %f7, %f8, %f9, %f10, %f11, %f12, H7, H8, H9, H10, H11, H12, %hσ⟩
  sl_unfold [k0_t1_body]
  sl_exec_parts
  sl_step
  isplitl [H4]; · iexact H4
  isplitl [H5]; · iexact H5
  iexists _, _, _, _, _, _
  isplitl [H7]; · iexact H7
  isplitl [H8]; · iexact H8
  isplitl [H9]; · iexact H9
  isplitl [H10]; · iexact H10
  isplitl [H11]; · iexact H11
  isplitl [H12]; · iexact H12
  ipureintro
  obtain ⟨h1, h2, h3, h4, h5, h6⟩ := hσ
  constructor
  all_goals
    repeat first
        | delta trip_sound.sl.H7_1 | delta trip_sound.sl.H8_1 | delta trip_sound.sl.H8_2 | delta trip_sound.sl.H9_1
        | delta trip_sound.sl.H10_1 | delta trip_sound.sl.H11_1 | delta trip_sound.sl.H11_2 | delta trip_sound.sl.H12_1
        | delta trip_sound.sl.v153 | delta trip_sound.sl.v158 | delta trip_sound.sl.v185 | delta trip_sound.sl.v186
        | delta trip_sound.sl.v197 | delta trip_sound.sl.v212 | delta trip_sound.sl.v214 | delta trip_sound.sl.v217
        | delta trip_sound.sl.v124 | delta trip_sound.sl.v125 | delta trip_sound.sl.v128 | delta trip_sound.sl.v129
        | delta trip_sound.sl.v130 | delta trip_sound.sl.v131 | delta trip_sound.sl.v133 | delta trip_sound.sl.v134
        | delta trip_sound.sl.v136 | delta trip_sound.sl.v137 | delta trip_sound.sl.v139 | delta trip_sound.sl.v140
        | delta trip_sound.sl.v141 | delta trip_sound.sl.v142 | delta trip_sound.sl.v143 | delta trip_sound.sl.v145
        | delta trip_sound.sl.v146 | delta trip_sound.sl.v147 | delta trip_sound.sl.v148 | delta trip_sound.sl.v150
        | delta trip_sound.sl.v152 | delta trip_sound.sl.v184 | delta trip_sound.sl.v187 | delta trip_sound.sl.v188
        | delta trip_sound.sl.v189 | delta trip_sound.sl.v190 | delta trip_sound.sl.v192 | delta trip_sound.sl.v193
        | delta trip_sound.sl.v195 | delta trip_sound.sl.v196 | delta trip_sound.sl.v198 | delta trip_sound.sl.v199
        | delta trip_sound.sl.v200 | delta trip_sound.sl.v201 | delta trip_sound.sl.v202 | delta trip_sound.sl.v203
        | delta trip_sound.sl.v204 | delta trip_sound.sl.v205 | delta trip_sound.sl.v206 | delta trip_sound.sl.v207
        | delta trip_sound.sl.v209 | delta trip_sound.sl.v211 | delta trip_sound.sl.v213 | delta trip_sound.sl.arg13
    simp (disch := decide) only [View.readCov, read_hit, read_skip, View.writes_nil, h1, h2, h3, h4, h5, h6, trip, next]
    try rfl

/-- The carried values before trip `k`, from those before the first. -/
def carriedAt (X4 : BufOf (F := F) c arg4) (X5 : BufOf (F := F) c arg5) (σ₀ : Carried F) : ℕ → Carried F
  | 0 => σ₀
  | k + 1 => if h : k < k0_t1_loop.trips then trip c arg4 arg5 v1 X4 X5 ⟨k, h⟩ (carriedAt X4 X5 σ₀ k) else carriedAt X4 X5 σ₀ k

theorem carriedAt_succ (X4 : BufOf (F := F) c arg4) (X5 : BufOf (F := F) c arg5) (σ₀ : Carried F) (k : Fin k0_t1_loop.trips) :
    carriedAt c arg4 arg5 v1 X4 X5 σ₀ (k.val + 1) = trip c arg4 arg5 v1 X4 X5 k (carriedAt c arg4 arg5 v1 X4 X5 σ₀ k.val) := by
  rw [carriedAt, dif_pos k.isLt]

end Cert.KernelIdeal.Body
end
-- ==== Proof.BodyIdeal.lean ====
module

public import proofs.«01_k».proof.Proof.TripIdeal

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ
local notation "𝒱₀" => Variants.none

variable (c : Dev nD) (i : grid0.Coords)
  (arg3 : Memref sig .tc .vmem S1x1x256x1024 .f32) (harg3 : arg3.IsWhole)
  (arg4 : Memref sig .tc .vmem S1x1x16384x256 .bf16) (harg4 : arg4.IsWhole)
  (arg5 : Memref sig .tc .vmem S1x1x144x16384 .bf16) (harg5 : arg5.IsWhole)
  (arg6 : Memref sig .tc .vmem S1x1024x128 .bf16) (harg6 : arg6.IsWhole)
  (arg7 : Memref sig .tc .vmem S2x1024x1024 .f32) (harg7 : arg7.IsWhole)
  (arg8 : Memref sig .tc .vmem S2x1024x1024 .bf16) (harg8 : arg8.IsWhole)
  (arg9 : Memref sig .tc .vmem S144x1024 .f32) (harg9 : arg9.IsWhole)
  (arg10 : Memref sig .tc .vmem S1x1024 .f32) (harg10 : arg10.IsWhole)
  (arg11 : Memref sig .tc .vmem S2x1x1024 .f32) (harg11 : arg11.IsWhole)
  (arg12 : Memref sig .tc .vmem S2x1x1024 .f32) (harg12 : arg12.IsWhole)
  (v1 : FVec F S256x1024 .bf16) (w : BitVec 32)

abbrev R3 : Rect S1x1x256x1024 := Rect.unit (s := S1x1x256x1024) ![0, 0, 0, 0] S1x1x256x1024.size inb_S1x1x256x1024_S1x1x256x1024_0_0_0_0
abbrev R6 : Rect S1x1024x128 := Rect.unit (s := S1x1024x128) ![0, 0, 0] S1x1024x128.size inb_S1x1024x128_S1x1024x128_0_0_0

/-- The query block. -/
abbrev qBlk (X3 : BufOf (F := F) c arg3) : Vec F S1x1x256x1024 .f32 := arg3.view.readAt (Elt F) R3.toLoadRect X3

/-- What the body stores into the output block. -/
def tileOut (X3 : BufOf (F := F) c arg3) (X4 : BufOf (F := F) c arg4) (X5 : BufOf (F := F) c arg5) : Vec F S1x1024x128 .bf16 :=
  finish (vBlk c arg5 X5 ![0, 0, 0, 14336] inb_S1x1x144x16384_S1x1x144x1024_0_0_0_14336)
    (vBlk c arg5 X5 ![0, 0, 0, 15360] inb_S1x1x144x16384_S1x1x144x1024_0_0_0_15360)
    (carriedAt c arg4 arg5 (k0_pay13 (qBlk c arg3 X3)) X4 X5
      (start (qBlk c arg3 X3) (kBlk c arg4 X4 ![0, 0, 0, 0] inb_S1x1x16384x256_S1x1x1024x256_0_0_0_0)
        (kBlk c arg4 X4 ![0, 0, 1024, 0] inb_S1x1x16384x256_S1x1x1024x256_0_0_1024_0)) k0_t1_loop.trips)

theorem body_sound (X3 : BufOf (F := F) c arg3) (X4 : BufOf (F := F) c arg4) (X5 : BufOf (F := F) c arg5) (K : PUnit → sProp 𝕄) :
    iprop(Pt c arg3 X3 ∗ Pt c arg4 X4 ∗ Pt c arg5 X5 ∗ (∃ f, Pt c arg6 f) ∗ (∃ f, Pt c arg7 f) ∗ (∃ f, Pt c arg8 f) ∗ (∃ f, Pt c arg9 f)
        ∗ (∃ f, Pt c arg10 f) ∗ (∃ f, Pt c arg11 f) ∗ (∃ f, Pt c arg12 f)
        ∗ (iprop(Pt c arg3 X3 ∗ Pt c arg4 X4 ∗ Pt c arg5 X5
            ∗ (∃ f, Pt c arg6 (arg6.view.writes (Elt F) f [⟨R6, tileOut c arg3 arg4 arg5 X3 X4 X5⟩])) ∗ (∃ f, Pt c arg7 f) ∗ (∃ f, Pt c arg8 f)
            ∗ (∃ f, Pt c arg9 f) ∗ (∃ f, Pt c arg10 f) ∗ (∃ f, Pt c arg11 f) ∗ (∃ f, Pt c arg12 f)) -∗ K ⟨⟩))
      ⊢ wp frame (wpE (defs₀ (F := F)) 𝒱₀ (c : Thread nD τ) none) Set.univ
        (cc0_attn (F := F) i arg3 harg3 arg4 harg4 arg5 harg5 arg6 harg6 arg7 harg7 arg8 harg8 arg9 harg9 arg10 harg10 arg11 harg11 arg12 harg12) K := by
  simp only [cc0_attn_eq_skeleton]; unfold cc0_attn_skel
  iintro ⟨H3, H4, H5, ⟨%f6, H6⟩, ⟨%f7, H7⟩, ⟨%f8, H8⟩, ⟨%f9, H9⟩, ⟨%f10, H10⟩, ⟨%f11, H11⟩, ⟨%f12, H12⟩, HK⟩
  sl_exec
  sl_for (fun k _ => Inv c arg4 arg5 arg7 arg8 arg9 arg10 arg11 arg12 X4 X5 (carriedAt c arg4 arg5 (k0_pay13 (qBlk c arg3 X3)) X4 X5
      (start (qBlk c arg3 X3) (kBlk c arg4 X4 ![0, 0, 0, 0] inb_S1x1x16384x256_S1x1x1024x256_0_0_0_0)
        (kBlk c arg4 X4 ![0, 0, 1024, 0] inb_S1x1x16384x256_S1x1x1024x256_0_0_1024_0)) k)) $$ [H4 H5 H7 H8 H9 H10 H11 H12]
  case region =>
    intro k _
    rw [carriedAt_succ]
    exact trip_sound c i arg3 harg3 arg4 harg4 arg5 harg5 arg6 harg6 arg7 harg7 arg8 harg8 arg9 harg9 arg10 harg10 arg11 harg11 arg12 harg12 _ k0_pay14 (k0_pay26 k0_pay14) k X4 X5 _
  · unfold Inv
    isplitl [H4]; · iexact H4
    isplitl [H5]; · iexact H5
    iexists _, _, _, _, _, _
    isplitl [H7]; · iexact H7
    isplitl [H8]; · iexact H8
    isplitl [H9]; · iexact H9
    isplitl [H10]; · iexact H10
    isplitl [H11]; · iexact H11
    isplitl [H12]; · iexact H12
    ipureintro
    constructor
    all_goals
      repeat first
        | delta body_sound.sl.H10_1 | delta body_sound.sl.H10_2 | delta body_sound.sl.H11_1 | delta body_sound.sl.H12_1
        | delta body_sound.sl.H12_2 | delta body_sound.sl.H7_1 | delta body_sound.sl.H7_2 | delta body_sound.sl.H8_1
        | delta body_sound.sl.H9_1 | delta body_sound.sl.H9_1_1 | delta body_sound.sl.H9_2 | delta body_sound.sl.cst_39
        | delta body_sound.sl.cst_42 | delta body_sound.sl.cst_75 | delta body_sound.sl.r | delta body_sound.sl.v101
        | delta body_sound.sl.v102 | delta body_sound.sl.v103 | delta body_sound.sl.v104 | delta body_sound.sl.v105
        | delta body_sound.sl.v106 | delta body_sound.sl.v107 | delta body_sound.sl.v108 | delta body_sound.sl.v109
        | delta body_sound.sl.v110 | delta body_sound.sl.v112 | delta body_sound.sl.v113 | delta body_sound.sl.v114
        | delta body_sound.sl.v115 | delta body_sound.sl.v116 | delta body_sound.sl.v117 | delta body_sound.sl.v118
        | delta body_sound.sl.v26 | delta body_sound.sl.v27 | delta body_sound.sl.v28 | delta body_sound.sl.v29
        | delta body_sound.sl.v30 | delta body_sound.sl.v31 | delta body_sound.sl.v33 | delta body_sound.sl.v34
        | delta body_sound.sl.v35 | delta body_sound.sl.v36 | delta body_sound.sl.v37 | delta body_sound.sl.v38
        | delta body_sound.sl.v39 | delta body_sound.sl.v40 | delta body_sound.sl.v41 | delta body_sound.sl.v42
        | delta body_sound.sl.v43 | delta body_sound.sl.v45 | delta body_sound.sl.v46 | delta body_sound.sl.v50
        | delta body_sound.sl.v51 | delta body_sound.sl.v52 | delta body_sound.sl.v53 | delta body_sound.sl.v54
        | delta body_sound.sl.v55 | delta body_sound.sl.v56 | delta body_sound.sl.v57 | delta body_sound.sl.v58
        | delta body_sound.sl.v59 | delta body_sound.sl.v63 | delta body_sound.sl.v64 | delta body_sound.sl.v65
        | delta body_sound.sl.v66 | delta body_sound.sl.v68 | delta body_sound.sl.v69 | delta body_sound.sl.v71
        | delta body_sound.sl.v72 | delta body_sound.sl.v74 | delta body_sound.sl.v75 | delta body_sound.sl.v76
        | delta body_sound.sl.v77 | delta body_sound.sl.v78 | delta body_sound.sl.v80 | delta body_sound.sl.v81
        | delta body_sound.sl.v85 | delta body_sound.sl.v86 | delta body_sound.sl.v87 | delta body_sound.sl.v89
        | delta body_sound.sl.v90 | delta body_sound.sl.v91 | delta body_sound.sl.v92 | delta body_sound.sl.v93
        | delta body_sound.sl.v94 | delta body_sound.sl.v96 | delta body_sound.sl.v97
      simp (disch := decide) only [View.readCov, read_hit, read_skip, View.writes_nil, carriedAt, start]
      try rfl
  · iintro %_ HI
    unfold Inv
    icases HI with ⟨H4, H5, %g7, %g8, %g9, %g10, %g11, %g12, H7, H8, H9, H10, H11, H12, %hσ⟩
    sl_exec
    sl_step
    iapply HK
    isplitl [H3]; · iexact H3
    isplitl [H4]; · iexact H4
    isplitl [H5]; · iexact H5
    isplitl [H6]
    · iexists f6
      rw [show tileOut c arg3 arg4 arg5 X3 X4 X5 = k0_pay1 (body_sound.sl.v118 c arg5 arg7 arg8 arg9 arg10 arg11 arg12 X5 g7 g8 g9 g10 g11 g12) from ?_]
      · iexact H6
      obtain ⟨h1, h2, h3, h4, h5, h6⟩ := hσ
      repeat first
        | delta body_sound.sl.H10_1 | delta body_sound.sl.H10_2 | delta body_sound.sl.H11_1 | delta body_sound.sl.H12_1
        | delta body_sound.sl.H12_2 | delta body_sound.sl.H7_1 | delta body_sound.sl.H7_2 | delta body_sound.sl.H8_1
        | delta body_sound.sl.H9_1 | delta body_sound.sl.H9_1_1 | delta body_sound.sl.H9_2 | delta body_sound.sl.cst_39
        | delta body_sound.sl.cst_42 | delta body_sound.sl.cst_75 | delta body_sound.sl.r | delta body_sound.sl.v101
        | delta body_sound.sl.v102 | delta body_sound.sl.v103 | delta body_sound.sl.v104 | delta body_sound.sl.v105
        | delta body_sound.sl.v106 | delta body_sound.sl.v107 | delta body_sound.sl.v108 | delta body_sound.sl.v109
        | delta body_sound.sl.v110 | delta body_sound.sl.v112 | delta body_sound.sl.v113 | delta body_sound.sl.v114
        | delta body_sound.sl.v115 | delta body_sound.sl.v116 | delta body_sound.sl.v117 | delta body_sound.sl.v118
        | delta body_sound.sl.v26 | delta body_sound.sl.v27 | delta body_sound.sl.v28 | delta body_sound.sl.v29
        | delta body_sound.sl.v30 | delta body_sound.sl.v31 | delta body_sound.sl.v33 | delta body_sound.sl.v34
        | delta body_sound.sl.v35 | delta body_sound.sl.v36 | delta body_sound.sl.v37 | delta body_sound.sl.v38
        | delta body_sound.sl.v39 | delta body_sound.sl.v40 | delta body_sound.sl.v41 | delta body_sound.sl.v42
        | delta body_sound.sl.v43 | delta body_sound.sl.v45 | delta body_sound.sl.v46 | delta body_sound.sl.v50
        | delta body_sound.sl.v51 | delta body_sound.sl.v52 | delta body_sound.sl.v53 | delta body_sound.sl.v54
        | delta body_sound.sl.v55 | delta body_sound.sl.v56 | delta body_sound.sl.v57 | delta body_sound.sl.v58
        | delta body_sound.sl.v59 | delta body_sound.sl.v63 | delta body_sound.sl.v64 | delta body_sound.sl.v65
        | delta body_sound.sl.v66 | delta body_sound.sl.v68 | delta body_sound.sl.v69 | delta body_sound.sl.v71
        | delta body_sound.sl.v72 | delta body_sound.sl.v74 | delta body_sound.sl.v75 | delta body_sound.sl.v76
        | delta body_sound.sl.v77 | delta body_sound.sl.v78 | delta body_sound.sl.v80 | delta body_sound.sl.v81
        | delta body_sound.sl.v85 | delta body_sound.sl.v86 | delta body_sound.sl.v87 | delta body_sound.sl.v89
        | delta body_sound.sl.v90 | delta body_sound.sl.v91 | delta body_sound.sl.v92 | delta body_sound.sl.v93
        | delta body_sound.sl.v94 | delta body_sound.sl.v96 | delta body_sound.sl.v97
      simp (disch := decide) only [View.readCov, read_hit, read_skip, View.writes_nil, tileOut, finish, h1, h2, h3, h4, h5, h6]
      try rfl
    isplitl [H7]; · iexists _; iexact H7
    isplitl [H8]; · iexists _; iexact H8
    isplitl [H9]; · iexists _; iexact H9
    isplitl [H10]; · iexists _; iexact H10
    isplitl [H11]; · iexists _; iexact H11
    iexists _; iexact H12

end Cert.KernelIdeal.Body
end
-- ==== Proof.LaunchIdeal.lean ====
/- The call's run: the body at every grid point, the launch, and the frame. -/
module

public import proofs.«01_k».proof.Proof.BodyIdeal
public import Idealize.ShloMosaic.Lib.VecWindow
public import proofs.«01_k».proof.Proof.Gen.KernelIdeal.Frame

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ
local notation "𝒱₀" => Variants.none

variable (m : (ℓ : Loc nD τ sig) → Buf (Elt F) ℓ) (ρ : Dev nD → PrngReg)

/-! ## What a tile stores, from its three blocks -/

/-- Rows `off` … of the block of keys. -/
def kRows (K : Vec F S1x1x16384x256 .bf16) (off : Fin 4 → ℕ)
    (h : ∀ i, off i + S1x1x1024x256.size i ≤ S1x1x16384x256.size i) : Vec F S1x1x1024x256 .bf16 :=
  fun x => K ((Rect.unit (s := S1x1x16384x256) off S1x1x1024x256.size h).toLoadRect.idx x)
/-- Columns `off` … of the block of transposed values. -/
def vCols (V : Vec F S1x1x144x16384 .bf16) (off : Fin 4 → ℕ)
    (h : ∀ i, off i + S1x1x144x1024.size i ≤ S1x1x144x16384.size i) : Vec F S1x1x144x1024 .bf16 :=
  fun x => V ((Rect.unit (s := S1x1x144x16384) off S1x1x144x1024.size h).toLoadRect.idx x)
/-- The whole query block. -/
def qAll (Q : Vec F S1x1x256x1024 .f32) : Vec F S1x1x256x1024 .f32 := fun x => Q (R3.toLoadRect.idx x)

/-- One trip, from the blocks. -/
def tripOf (Q : Vec F S1x1x256x1024 .f32) (K : Vec F S1x1x16384x256 .bf16) (V : Vec F S1x1x144x16384 .bf16)
    (k : Fin k0_t1_loop.trips) (σ : Carried F) : Carried F :=
  next (k0_pay13 (qAll Q)) (kRows K (k0_off2 k) (k0_off2_inb k)) (kRows K (k0_off4 k) (k0_off4_inb k (cond1_true k)))
    (vCols V (k0_off1 k) (k0_off1_inb k)) (vCols V (k0_off3 k) (k0_off3_inb k (cond1_true k))) σ

/-- The carried values before trip `k`, from the blocks. -/
def carriedOf (Q : Vec F S1x1x256x1024 .f32) (K : Vec F S1x1x16384x256 .bf16) (V : Vec F S1x1x144x16384 .bf16) : ℕ → Carried F
  | 0 => start (qAll Q) (kRows K ![0, 0, 0, 0] inb_S1x1x16384x256_S1x1x1024x256_0_0_0_0)
      (kRows K ![0, 0, 1024, 0] inb_S1x1x16384x256_S1x1x1024x256_0_0_1024_0)
  | k + 1 => if h : k < k0_t1_loop.trips then tripOf Q K V ⟨k, h⟩ (carriedOf Q K V k) else carriedOf Q K V k

/-- The output block, from the blocks. -/
def tileOf (Q : Vec F S1x1x256x1024 .f32) (K : Vec F S1x1x16384x256 .bf16) (V : Vec F S1x1x144x16384 .bf16) : Vec F S1x1024x128 .bf16 :=
  finish (vCols V ![0, 0, 0, 14336] inb_S1x1x144x16384_S1x1x144x1024_0_0_0_14336)
    (vCols V ![0, 0, 0, 15360] inb_S1x1x144x16384_S1x1x144x1024_0_0_0_15360) (carriedOf Q K V k0_t1_loop.trips)

section
variable (c : Dev nD)
  (arg3 : Memref sig .tc .vmem S1x1x256x1024 .f32)
  (arg4 : Memref sig .tc .vmem S1x1x16384x256 .bf16)
  (arg5 : Memref sig .tc .vmem S1x1x144x16384 .bf16)
  (X3 : BufOf (F := F) c arg3) (X4 : BufOf (F := F) c arg4) (X5 : BufOf (F := F) c arg5)

theorem carriedAt_eq (n : ℕ) :
    carriedAt c arg4 arg5 (k0_pay13 (qBlk c arg3 X3)) X4 X5
      (start (qBlk c arg3 X3) (kBlk c arg4 X4 ![0, 0, 0, 0] inb_S1x1x16384x256_S1x1x1024x256_0_0_0_0)
        (kBlk c arg4 X4 ![0, 0, 1024, 0] inb_S1x1x16384x256_S1x1x1024x256_0_0_1024_0)) n
      = carriedOf (arg3.view.read (Elt F) X3) (arg4.view.read (Elt F) X4) (arg5.view.read (Elt F) X5) n := by
  induction n with
  | zero => rfl
  | succ k ih =>
    rw [carriedAt, carriedOf]
    by_cases h : k < k0_t1_loop.trips
    · rw [dif_pos h, dif_pos h, ih]; rfl
    · rw [dif_neg h, dif_neg h, ih]

/-- What the body stores depends on its buffers through the blocks they hold. -/
theorem tileOut_eq : tileOut c arg3 arg4 arg5 X3 X4 X5
    = tileOf (arg3.view.read (Elt F) X3) (arg4.view.read (Elt F) X4) (arg5.view.read (Elt F) X5) := by
  unfold tileOut tileOf
  rw [carriedAt_eq]; rfl
end

/-! ## The windows' contents -/

def outAt (c : Dev nD) (t : Fin cfg0.N) : S1x1024x128.Idx → Elt F .bf16 :=
  tileOf (iblk m c 0 t) (iblk m c 1 t) (iblk m c 2 t)

/-- What each window's staging buffer holds after the body at each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ _ := Pipeline.ΦA spec0 c
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outAt m c t := by dsimp only [dats]
theorem before0_0 (c : Dev nD) (t : Fin cfg0.N) (d) : (dats m 0 c).before 0 t d = iblk m c 0 t :=
  before0_0_of m _ (A_eq m c 0) (after0_0 m c) t d
theorem before0_1 (c : Dev nD) (t : Fin cfg0.N) (d) : (dats m 0 c).before 1 t d = iblk m c 1 t :=
  before0_1_of m _ (A_eq m c 1) (after0_1 m c) t d
theorem before0_2 (c : Dev nD) (t : Fin cfg0.N) (d) : (dats m 0 c).before 2 t d = iblk m c 2 t :=
  before0_2_of m _ (A_eq m c 2) (after0_2 m c) t d

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- A scratch buffer held whole at anything, the two ways it is written. -/
theorem scratch_whole (c : Dev nD) (b : Ref sig .tc) :
    (iprop(∃ f : Buf (Elt F) ((c : Thread nD τ).loc b), ((c : Thread nD τ).loc b) ↦{fullShare} f) : sProp 𝕄)
      = iprop(∃ f, (Memref.whole b).view.loc (c : Thread nD τ) ↦[(Memref.whole b).view.set]{fullShare} f) := by
  rw [show (Memref.whole b).view.set = Finset.univ from View.set_whole b]

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl, after0_0, after0_1, after0_2, after0_3]
  simp only [before0_0, before0_1, before0_2]
  rw [show (dats m 0 c).Φ t.castSucc = Pipeline.ΦA spec0 c from rfl]
  unfold Pipeline.ΦA
  rw [scopedRest0_eq]
  simp only [scratch_whole]
  unfold Dat.owesAt Pipeline.owesWithin
  rw [show (dats m 0 c).owed t.castSucc = 0 from rfl, show (dats m 0 c).owed t.succ = 0 from rfl]
  unfold owns
  iintro ⟨⟨⟨HS0, HS1, HS2, HS3, HS4, HS5⟩, Hg⟩, ⟨%W, -, HW⟩, ⟨%d0, %X3, %h3, H3⟩, ⟨%d1, %X4, %h4, H4⟩, ⟨%d2, %X5, %h5, H5⟩, ⟨%d3, %X6, -, H6⟩⟩
  iapply (body_sound c _ _ _ _ _ _ _ _ _ _ _ _ _ _ _ _ _ _ _ _ _ X3 X4 X5 _)
  isplitl [H3]; · iexact H3
  isplitl [H4]; · iexact H4
  isplitl [H5]; · iexact H5
  isplitl [H6]; · iexists _; iexact H6
  isplitl [HS0]; · iexact HS0
  isplitl [HS1]; · iexact HS1
  isplitl [HS2]; · iexact HS2
  isplitl [HS3]; · iexact HS3
  isplitl [HS4]; · iexact HS4
  isplitl [HS5]; · iexact HS5
  iintro ⟨H3, H4, H5, ⟨%f6, H6⟩, HS0, HS1, HS2, HS3, HS4, HS5⟩
  isplitl [HS0 HS1 HS2 HS3 HS4 HS5 Hg]
  · isplitl [HS0 HS1 HS2 HS3 HS4 HS5]
    · isplitl [HS0]; · iexact HS0
      isplitl [HS1]; · iexact HS1
      isplitl [HS2]; · iexact HS2
      isplitl [HS3]; · iexact HS3
      isplitl [HS4]; · iexact HS4
      iexact HS5
    iexact Hg
  isplitl [HW]
  · iexists W; isplitr; · ipureintro; exact fun _ _ => Or.inl trivial
    iexact HW
  isplitl [H3]; · iexists X3; isplitr; · ipureintro; exact h3
                  iexact H3
  isplitl [H4]; · iexists X4; isplitr; · ipureintro; exact h4
                  iexact H4
  isplitl [H5]; · iexists X5; isplitr; · ipureintro; exact h5
                  iexact H5
  iexists _; isplitr
  swap; · iexact H6
  ipureintro
  rw [tileOut_eq, h3, h4, h5]
  exact View.read_writes_full _ _ _ _ _

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- Every run of the program ends with the result array holding every tile's output block, and every counter zero. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Every run of the program ends, with the arguments as they were and every counter zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩, h.2⟩) (run_main m ρ)

end Cert.KernelIdeal.Body
end
-- ==== Proof.Frames.lean ====
/- The frames of the three programs and the ledger's one entry. -/
module

public import proofs.«01_k».proof.Defs
public import proofs.«01_k».proof.Proof.LaunchBits
public import proofs.«01_k».proof.Proof.LaunchIdeal
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite

@[expose] public section

noncomputable section

namespace Cert.Proof.Frames

open Idealize.ShloMosaic Idealize.SL.Sem

/-- The kernel, at machine words, runs, leaves its arguments unchanged and ends with every counter at zero. -/
theorem frame_p : Cert.quiescent_Kernel := fun m g _ => Cert.Kernel.Body.frame m g

/-- The same of the idealized kernel, at the extended reals. -/
theorem frame_pi : Cert.quiescent_KernelIdeal := fun m g _ => Cert.KernelIdeal.Body.frame m g

/-- The same, from finite queries and keys. -/
theorem frame_pi_finite : Cert.quiescent_KernelIdeal_pre_finite := fun m g _ => Cert.KernelIdeal.Body.frame m g

/-- The reference runs, leaves its arguments unchanged and ends with every counter at zero: it has no counters. -/
theorem frame_ri : Cert.quiescent_ReferenceIdeal := fun m g _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m g)

/-- The same, from finite queries and keys. -/
theorem frame_ri_finite : Cert.quiescent_ReferenceIdeal_pre_finite := fun m g _ => frame_ri m g trivial

/-- The kernel's one named constant has the value the certificate's table gives it. -/
theorem preserves : Cert.preserves_Kernel_KernelIdeal :=
  IdealRules.named_const.statement Cert.KernelIdeal.κ "qk_scale" .f32 0x3DD53B95#32 _ rfl

end Cert.Proof.Frames

end
-- ==== Proof.Online.lean ====
/- Softmax attention of one query over the extended reals: weights that are powers of two taken above any real number,
   rescaled when that number changes, give after the division the weights of the plain softmax. -/
module

public import Idealize.ShloMosaic.PureOps.Ideal
public import Mathlib.Analysis.SpecialFunctions.Pow.Real

@[expose] public section

noncomputable section

namespace Cert.Online

open Idealize.ShloMosaic

/-- The weight of a score `x` above `a`. -/
def wt (a x : ℝ) : EReal := Ideal.exp2 ((x : EReal) - (a : EReal))

theorem wt_eq (a x : ℝ) : wt a x = ((Real.exp ((x - a) * Real.log 2) : ℝ) : EReal) := by
  unfold wt
  rw [← EReal.coe_sub, Ideal.exp2_coe, EReal.coe_eq_coe_iff, mul_comm]
  exact Real.rpow_def_of_pos (by norm_num) _

/-- A real factor that is not negative goes into a sum. -/
theorem mul_sum {ι : Type} (S : Finset ι) (f : ι → EReal) (b : ℝ) (hb : 0 ≤ b) :
    (b : EReal) * ∑ n ∈ S, f n = ∑ n ∈ S, (b : EReal) * f n := by
  classical
  induction S using Finset.induction_on with
  | empty => simp
  | insert n S hn ih =>
    rw [Finset.sum_insert hn, Finset.sum_insert hn, ← ih,
      EReal.left_distrib_of_nonneg_of_ne_top (by exact_mod_cast hb) (EReal.coe_ne_top b)]

/-- Changing the number that the scores are taken above, in one weight. -/
theorem wt_mul (a b x : ℝ) : wt b a * wt a x = wt b x := by
  rw [wt_eq, wt_eq, wt_eq, ← EReal.coe_mul, ← Real.exp_add]
  congr 2; ring

/-- The same in a sum of weighted values. -/
theorem rescale (a b : ℝ) (N : ℕ) (v : ℕ → EReal) (s : ℕ → ℝ) :
    wt b a * ∑ n ∈ Finset.range N, v n * wt a (s n) = ∑ n ∈ Finset.range N, v n * wt b (s n) := by
  conv_lhs => rw [wt_eq]
  rw [mul_sum _ _ _ (Real.exp_pos _).le]
  refine Finset.sum_congr rfl fun n _ => ?_
  rw [← wt_eq, mul_left_comm, wt_mul]

/-- A block of `T` values is added to the sum over those before it. -/
theorem sum_block (N T : ℕ) (f : ℕ → EReal) :
    (∑ n ∈ Finset.range N, f n) + ∑ x : Fin T, f (N + x) = ∑ n ∈ Finset.range (N + T), f n := by
  rw [Finset.sum_range_add, Finset.sum_range (fun x => f (N + x))]

/-- The largest of real numbers, taken from `⊥`, is real. -/
theorem fold_max_real' {ι : Type} (S : Finset ι) (hS : S.Nonempty) (f : ι → EReal) (hf : ∀ x, ∃ r : ℝ, f x = r) :
    ∃ r : ℝ, S.fold max (⊥ : EReal) f = r := by
  obtain ⟨x₀, h₀⟩ := hS
  have h1 : S.fold max (⊥ : EReal) f ≠ ⊥ := by
    refine ne_of_gt ((Finset.lt_fold_max _).2 (Or.inr ⟨x₀, h₀, ?_⟩))
    obtain ⟨r, hr⟩ := hf x₀
    rw [hr]; exact EReal.bot_lt_coe r
  have h2 : S.fold max (⊥ : EReal) f ≠ ⊤ := by
    refine ne_of_lt ((Finset.fold_max_lt _).2 ⟨bot_lt_top, fun x _ => ?_⟩)
    obtain ⟨r, hr⟩ := hf x
    rw [hr]; exact EReal.coe_lt_top r
  exact ⟨_, (EReal.coe_toReal h2 h1).symm⟩

/-- The same over a block. -/
theorem fold_max_real {T : ℕ} (f : Fin T → ℝ) (hT : 0 < T) :
    ∃ r : ℝ, Finset.univ.fold max (⊥ : EReal) (fun x => (f x : EReal)) = r :=
  fold_max_real' _ ⟨⟨0, hT⟩, Finset.mem_univ _⟩ _ fun x => ⟨f x, rfl⟩

/-- A sum of reals in the extended reals is the real sum. -/
theorem coe_sum {ι : Type} (S : Finset ι) (f : ι → ℝ) : ∑ n ∈ S, (f n : EReal) = ((∑ n ∈ S, f n : ℝ) : EReal) := by
  classical
  induction S using Finset.induction_on with
  | empty => simp
  | insert n S hn ih => rw [Finset.sum_insert hn, Finset.sum_insert hn, ih, EReal.coe_add]

/-- Division by a positive real. -/
theorem div_pos (x : EReal) (D : ℝ) (hD : 0 < D) : Ideal.div x (D : EReal) = ((1 / D : ℝ) : EReal) * x := by
  rw [Ideal.div_coe hD.ne', mul_comm]

/-- THE WEIGHTS: weighted values over the sum of the weights, in powers of two above any real number, are the values
    under the softmax weights of the scores times `log 2`, taken above any other real number. The values may be infinite. -/
theorem softmax_eq (N : ℕ) (hN : 0 < N) (s : ℕ → ℝ) (σ : Fin N → ℝ) (hσ : ∀ n : Fin N, s n * Real.log 2 = σ n)
    (v o : ℕ → EReal) (ho : ∀ n, n < N → o n = 1) (a b : ℝ) :
    Ideal.div (∑ n ∈ Finset.range N, v n * wt a (s n)) (∑ n ∈ Finset.range N, o n * wt a (s n))
      = ∑ n : Fin N, v n * Ideal.div (Ideal.exp ((σ n : EReal) - (b : EReal)))
          (0 + ∑ k : Fin N, Ideal.exp ((σ k : EReal) - (b : EReal))) := by
  have e1 : ∀ n : Fin N, Ideal.exp ((σ n : EReal) - (b : EReal)) = ((Real.exp (σ n - b) : ℝ) : EReal) := fun n => by
    rw [← EReal.coe_sub, Ideal.exp_coe]
  have pos : ∀ f : Fin N → ℝ, 0 < ∑ n, Real.exp (f n) := fun f =>
    Finset.sum_pos (fun n _ => Real.exp_pos _) ⟨⟨0, hN⟩, Finset.mem_univ _⟩
  have e2 : ∑ n ∈ Finset.range N, o n * wt a (s n) = ((∑ n : Fin N, Real.exp (σ n - a * Real.log 2) : ℝ) : EReal) := by
    rw [Finset.sum_range, ← coe_sum]
    refine Finset.sum_congr rfl fun n _ => ?_
    rw [ho n n.2, one_mul, wt_eq, sub_mul, hσ]
  simp only [e1]
  rw [e2, coe_sum, zero_add, div_pos _ _ (pos _), mul_sum _ _ _ (by have := pos fun n => σ n - a * Real.log 2; positivity),
    Finset.sum_range]
  refine Finset.sum_congr rfl fun n _ => ?_
  rw [div_pos _ _ (pos _), mul_left_comm, wt_eq, sub_mul, hσ, ← EReal.coe_mul, ← EReal.coe_mul]
  congr 2
  have k : ∀ n : Fin N, Real.exp (σ n - a * Real.log 2) = Real.exp (σ n - b) * Real.exp (b - a * Real.log 2) := fun n => by
    rw [← Real.exp_add]; congr 1; ring
  simp only [k]
  rw [← Finset.sum_mul]
  have := pos fun n => σ n - b
  have := Real.exp_pos (b - a * Real.log 2)
  field_simp

end Cert.Online
end
-- ==== Proof.PayIdeal.lean ====
/- The values that a tile's body carries, at the extended reals, and what one trip of its loop makes of them. -/
module

public import proofs.«01_k».proof.Proof.LaunchIdeal
public import proofs.«01_k».proof.Proof.Online
public import Idealize.ShloMosaic.Lib.Pointwise

@[expose] public section

set_option maxRecDepth 16384

noncomputable section

namespace Cert.KernelIdeal.Value

open Cert.KernelIdeal Cert.KernelIdeal.Gen Cert.KernelIdeal.Body Cert.Online
open Idealize.ShloMosaic Idealize.ShloMosaic.TcCoe Idealize.SL.Sem

/-! ## The operations at an index -/

theorem bits_bot : Ideal.ofBits .f32 0xFF800000#32 = ⊥ := by simp [Ideal.ofBits, Ideal.ieee]

section
variable (v1 : FVec Ideal S256x1024 .bf16) (kA : Vec Ideal S1x1x1024x256 .bf16) (x y : Fin 1024)

/-- Scores. -/
theorem scores29 : k0_pay29 v1 kA (ix3 0 x y) = ∑ d : Fin 256, kA (ix4 0 0 x d) * v1 (ix2 d y) := by
  pointwise [k0_pay29, k0_pay28]
theorem scores33 : k0_pay33 v1 kA (ix3 0 x y) = ∑ d : Fin 256, kA (ix4 0 0 x d) * v1 (ix2 d y) := by
  pointwise [k0_pay33, k0_pay32]
theorem scores24 : k0_pay24 v1 kA (ix3 0 x y) = ∑ d : Fin 256, kA (ix4 0 0 x d) * v1 (ix2 d y) := by
  pointwise [k0_pay24, k0_pay23]
theorem scores17 (q : Vec Ideal S1x1x256x1024 .f32) :
    k0_pay17 q kA (ix3 0 x y) = ∑ d : Fin 256, kA (ix4 0 0 x d) * k0_pay13 q (ix2 d y) := by
  pointwise [k0_pay17, k0_pay16]

/-- The largest score of a column of a block. -/
theorem max30 : k0_pay30 v1 kA (ix3 0 0 y) = Finset.univ.fold max ⊥ fun x : Fin 1024 => ∑ d : Fin 256, kA (ix4 0 0 x d) * v1 (ix2 d y) := by
  pointwise [k0_pay30, k0_pay28]; rw [bits_bot]
theorem max34 : k0_pay34 v1 kA (ix3 0 0 y) = Finset.univ.fold max ⊥ fun x : Fin 1024 => ∑ d : Fin 256, kA (ix4 0 0 x d) * v1 (ix2 d y) := by
  pointwise [k0_pay34, k0_pay32]; rw [bits_bot]
theorem max26 : k0_pay26 (k0_pay25 v1 kA) (ix3 0 0 y) = Finset.univ.fold max ⊥ fun x : Fin 1024 => ∑ d : Fin 256, kA (ix4 0 0 x d) * v1 (ix2 d y) := by
  pointwise [k0_pay26, k0_pay25, k0_pay23]; rw [bits_bot]
theorem max18 (q : Vec Ideal S1x1x256x1024 .f32) :
    k0_pay18 q kA (ix3 0 0 y) = Finset.univ.fold max ⊥ fun x : Fin 1024 => ∑ d : Fin 256, kA (ix4 0 0 x d) * k0_pay13 q (ix2 d y) := by
  pointwise [k0_pay18, k0_pay16]; rw [bits_bot]
end

section
variable (a : Vec Ideal S1x1024 .f32) (b : Vec Ideal S1x1x1024 .f32) (s : Vec Ideal S1x1024x1024 .f32) (x y : Fin 1024)

/-- The new maximum, the rescaling factor and the weights of a softmax step. -/
theorem m10 : k0_pay10 a b (ix2 0 y) = max (a (ix2 0 y)) (b (ix3 0 0 y)) := by pointwise [k0_pay10, k0_pay8]
theorem m4 : k0_pay4 a b (ix2 0 y) = max (a (ix2 0 y)) (b (ix3 0 0 y)) := by pointwise [k0_pay4, k0_pay2]
theorem m21 : k0_pay21 a b (ix2 0 y) = max (a (ix2 0 y)) (b (ix3 0 0 y)) := by pointwise [k0_pay21, k0_pay19]
theorem al9 : k0_pay9 a b (ix3 0 0 y) = Ideal.exp2 (a (ix2 0 y) - max (a (ix2 0 y)) (b (ix3 0 0 y))) := by
  pointwise [k0_pay9, k0_pay8]; rfl
theorem al3 : k0_pay3 a b (ix3 0 0 y) = Ideal.exp2 (a (ix2 0 y) - max (a (ix2 0 y)) (b (ix3 0 0 y))) := by
  pointwise [k0_pay3, k0_pay2]; rfl
theorem al20 : k0_pay20 a b (ix3 0 0 y) = Ideal.exp2 (a (ix2 0 y) - max (a (ix2 0 y)) (b (ix3 0 0 y))) := by
  pointwise [k0_pay20, k0_pay19]; rfl
theorem al36 : k0_pay36 a b (ix3 0 0 y) = Ideal.exp2 (a (ix2 0 y) - max (a (ix2 0 y)) (b (ix3 0 0 y))) := by
  pointwise [k0_pay36, k0_pay35]; rfl
theorem p11 : k0_pay11 a b s (ix3 0 x y) = Ideal.exp2 (s (ix3 0 x y) - max (a (ix2 0 y)) (b (ix3 0 0 y))) := by
  pointwise [k0_pay11, k0_pay8]; rfl
theorem p5 : k0_pay5 a b s (ix3 0 x y) = Ideal.exp2 (s (ix3 0 x y) - max (a (ix2 0 y)) (b (ix3 0 0 y))) := by
  pointwise [k0_pay5, k0_pay2]; rfl
theorem p22 : k0_pay22 a b s (ix3 0 x y) = Ideal.exp2 (s (ix3 0 x y) - max (a (ix2 0 y)) (b (ix3 0 0 y))) := by
  pointwise [k0_pay22, k0_pay19]; rfl
theorem p38 : k0_pay38 a b s (ix3 0 x y) = Ideal.exp2 (s (ix3 0 x y) - max (a (ix2 0 y)) (b (ix3 0 0 y))) := by
  pointwise [k0_pay38, k0_pay35]; rfl
end

section
variable (vA : Vec Ideal S1x1x144x1024 .bf16) (a : Vec Ideal S1x1x1024 .f32) (acc : Vec Ideal S144x1024 .f32)
  (p : Vec Ideal S1x1024x1024 .bf16) (r : Fin 144) (y : Fin 1024)

/-- A block's values, weighted, are added to the rescaled accumulator. -/
theorem acc27 : k0_pay27 (k0_pay12 vA) a acc p (ix2 r y)
    = a (ix3 0 0 y) * acc (ix2 r y) + ∑ x : Fin 1024, vA (ix4 0 0 r x) * p (ix3 0 x y) := by
  pointwise [k0_pay27, k0_pay12]
theorem acc31 : k0_pay31 (k0_pay6 vA) (k0_pay7 a) acc p (ix2 r y)
    = a (ix3 0 0 y) * acc (ix2 r y) + ∑ x : Fin 1024, vA (ix4 0 0 r x) * p (ix3 0 x y) := by
  pointwise [k0_pay31, k0_pay6, k0_pay7]
theorem acc40 : k0_pay40 (k0_pay39 vA) a acc p (ix2 r y)
    = a (ix3 0 0 y) * acc (ix2 r y) + ∑ x : Fin 1024, vA (ix4 0 0 r x) * p (ix3 0 x y) := by
  pointwise [k0_pay40, k0_pay39]
theorem acc41 : k0_pay41 vA a acc p (ix2 r y)
    = a (ix3 0 0 y) * acc (ix2 r y) + ∑ x : Fin 1024, vA (ix4 0 0 r x) * p (ix3 0 x y) := by
  pointwise [k0_pay41]
end

/-- The quotient that is stored. -/
theorem out1 (acc : Vec Ideal S144x1024 .f32) (r : Fin 128) (y : Fin 1024) :
    k0_pay1 (k0_pay42 acc) (ix3 0 y r) = Ideal.div (acc (ix2 ⟨r, by omega⟩ y)) (acc (ix2 128 y)) := by
  pointwise [k0_pay1, k0_pay42]

/-- The scaled queries, the first maximum and the empty accumulator. -/
theorem q13 (q : Vec Ideal S1x1x256x1024 .f32) (d : Fin 256) (y : Fin 1024) :
    k0_pay13 q (ix2 d y) = q (ix4 0 0 d y) * (((Real.sqrt 192)⁻¹ * (Real.log 2)⁻¹ : ℝ) : EReal) := by
  pointwise [k0_pay13]; rfl
theorem m14 (y : Fin 1024) : k0_pay14 (F := Ideal) (ix2 0 y) = ⊥ := by
  pointwise [k0_pay14]; exact bits_bot
theorem acc15 (r : Fin 144) (y : Fin 1024) : k0_pay15 (F := Ideal) (ix2 r y) = 0 := by
  pointwise [k0_pay15]

/-! ## One column of queries through the loop -/

section
variable (s : ℕ → ℝ) (v : Fin 144 → ℕ → EReal) (y : Fin 1024)

/-- Before trip `k`, in column `y`: slot 1 holds the scores of block `2k + 1`, slot 0 the weights of block `2k` above the
    current maximum, and the accumulator, when rescaled, is the weighted sum over the blocks before. -/
structure Col (k : ℕ) (σ : Carried Ideal) : Prop where
  t1 : ∃ t : ℝ, σ.t1 (ix3 0 0 y) = (t : EReal)
  s1 : ∀ x : Fin 1024, σ.s1 (ix3 0 x y) = (s (2048 * k + 1024 + x) : EReal)
  m : ∃ a : ℝ, σ.m (ix2 0 y) = (a : EReal) ∧ (∀ x : Fin 1024, σ.p0 (ix3 0 x y) = wt a (s (2048 * k + x)))
    ∧ ∀ r : Fin 144, σ.a0 (ix3 0 0 y) * σ.acc (ix2 r y) = ∑ n ∈ Finset.range (2048 * k), v r n * wt a (s n)

theorem coe_max (a b : ℝ) : max (a : EReal) (b : EReal) = ((max a b : ℝ) : EReal) :=
  (EReal.coe_strictMono.monotone.map_max).symm

/-- The first two blocks' scores and the first softmax step. -/
theorem col_start (q : Vec Ideal S1x1x256x1024 .f32) (kA kB : Vec Ideal S1x1x1024x256 .bf16)
    (hA : ∀ x : Fin 1024, ∑ d : Fin 256, kA (ix4 0 0 x d) * k0_pay13 q (ix2 d y) = (s x : EReal))
    (hB : ∀ x : Fin 1024, ∑ d : Fin 256, kB (ix4 0 0 x d) * k0_pay13 q (ix2 d y) = (s (1024 + x) : EReal)) :
    Col s v y 0 (start q kA kB) := by
  obtain ⟨ta, hta⟩ := fold_max_real (fun x : Fin 1024 => s x) (by norm_num)
  obtain ⟨tb, htb⟩ := fold_max_real (fun x : Fin 1024 => s (1024 + x)) (by norm_num)
  refine ⟨⟨tb, ?_⟩, fun x => ?_, ta, ?_, fun x => ?_, fun r => ?_⟩ <;> simp only [start]
  · rw [max26]; simp only [hB]; exact htb
  · rw [scores24, hB]
  · rw [m21, m14, max18]; simp only [hA, hta]; exact max_bot_left _
  · rw [p22, m14, max18, scores17, hA]; simp only [hA, hta, max_bot_left]
    simp only [Nat.mul_zero, Nat.zero_add]; rfl
  · rw [acc15, mul_zero]; rfl

/-- One trip. -/
theorem col_next (k : ℕ) (σ : Carried Ideal) (v1 : FVec Ideal S256x1024 .bf16) (kA kB : Vec Ideal S1x1x1024x256 .bf16)
    (vA vB : Vec Ideal S1x1x144x1024 .bf16)
    (hA : ∀ x : Fin 1024, ∑ d : Fin 256, kA (ix4 0 0 x d) * v1 (ix2 d y) = (s (2048 * (k + 1) + x) : EReal))
    (hB : ∀ x : Fin 1024, ∑ d : Fin 256, kB (ix4 0 0 x d) * v1 (ix2 d y) = (s (2048 * (k + 1) + 1024 + x) : EReal))
    (hvA : ∀ (r : Fin 144) (x : Fin 1024), vA (ix4 0 0 r x) = v r (2048 * k + x))
    (hvB : ∀ (r : Fin 144) (x : Fin 1024), vB (ix4 0 0 r x) = v r (2048 * k + 1024 + x))
    (h : Col s v y k σ) : Col s v y (k + 1) (next v1 kA kB vA vB σ) := by
  obtain ⟨⟨t, ht⟩, hs1, a, ha, hp, hacc⟩ := h
  obtain ⟨ta, hta⟩ := fold_max_real (fun x : Fin 1024 => s (2048 * (k + 1) + x)) (by norm_num)
  obtain ⟨tb, htb⟩ := fold_max_real (fun x : Fin 1024 => s (2048 * (k + 1) + 1024 + x)) (by norm_num)
  refine ⟨⟨tb, ?_⟩, fun x => ?_, max (max a t) ta, ?_, fun x => ?_, fun r => ?_⟩ <;> simp only [next]
  · rw [max34]; simp only [hB]; exact htb
  · rw [scores33, hB]
  · rw [m4, m10, max30]; simp only [hA, hta, ha, ht, coe_max]
  · rw [p5, m10, max30, scores29, hA]; simp only [hA, hta, ha, ht, coe_max]; rfl
  · rw [al3, m10, max30, acc31, acc27, al9, hacc]; simp only [hA, hta, ha, ht, coe_max, hvA, hvB, hp, p11, hs1]
    change wt _ _ * (wt _ _ * _ + ∑ x : Fin 1024, v r _ * wt (max a t) (s _)) = _
    rw [sum_block (2048 * k) 1024 (fun n => v r n * wt a (s n)), rescale,
      sum_block (2048 * k + 1024) 1024 (fun n => v r n * wt (max a t) (s n)), rescale]
    rfl

/-- After the last trip: what is stored is a quotient of two weighted sums over all the blocks. -/
theorem col_finish (k : ℕ) (σ : Carried Ideal) (vA vB : Vec Ideal S1x1x144x1024 .bf16)
    (hvA : ∀ (r : Fin 144) (x : Fin 1024), vA (ix4 0 0 r x) = v r (2048 * k + x))
    (hvB : ∀ (r : Fin 144) (x : Fin 1024), vB (ix4 0 0 r x) = v r (2048 * k + 1024 + x))
    (h : Col s v y k σ) :
    ∃ a : ℝ, ∀ r : Fin 128, finish vA vB σ (ix3 0 y r)
      = Ideal.div (∑ n ∈ Finset.range (2048 * k + 1024 + 1024), v ⟨r, by omega⟩ n * wt a (s n))
          (∑ n ∈ Finset.range (2048 * k + 1024 + 1024), v 128 n * wt a (s n)) := by
  obtain ⟨⟨t, ht⟩, hs1, a, ha, hp, hacc⟩ := h
  refine ⟨max a t, fun r => ?_⟩
  have key : ∀ r : Fin 144, k0_pay41 vB (k0_pay36 σ.m σ.t1) (k0_pay40 (k0_pay39 vA) σ.a0 σ.acc σ.p0) (k0_pay38 σ.m σ.t1 σ.s1) (ix2 r y)
      = ∑ n ∈ Finset.range (2048 * k + 1024 + 1024), v r n * wt (max a t) (s n) := fun r => by
    rw [acc41, acc40, al36, hacc]; simp only [ha, ht, coe_max, hvA, hvB, hp, p38, hs1]
    change wt _ _ * _ + ∑ x : Fin 1024, v r _ * wt (max a t) (s _) = _
    rw [sum_block (2048 * k) 1024 (fun n => v r n * wt a (s n)), rescale,
      sum_block (2048 * k + 1024) 1024 (fun n => v r n * wt (max a t) (s n))]
  unfold finish
  rw [out1, key, key]

end

end Cert.KernelIdeal.Value
end
-- ==== Proof.TileIdeal.lean ====
/- What a tile stores, as a quotient of weighted sums over all the keys, from its three blocks. -/
module

public import proofs.«01_k».proof.Proof.PayIdeal
public import Idealize.ShloMosaic.Lib.Pipeline.ValueKit

@[expose] public section

set_option maxRecDepth 16384

noncomputable section

namespace Cert.KernelIdeal.Value

open Cert.KernelIdeal Cert.KernelIdeal.Gen Cert.KernelIdeal.Body Cert.Online
open Idealize.ShloMosaic Idealize.ShloMosaic.TcCoe Idealize.SL.Sem

section
variable (Q : Vec Ideal S1x1x256x1024 .f32) (K : Vec Ideal S1x1x16384x256 .bf16) (V : Vec Ideal S1x1x144x16384 .bf16)

theorem kRows_at (off : Fin 4 → ℕ) (h) (o : ℕ) (ho : off = ![0, 0, o, 0]) (hx : o + 1024 ≤ 16384) (x : Fin 1024) (d : Fin 256) :
    kRows K off h (ix4 0 0 x d) = K (ix4 0 0 ⟨o + x, by omega⟩ d) := by
  subst ho
  unfold kRows
  refine congrArg K (funext fun i => ?_)
  apply Fin.ext
  fin_cases i <;> simp [LoadRect.idx, Rect.toLoadRect, Rect.unit]

theorem vCols_at (off : Fin 4 → ℕ) (h) (o : ℕ) (ho : off = ![0, 0, 0, o]) (hx : o + 1024 ≤ 16384) (r : Fin 144) (x : Fin 1024) :
    vCols V off h (ix4 0 0 r x) = V (ix4 0 0 r ⟨o + x, by omega⟩) := by
  subst ho
  unfold vCols
  refine congrArg V (funext fun i => ?_)
  apply Fin.ext
  fin_cases i <;> simp [LoadRect.idx, Rect.toLoadRect, Rect.unit]

theorem qAll_at (d : Fin 256) (y : Fin 1024) : qAll Q (ix4 0 0 d y) = Q (ix4 0 0 d y) := by
  unfold qAll
  refine congrArg Q (funext fun i => ?_)
  apply Fin.ext
  fin_cases i <;> simp [LoadRect.idx, Rect.toLoadRect, Rect.unit]

theorem trips_eq : k0_t1_loop.trips = 7 := by decide

variable (s : ℕ → ℝ) (v : Fin 144 → ℕ → EReal) (y : Fin 1024)
  (hs : ∀ n : Fin 16384, ∑ d : Fin 256, K (ix4 0 0 n d) * k0_pay13 (qAll Q) (ix2 d y) = (s n : EReal))
  (hv : ∀ (r : Fin 144) (n : Fin 16384), V (ix4 0 0 r n) = v r n)

include hs hv in
/-- The carried values before trip `k`. -/
theorem col_at (k : ℕ) (hk : k ≤ 7) : Col s v y k (carriedOf Q K V k) := by
  induction k with
  | zero =>
    refine col_start s v y _ _ _ (fun x => ?_) (fun x => ?_)
    · simp only [kRows_at K ![0, 0, 0, 0] _ 0 rfl (by norm_num)]
      rw [hs]; simp only [Nat.zero_add]
    · simp only [kRows_at K ![0, 0, 1024, 0] _ 1024 rfl (by norm_num)]
      exact hs _
  | succ k ih =>
    have hk' : k < k0_t1_loop.trips := by rw [trips_eq]; omega
    rw [carriedOf, dif_pos hk']
    refine col_next s v y k _ _ _ _ _ _ (fun x => ?_) (fun x => ?_) (fun r x => ?_) (fun r x => ?_) (ih (by omega))
    · simp only [kRows_at K _ _ (2048 * (k + 1)) (k0_off2_eq ⟨k, hk'⟩) (by omega)]
      exact hs _
    · simp only [kRows_at K _ _ (2048 * (k + 1) + 1024) (k0_off4_eq ⟨k, hk'⟩) (by omega)]
      exact hs _
    · rw [vCols_at V _ _ (2048 * k) (k0_off1_eq ⟨k, hk'⟩) (by omega)]
      exact hv _ _
    · rw [vCols_at V _ _ (2048 * k + 1024) (k0_off3_eq ⟨k, hk'⟩) (by omega)]
      exact hv _ _

include hs hv in
/-- What a tile stores in a column of queries. -/
theorem tile_at : ∃ a : ℝ, ∀ r : Fin 128, tileOf Q K V (ix3 0 y r)
      = Ideal.div (∑ n ∈ Finset.range 16384, v ⟨r, by omega⟩ n * wt a (s n))
          (∑ n ∈ Finset.range 16384, v 128 n * wt a (s n)) := by
  refine col_finish s v y 7 _ _ _ (fun r x => ?_) (fun r x => ?_) ?_
  · rw [vCols_at V _ _ 14336 rfl (by norm_num)]; exact hv _ _
  · rw [vCols_at V _ _ 15360 rfl (by norm_num)]; exact hv _ _
  · rw [trips_eq]; exact col_at Q K V s v y hs hv 7 le_rfl
end

end Cert.KernelIdeal.Value
end
-- ==== Proof.Operands.lean ====
/- The call's packed operands, in terms of the arguments. -/
module

public import proofs.«01_k».proof.Proof.TileIdeal
public import Idealize.ShloMosaic.Lib.Claim

@[expose] public section

set_option maxRecDepth 16384

noncomputable section

namespace Cert.KernelIdeal.Value

open Cert.KernelIdeal Cert.KernelIdeal.Gen Cert.KernelIdeal.Body Cert.Online
open Idealize.ShloMosaic Idealize.ShloMosaic.TcCoe Idealize.SL.Sem
open Idealize.ShloMosaic.Pipeline (Dat)

variable (m : (ℓ : Loc nD τ sig) → Buf (Elt Ideal) ℓ)

variable (c : Dev nD)

/-! ## The packed operands at an index -/

section
variable (b : Fin 2) (h : Fin 4) (n : Fin 16384)

/-- Rows 0 … 127 of the packed queries. -/
theorem q_nope_at (d : Fin 128) : (show EReal from V m c main_v3 (ix4 b h (⟨d, by omega⟩ : Fin 256) n : S2x4x256x16384.Idx))
    = m (c, Proc.tc.devRef main_arg0) (ix4 b n h d) := by
  entry_read
  pointwise []
  exact dif_pos (by omega)
/-- Rows 128 … 191. -/
theorem q_rope_at (d : Fin 64) : (show EReal from V m c main_v3 (ix4 b h (⟨128 + d, by omega⟩ : Fin 256) n : S2x4x256x16384.Idx))
    = m (c, Proc.tc.devRef main_arg1) (ix4 b n h d) := by
  entry_read
  pointwise []
  exact dif_pos (by omega)
/-- Rows 192 … 255. -/
theorem q_pad_at (d : Fin 64) : (show EReal from V m c main_v3 (ix4 b h (⟨192 + d, by omega⟩ : Fin 256) n : S2x4x256x16384.Idx)) = 0 := by
  entry_read
  pointwise []
/-- Lanes 0 … 127 of the packed keys. -/
theorem k_nope_at (d : Fin 128) : (show EReal from V m c main_v9 (ix4 b h n (⟨d, by omega⟩ : Fin 256) : S2x4x16384x256.Idx))
    = m (c, Proc.tc.devRef main_arg2) (ix4 b n h d) := by
  entry_read
  pointwise []
  exact dif_pos (by omega)
/-- Lanes 128 … 191. -/
theorem k_rope_at (d : Fin 64) : (show EReal from V m c main_v9 (ix4 b h n (⟨128 + d, by omega⟩ : Fin 256) : S2x4x16384x256.Idx))
    = m (c, Proc.tc.devRef main_arg3) (ix3 b n d) := by
  entry_read
  pointwise []
  exact dif_pos (by omega)
/-- Lanes 192 … 255. -/
theorem k_pad_at (d : Fin 64) : (show EReal from V m c main_v9 (ix4 b h n (⟨192 + d, by omega⟩ : Fin 256) : S2x4x16384x256.Idx)) = 0 := by
  entry_read
  pointwise []
/-- Rows 0 … 127 of the packed values. -/
theorem v_at (r : Fin 128) : (show EReal from V m c main_v13 (ix4 b h (⟨r, by omega⟩ : Fin 144) n : S2x4x144x16384.Idx))
    = m (c, Proc.tc.devRef main_arg4) (ix4 b n h r) := by
  entry_read
  pointwise []
/-- Row 128: ones. -/
theorem one_at : (show EReal from V m c main_v13 (ix4 b h (128 : Fin 144) n : S2x4x144x16384.Idx)) = 1 := by
  entry_read
  pointwise []

end

end Cert.KernelIdeal.Value
end
-- ==== Proof.RefIdeal.lean ====
/- The reference's term, cut into its stages, and its value at an index: plain softmax attention. -/
module

public import proofs.«01_k».proof.Proof.Gen.ReferenceIdeal.Run
public import proofs.«01_k».proof.Proof.Gen.ReferenceIdeal
public import proofs.«01_k».proof.Proof.Online
public import Idealize.ShloMosaic.Lib.Pointwise

@[expose] public section

set_option maxRecDepth 16384

noncomputable section

namespace Cert.ReferenceIdeal.RefValue

open Cert.ReferenceIdeal Cert.ReferenceIdeal.Gen Cert.Online
open Idealize.ShloMosaic Idealize.ShloMosaic.TcCoe Idealize.SL.Sem

section
variable (qn : FVec Ideal S2x16384x4x128 .f32) (qr : FVec Ideal S2x16384x4x64 .f32) (kn : FVec Ideal S2x16384x4x128 .f32)
  (kr : FVec Ideal S2x16384x64 .f32) (v : FVec Ideal S2x16384x4x128 .f32)

/-- The scores. -/
def SC : FVec Ideal S2x4x16384x16384 .f32 :=
  addf (Host.dotGeneral dot_S2x16384x4x128_S2x16384x4x128_S2x4x16384x16384_3_3_1_1_02_02 none (mulf qn (broadcastInDim S2x16384x4x128 ![] bcast_S_S2x16384x4x128 (Host.rsqrt (constant S_ .f32 0x43400000#32)))) kn) (transpose S2x4x16384x16384 [0, 3, 2, 1] (Host.dotGeneral dot_S2x16384x64_S2x16384x4x64_S2x16384x16384x4_2_3_1_12_0_0 none kr (mulf qr (broadcastInDim S2x16384x4x64 ![] bcast_S_S2x16384x4x64 (Host.rsqrt (constant S_ .f32 0x43400000#32))))) transposes_S2x16384x16384x4_S2x4x16384x16384_0_3_2_1)

/-- The largest score of each query. -/
def MX (sc : FVec Ideal S2x4x16384x16384 .f32) : FVec Ideal S2x4x16384 .f32 :=
  Host.reduce FloatOps.maximumf sc (constant S_ .f32 0xFF800000#32) reducesTo_S2x4x16384x16384_S2x4x16384_d3 h_S_

/-- The exponentials of scores less the largest of their query. -/
def EX (sc : FVec Ideal S2x4x16384x16384 .f32) (mx : FVec Ideal S2x4x16384 .f32) : FVec Ideal S2x4x16384x16384 .f32 :=
  Host.exp (subf sc (broadcastInDim S2x4x16384x16384 ![0, 1, 2, 3] bcast_S2x4x16384x1_S2x4x16384x16384_0_1_2_3 (broadcastInDim S2x4x16384x1 ![0, 1, 2] bcast_S2x4x16384_S2x4x16384x1_0_1_2 (maximumf (broadcastInDim S2x4x16384 ![] bcast_S_S2x4x16384 (constant S_ .f32 0xFF800000#32)) mx))))

/-- The weighted values, from the exponentials. -/
def OUT (e : FVec Ideal S2x4x16384x16384 .f32) : FVec Ideal S2x16384x512 .bf16 :=
  truncf .bf16 (shapeCast S2x16384x512 (transpose S2x16384x4x128 [0, 3, 1, 2] (Host.dotGeneral dot_S2x16384x4x128_S2x4x16384x16384_S2x4x128x16384_1_3_3_2_02_01 none v (Host.divf e (broadcastInDim S2x4x16384x16384 ![0, 1, 2, 3] bcast_S2x4x16384x1_S2x4x16384x16384_0_1_2_3 (broadcastInDim S2x4x16384x1 ![0, 1, 2] bcast_S2x4x16384_S2x4x16384x1_0_1_2 (Host.reduceAdd e (constant S_ .f32 0x00000000#32) reducesTo_S2x4x16384x16384_S2x4x16384_d3 h_S_))))) transposes_S2x4x128x16384_S2x16384x4x128_0_3_1_2) shapeCasts_S2x16384x4x128_S2x16384x512) bitsLt_bf16_f32

/-- The reference's result. -/
def REF : FVec Ideal S2x16384x512 .bf16 := OUT v (EX (SC qn qr kn kr) (MX (SC qn qr kn kr)))

theorem bits_bot : Ideal.ofBits .f32 0xFF800000#32 = ⊥ := by simp [Ideal.ofBits, Ideal.ieee]
theorem bits_192 : Ideal.ofBits .f32 0x43400000#32 = ((192 : ℝ) : EReal) := by
  simp [Ideal.ofBits, Ideal.ieee]
  rw [← EReal.coe_mul]
  norm_num

/-- The scale is the exact root. -/
theorem scale_eq : Ideal.rsqrt (Ideal.ofBits .f32 0x43400000#32) = (((Real.sqrt 192)⁻¹ : ℝ) : EReal) := by
  rw [bits_192, Ideal.rsqrt_coe, if_neg (by norm_num), if_neg (by norm_num)]

theorem sc_at (b : Fin 2) (h : Fin 4) (q n : Fin 16384) : SC qn qr kn kr (ix4 b h q n)
    = (∑ d : Fin 128, qn (ix4 b q h d) * (((Real.sqrt 192)⁻¹ : ℝ) : EReal) * kn (ix4 b n h d))
      + ∑ d : Fin 64, kr (ix3 b n d) * (qr (ix4 b q h d) * (((Real.sqrt 192)⁻¹ : ℝ) : EReal)) := by
  pointwise [SC]
  simp only [scale_eq]

theorem ex_at (sc : FVec Ideal S2x4x16384x16384 .f32) (mx : FVec Ideal S2x4x16384 .f32) (b : Fin 2) (h : Fin 4) (q n : Fin 16384) :
    EX sc mx (ix4 b h q n) = Ideal.exp (sc (ix4 b h q n) - mx (ix3 b h q)) := by
  pointwise [EX]
  simp only [bits_bot, max_bot_left]

/-- Where the scores are real, so is the largest. -/
theorem mx_real (sc : FVec Ideal S2x4x16384x16384 .f32) (hsc : ∀ i, ∃ r : ℝ, sc i = (r : EReal)) (b : Fin 2) (h : Fin 4) (q : Fin 16384) :
    ∃ r : ℝ, MX sc (ix3 b h q) = (r : EReal) := by
  unfold MX
  rw [Host.reduce_eq_fold]
  have e : (constant (F := Ideal) S_ .f32 0xFF800000#32) (Shape.Idx.first h_S_) = (⊥ : EReal) := bits_bot
  rw [e]
  refine fold_max_real' _ ⟨ix4 b h q 0, Finset.mem_filter.2 ⟨Finset.mem_univ _, ?_⟩⟩ sc hsc
  funext i
  fin_cases i <;> rfl

theorem out_at (e : FVec Ideal S2x4x16384x16384 .f32) (b : Fin 2) (q : Fin 16384) (h : Fin 4) (r : Fin 128) (l : Fin 512)
    (hl : l.val = h.val * 128 + r.val) :
    OUT v e (ix3 b q l) = ∑ n : Fin 16384, v (ix4 b n h r) * Ideal.div (e (ix4 b h q n)) (0 + ∑ k : Fin 16384, e (ix4 b h q k)) := by
  have hh : (⟨l / 128, by omega⟩ : Fin 4) = h := Fin.ext (by simp only; omega)
  have hr : (⟨l % 128, by omega⟩ : Fin 128) = r := Fin.ext (by simp only; omega)
  pointwise [OUT]
  simp only [hh, hr]

end

set_option maxHeartbeats 1000000 in
/-- The reference runs, and its result is `REF` of its arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v23) = REF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Value.run m ρ

end Cert.ReferenceIdeal.RefValue
end
-- ==== Proof.Scores.lean ====
/- A tile's value as a plain softmax, and its scores as the reference's, where the queries and keys are real. -/
module

public import proofs.«01_k».proof.Proof.Operands
public import proofs.«01_k».proof.Proof.RefIdeal

@[expose] public section

set_option maxRecDepth 16384

noncomputable section

namespace Cert.KernelIdeal.Value

open Cert.KernelIdeal Cert.KernelIdeal.Gen Cert.KernelIdeal.Body Cert.Online
open Idealize.ShloMosaic Idealize.ShloMosaic.TcCoe Idealize.SL.Sem
open Cert.ReferenceIdeal.RefValue (SC MX EX OUT REF sc_at ex_at mx_real out_at)

/-- Where a query's scaled scores are real numbers `S n / log 2` and row 128 of the values is one, what the tile stores
for it is the softmax of `S` applied to the values, whatever the shift `β`. -/
theorem tile_softmax (Q : Vec Ideal S1x1x256x1024 .f32) (K : Vec Ideal S1x1x16384x256 .bf16) (V : Vec Ideal S1x1x144x16384 .bf16)
    (y : Fin 1024) (S : Fin 16384 → ℝ)
    (hs : ∀ n : Fin 16384, ∑ d : Fin 256, K (ix4 0 0 n d) * (Q (ix4 0 0 d y) * (((Real.sqrt 192)⁻¹ * (Real.log 2)⁻¹ : ℝ) : EReal))
      = ((S n * (Real.log 2)⁻¹ : ℝ) : EReal))
    (h1 : ∀ n : Fin 16384, V (ix4 0 0 (128 : Fin 144) n) = (1 : EReal)) (β : ℝ) (r : Fin 128) :
    tileOf Q K V (ix3 0 y r) = ∑ n : Fin 16384, V (ix4 0 0 (⟨r, by omega⟩ : Fin 144) n)
      * Ideal.div (Ideal.exp ((S n : EReal) - β)) (0 + ∑ k : Fin 16384, Ideal.exp ((S k : EReal) - β)) := by
  let s : ℕ → ℝ := fun n => if h : n < 16384 then S ⟨n, h⟩ * (Real.log 2)⁻¹ else 0
  let v : Fin 144 → ℕ → EReal := fun r n => if h : n < 16384 then V (ix4 0 0 r ⟨n, h⟩) else 0
  have es : ∀ n : Fin 16384, s n = S n * (Real.log 2)⁻¹ := fun n => dif_pos n.isLt
  have ev : ∀ (r : Fin 144) (n : Fin 16384), v r n = V (ix4 0 0 r n) := fun r n => dif_pos n.isLt
  obtain ⟨a, ha⟩ := tile_at Q K V s v y (fun n => by
    rw [es, ← hs n]
    refine Finset.sum_congr rfl fun d _ => ?_
    rw [q13, qAll_at]) (fun r n => (ev r n).symm)
  rw [ha r]
  have hl : Real.log 2 ≠ 0 := (Real.log_pos (by norm_num)).ne'
  rw [softmax_eq 16384 (by norm_num) s S (fun n => by rw [es, mul_assoc, inv_mul_cancel₀ hl, mul_one]) (v ⟨r, by omega⟩) (v 128)
    (fun n hn => (ev 128 ⟨n, hn⟩).trans (h1 ⟨n, hn⟩)) a β]
  refine Finset.sum_congr rfl fun n _ => ?_
  rw [ev]

/-- The packed contraction, as a real number: the two parts of the product, times the two scales. -/
theorem packed_sum (K Q : Fin 256 → EReal) (kn qn : Fin 128 → ℝ) (kr qr : Fin 64 → ℝ) (c l : ℝ)
    (hk : ∀ d : Fin 128, K ⟨d, by omega⟩ = (kn d : EReal)) (hq : ∀ d : Fin 128, Q ⟨d, by omega⟩ = (qn d : EReal))
    (hk' : ∀ d : Fin 64, K ⟨128 + d, by omega⟩ = (kr d : EReal)) (hq' : ∀ d : Fin 64, Q ⟨128 + d, by omega⟩ = (qr d : EReal))
    (hk0 : ∀ d : Fin 64, K ⟨192 + d, by omega⟩ = (0 : EReal)) :
    ∑ d : Fin 256, K d * (Q d * ((c * l : ℝ) : EReal)) = (((∑ d, qn d * c * kn d + ∑ d, kr d * (qr d * c)) * l : ℝ) : EReal) := by
  have split : ∀ f : Fin 256 → EReal, ∑ d, f d = (∑ d : Fin 128, f ⟨d, by omega⟩) + ((∑ d : Fin 64, f ⟨128 + d, by omega⟩) + ∑ d : Fin 64, f ⟨192 + d, by omega⟩) := by
    intro f
    rw [Fin.sum_univ_add (a := 128) (b := 128) f]
    rw [Fin.sum_univ_add (a := 64) (b := 64) (fun i => f (Fin.natAdd 128 i))]
    refine congrArg₂ _ rfl (congrArg₂ _ rfl ?_)
    refine Finset.sum_congr rfl fun d _ => congrArg f (Fin.ext ?_)
    simp [Fin.natAdd]; omega
  rw [split]
  simp only [hk, hq, hk', hq', hk0, zero_mul, Finset.sum_const_zero, add_zero, ← EReal.coe_mul, ← EReal.coe_add, coe_sum]
  refine congrArg _ ?_
  rw [add_mul, Finset.sum_mul, Finset.sum_mul]
  refine congrArg₂ _ (Finset.sum_congr rfl fun d _ => ?_) (Finset.sum_congr rfl fun d _ => ?_) <;> ring

/-- Where queries and keys are real, so are the reference's scores. -/
theorem sc_real (qn : FVec Ideal S2x16384x4x128 .f32) (qr : FVec Ideal S2x16384x4x64 .f32) (kn : FVec Ideal S2x16384x4x128 .f32)
    (kr : FVec Ideal S2x16384x64 .f32) (qn' kn' : S2x16384x4x128.Idx → ℝ) (qr' : S2x16384x4x64.Idx → ℝ) (kr' : S2x16384x64.Idx → ℝ)
    (hqn : ∀ i, qn i = (qn' i : EReal)) (hqr : ∀ i, qr i = (qr' i : EReal)) (hkn : ∀ i, kn i = (kn' i : EReal)) (hkr : ∀ i, kr i = (kr' i : EReal))
    (b : Fin 2) (h : Fin 4) (q n : Fin 16384) :
    SC qn qr kn kr (ix4 b h q n) = ((∑ d : Fin 128, qn' (ix4 b q h d) * (Real.sqrt 192)⁻¹ * kn' (ix4 b n h d)
      + ∑ d : Fin 64, kr' (ix3 b n d) * (qr' (ix4 b q h d) * (Real.sqrt 192)⁻¹) : ℝ) : EReal) := by
  rw [sc_at]
  simp only [hqn, hqr, hkn, hkr, ← EReal.coe_mul, coe_sum, ← EReal.coe_add]

end Cert.KernelIdeal.Value
end
-- ==== Proof.Blocks.lean ====
/- What the windows read at a grid point, in terms of the packed arrays. -/
module

public import proofs.«01_k».proof.Proof.Scores

@[expose] public section

set_option maxRecDepth 16384

noncomputable section

namespace Cert.KernelIdeal.Value

open Cert.KernelIdeal Cert.KernelIdeal.Gen Cert.KernelIdeal.Body Cert.Online
open Idealize.ShloMosaic Idealize.ShloMosaic.TcCoe Idealize.SL.Sem
open Idealize.ShloMosaic.Pipeline (Dat)
open Cert.ReferenceIdeal.RefValue (SC MX EX OUT REF sc_at ex_at mx_real out_at)

/-- Each window's block at a grid point: batch, head and query tile. -/
theorem idx : ∀ t : Fin cfg0.N,
    win0_0.index t = ![(grid0.coords t 0).val, (grid0.coords t 1).val, 0, (grid0.coords t 2).val]
    ∧ win0_1.index t = ![(grid0.coords t 0).val, (grid0.coords t 1).val, 0, 0]
    ∧ win0_2.index t = ![(grid0.coords t 0).val, (grid0.coords t 1).val, 0, 0]
    ∧ win0_3.index t = ![(grid0.coords t 0).val, (grid0.coords t 2).val, (grid0.coords t 1).val] :=
  (by decide +kernel : ∀ t : Fin grid0.N, _)

variable (m : (ℓ : Loc nD τ sig) → Buf (Elt Ideal) ℓ) (c : Dev nD) (t : Fin cfg0.N)

/-- The batch, the head and the query of a grid point's tile. -/
def bOf : Fin 2 := grid0.coords t 0
def hOf : Fin 4 := grid0.coords t 1
def qOf (y : Fin 1024) : Fin 16384 := ⟨(grid0.coords t 2).val * 1024 + y, by have : (grid0.coords t 2).val < 16 := (grid0.coords t 2).isLt; omega⟩

theorem q_blk (d : Fin 256) (y : Fin 1024) : (iblk m c 0 t : Vec Ideal S1x1x256x1024 .f32) (ix4 0 0 d y)
    = (show EReal from V m c main_v3 (ix4 (bOf t) (hOf t) d (qOf t y) : S2x4x256x16384.Idx)) := by
  blk_simp [iblk]
  refine congrArg (V m c main_v3) ?_
  blk_ext [idx t, bOf, hOf, qOf]

theorem k_blk (n : Fin 16384) (d : Fin 256) : (iblk m c 1 t : Vec Ideal S1x1x16384x256 .bf16) (ix4 0 0 n d)
    = (show EReal from V m c main_v9 (ix4 (bOf t) (hOf t) n d : S2x4x16384x256.Idx)) := by
  blk_simp [iblk]
  refine congrArg (V m c main_v9) ?_
  blk_ext [idx t, bOf, hOf]

theorem v_blk (r : Fin 144) (n : Fin 16384) : (iblk m c 2 t : Vec Ideal S1x1x144x16384 .bf16) (ix4 0 0 r n)
    = (show EReal from V m c main_v13 (ix4 (bOf t) (hOf t) r n : S2x4x144x16384.Idx)) := by
  blk_simp [iblk]
  refine congrArg (V m c main_v13) ?_
  blk_ext [idx t, bOf, hOf]

theorem o_emb (y : Fin 1024) (r : Fin 128) : (win0_3.blk t).view.emb (ix3 0 y r : S1x1024x128.Idx)
    = (ix3 (bOf t) (qOf t y) (⟨(hOf t).val * 128 + r, by have := (hOf t).isLt; omega⟩ : Fin 512) : S2x16384x512.Idx) := by
  blk_ext [idx t, bOf, hOf, qOf]

/-- Every entry of the queries and keys is a real number. -/
def Real : Prop :=
  (∀ i : S2x16384x4x128.Idx, ∃ r : ℝ, (show EReal from m (c, Proc.tc.devRef main_arg0) i) = (r : EReal))
  ∧ (∀ i : S2x16384x4x64.Idx, ∃ r : ℝ, (show EReal from m (c, Proc.tc.devRef main_arg1) i) = (r : EReal))
  ∧ (∀ i : S2x16384x4x128.Idx, ∃ r : ℝ, (show EReal from m (c, Proc.tc.devRef main_arg2) i) = (r : EReal))
  ∧ (∀ i : S2x16384x64.Idx, ∃ r : ℝ, (show EReal from m (c, Proc.tc.devRef main_arg3) i) = (r : EReal))

/-- The reference's term of the kernel's arguments. -/
def REFm : FVec Ideal S2x16384x512 .bf16 :=
  REF (m (c, Proc.tc.devRef main_arg0)) (m (c, Proc.tc.devRef main_arg1)) (m (c, Proc.tc.devRef main_arg2))
    (m (c, Proc.tc.devRef main_arg3)) (m (c, Proc.tc.devRef main_arg4))

end Cert.KernelIdeal.Value
end
-- ==== Proof.Point.lean ====
/- One entry of a tile is the reference's, where the queries and keys are real. -/
module

public import proofs.«01_k».proof.Proof.Blocks

@[expose] public section

set_option maxRecDepth 16384

noncomputable section

namespace Cert.KernelIdeal.Value

open Cert.KernelIdeal Cert.KernelIdeal.Gen Cert.KernelIdeal.Body Cert.Online
open Idealize.ShloMosaic Idealize.ShloMosaic.TcCoe Idealize.SL.Sem
open Idealize.ShloMosaic.Pipeline (Dat)
open Cert.ReferenceIdeal.RefValue (SC MX EX OUT REF sc_at ex_at mx_real out_at)

variable (m : (ℓ : Loc nD τ sig) → Buf (Elt Ideal) ℓ) (c : Dev nD) (t : Fin cfg0.N)

/-- One entry of a tile is the reference's entry at its place. -/
theorem point_at (hr : Real m c) (y : Fin 1024) (r : Fin 128) : (outAt m c t (ix3 0 y r : S1x1024x128.Idx) : EReal)
    = REFm m c (ix3 (bOf t) (qOf t y) (⟨(hOf t).val * 128 + r, by have := (hOf t).isLt; omega⟩ : Fin 512)) := by
  unfold Real at hr
  obtain ⟨h0, h1, h2, h3⟩ := hr
  choose qn hqn using h0
  choose qr hqr using h1
  choose kn hkn using h2
  choose kr hkr using h3
  have hsc := sc_real (m (c, Proc.tc.devRef main_arg0)) (m (c, Proc.tc.devRef main_arg1)) (m (c, Proc.tc.devRef main_arg2))
    (m (c, Proc.tc.devRef main_arg3)) qn kn qr kr hqn hqr hkn hkr
  obtain ⟨β, hβ⟩ := mx_real (SC (m (c, Proc.tc.devRef main_arg0)) (m (c, Proc.tc.devRef main_arg1)) (m (c, Proc.tc.devRef main_arg2))
    (m (c, Proc.tc.devRef main_arg3))) (fun i => by rw [eq_ix4 i]; exact ⟨_, hsc _ _ _ _⟩) (bOf t) (hOf t) (qOf t y)
  refine Eq.trans (tile_softmax (iblk m c 0 t) (iblk m c 1 t) (iblk m c 2 t) y
    (fun n => ∑ d : Fin 128, qn (ix4 (bOf t) (qOf t y) (hOf t) d) * (Real.sqrt 192)⁻¹ * kn (ix4 (bOf t) n (hOf t) d)
      + ∑ d : Fin 64, kr (ix3 (bOf t) n d) * (qr (ix4 (bOf t) (qOf t y) (hOf t) d) * (Real.sqrt 192)⁻¹)) (fun n => ?_) (fun n => ?_) β r) ?_
  · refine packed_sum (fun d => (iblk m c 1 t : Vec Ideal S1x1x16384x256 .bf16) (ix4 0 0 n d))
      (fun d => (iblk m c 0 t : Vec Ideal S1x1x256x1024 .f32) (ix4 0 0 d y))
      (fun d => kn (ix4 (bOf t) n (hOf t) d)) (fun d => qn (ix4 (bOf t) (qOf t y) (hOf t) d)) (fun d => kr (ix3 (bOf t) n d))
      (fun d => qr (ix4 (bOf t) (qOf t y) (hOf t) d)) _ _ (fun d => ?_) (fun d => ?_) (fun d => ?_) (fun d => ?_) (fun d => ?_)
    · exact (k_blk m c t n _).trans ((k_nope_at m c _ _ n d).trans (hkn _))
    · exact (q_blk m c t _ y).trans ((q_nope_at m c _ _ _ d).trans (hqn _))
    · exact (k_blk m c t n _).trans ((k_rope_at m c _ _ n d).trans (hkr _))
    · exact (q_blk m c t _ y).trans ((q_rope_at m c _ _ _ d).trans (hqr _))
    · exact (k_blk m c t n _).trans (k_pad_at m c _ _ n d)
  · exact (v_blk m c t _ n).trans (one_at m c _ _ n)
  · refine Eq.trans ?_ (out_at _ _ (bOf t) (qOf t y) (hOf t) r _ rfl).symm
    refine Finset.sum_congr rfl fun n _ => ?_
    refine Ideal.mul_congr ((v_blk m c t _ n).trans (v_at m c _ _ n r)) ?_
    simp only [ex_at, hsc, hβ]

end Cert.KernelIdeal.Value
end
-- ==== Proof.Final.lean ====
/- The kernel's result array is the reference's term of its arguments, where the queries and keys are real. -/
module

public import proofs.«01_k».proof.Proof.Point

@[expose] public section

set_option maxRecDepth 16384

noncomputable section

namespace Cert.KernelIdeal.Value

open Cert.KernelIdeal Cert.KernelIdeal.Gen Cert.KernelIdeal.Body Cert.Online
open Idealize.ShloMosaic Idealize.ShloMosaic.TcCoe Idealize.SL.Sem
open Idealize.ShloMosaic.Pipeline (Dat)
open Cert.ReferenceIdeal.RefValue (SC MX EX OUT REF sc_at ex_at mx_real out_at)

variable (m : (ℓ : Loc nD τ sig) → Buf (Elt Ideal) ℓ) (c : Dev nD) (t : Fin cfg0.N)

/-- The same at an index of the block. -/
theorem point (hr : Real m c) (y : S1x1024x128.Idx) : (outAt m c t y : EReal) = REFm m c ((win0_3.blk t).view.emb y) := by
  have e : y = ix3 0 (y 1) (y 2) := (eq_ix3 y).trans (congrArg (fun z => ix3 z (y 1) (y 2)) (Subsingleton.elim (α := Fin 1) _ _))
  rw [e]
  exact (point_at m c t hr (y 1) (y 2)).trans (congrArg (REFm m c) (o_emb t (y 1) (y 2)).symm)

/-- After the run the result array is the reference's term of the arguments. -/
theorem final (hr : Real m c) : (dats m 0 c).arrAt 3 (cfgs 0).N = REFm m c := by
  refine (dats m 0 c).arrAt_eq_of_covers 3 _ (by decide +kernel) fun t _ y => ?_
  blk_simp
  rw [after0_3]
  exact point m c t hr y

end Cert.KernelIdeal.Value
end
-- ==== Proof.Algebraic.lean ====
/- Where queries and keys are finite, the idealized kernel and the reference compute the same array. -/
module

public import proofs.«01_k».proof.Defs
public import proofs.«01_k».proof.Proof.Final
public import proofs.«01_k».proof.Proof.Gen.Pre_finite
public import Idealize.ShloMosaic.Lib.ReduceAll

@[expose] public section

set_option maxRecDepth 16384

noncomputable section

namespace Cert.Proof.Algebraic

open Idealize.ShloMosaic Idealize.ShloMosaic.TcCoe Idealize.SL.Sem
open Cert.KernelIdeal Cert.KernelIdeal.Gen Cert.KernelIdeal.Body
open Cert.KernelIdeal.Value (Real REFm final)

/-- A comparison of a magnitude with infinity that says "less" is of a real number. -/
theorem real_of_lt {s : Shape} (x : FVec Ideal s .f32) (y : FVec Ideal s .f32) (i : s.Idx) (hy : y i = (⊤ : EReal))
    (e : cmpf .olt (Host.absf x) y i = 1#1) : ∃ r : ℝ, x i = (r : EReal) := by
  have h : max (x i : EReal) (-(x i : EReal)) < (y i : EReal) := (Ideal.cmp_olt_eq_one _ _).1 e
  rw [hy] at h
  obtain ⟨h1, h2⟩ := max_lt_iff.1 h
  refine ⟨(x i : EReal).toReal, (EReal.coe_toReal h1.ne ?_).symm⟩
  intro hb
  rw [hb] at h2
  exact absurd h2 (by simp)

/-- The precondition says that every entry of the queries and keys is real. -/
theorem real_of_finite (m : (ℓ : Loc Cert.KernelIdeal.nD Cert.KernelIdeal.τ Cert.KernelIdeal.sig) → Buf (Elt Ideal) ℓ)
    (hm : Cert.Pre_KernelIdeal_finite m) (c : Dev Cert.KernelIdeal.nD) : Real m c := by
  have e := congrFun (hm c) ix0
  obtain ⟨e, e3⟩ := IntOp.andi_eq_one.1 e
  obtain ⟨e, e2⟩ := IntOp.andi_eq_one.1 e
  obtain ⟨e0, e1⟩ := IntOp.andi_eq_one.1 e
  have top : Ideal.ofBits .f32 0x7F800000#32 = (⊤ : EReal) := by simp [Ideal.ofBits, Ideal.ieee]
  exact ⟨fun i => real_of_lt _ _ i top (Host.reduce_andi_all _ _ _ _ _ e0 i),
    fun i => real_of_lt _ _ i top (Host.reduce_andi_all _ _ _ _ _ e1 i),
    fun i => real_of_lt _ _ i top (Host.reduce_andi_all _ _ _ _ _ e2 i),
    fun i => real_of_lt _ _ i top (Host.reduce_andi_all _ _ _ _ _ e3 i)⟩

/-- From finite queries and keys, the idealized kernel and the reference end with equal arrays. -/
theorem algebraic : Cert.algebraic_KernelIdeal_ReferenceIdeal_pre_finite := by
  intro m ρ m' ρ' hpre hagree
  refine ⟨fun c => REFm m c, ?_, ?_⟩
  · refine (θ_run Cert.KernelIdeal.defs _ _).mono (fun r h c => ?_) (Cert.KernelIdeal.Body.run_main (F := Ideal) m ρ)
    exact ⟨((h.1 c).1 3).trans (final m c (real_of_finite m hpre c)),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩
  · refine (θ_run Cert.ReferenceIdeal.defs _ _).mono (fun _ h c => ⟨(h c).1.trans ?_, (h c).2⟩) (Cert.ReferenceIdeal.RefValue.run m' ρ')
    obtain ⟨e0, e1, e2, e3, e4⟩ := hagree c
    rw [e0, e1, e2, e3, e4]
    rfl

end Cert.Proof.Algebraic

end
-- ==== Proof.PostSpec.lean ====
/- The arithmetic of one row of the layer's last call, over the extended reals, and the splitting of its long sums. -/
module

public import Idealize.ShloMosaic.Lib.Pointwise

@[expose] public section

noncomputable section

namespace Cert.Post

open Idealize.ShloMosaic

/-- The root-mean-square normalisation of a row, with the row's length as a word, times a gain. -/
def rms {n : ℕ} (N : BitVec 32) (x g : Fin n → EReal) (j : Fin n) : EReal :=
  x j * Ideal.rsqrt (Ideal.div (∑ k, x k * x k) (Ideal.ofBits .f32 N) + Ideal.ofBits .f32 897988541#32) * g j

/-- The gate of the delta rule's output. -/
def silu (z : EReal) : EReal := z * Ideal.div 1 (1 + Ideal.exp (0 - z))

/-- Column `a + d` of a head that starts at column `a` of the 512 columns of the delta rule's output. -/
abbrev col (a : ℕ) (ha : a + 128 ≤ 512) (d : Fin 128) : Fin 512 := ⟨a + d.val, by omega⟩

/-- The head's gated, normalised output. -/
def headVal (o z : Fin 512 → EReal) (g : Fin 128 → EReal) (a : ℕ) (ha : a + 128 ≤ 512) (d : Fin 128) : EReal :=
  rms 1124073472#32 (fun d => o (col a ha d)) g d * silu (z (col a ha d))

/-- The head's part of the output projection. -/
def headSum (o z : Fin 512 → EReal) (g : Fin 128 → EReal) (w : Fin 1024 → Fin 1024 → EReal) (a : ℕ) (ha : a + 128 ≤ 512)
    (j : Fin 1024) : EReal :=
  ∑ d : Fin 128, headVal o z g a ha d * w ⟨512 + a + d.val, by omega⟩ j

/-- The output projection: the attention's half and the four heads. -/
def mixRow (om o z : Fin 512 → EReal) (g : Fin 128 → EReal) (w : Fin 1024 → Fin 1024 → EReal) (j : Fin 1024) : EReal :=
  (∑ k : Fin 512, om k * w ⟨k.val, by omega⟩ j) + headSum o z g w 0 (by omega) j + headSum o z g w 128 (by omega) j
    + headSum o z g w 256 (by omega) j + headSum o z g w 384 (by omega) j

/-- A normalised row, scaled and shifted. -/
def modRow (x g sc sh : Fin 1024 → EReal) (j : Fin 1024) : EReal := rms 1149239296#32 x g j * (1 + sc j) + sh j

/-- One squared hidden unit times its output weight. -/
def unit (h : Fin 1024 → EReal) (w1 : Fin 1024 → Fin 4096 → EReal) (w2 : Fin 4096 → Fin 1024 → EReal) (j : Fin 1024) (k : Fin 4096) :
    EReal :=
  max (∑ i : Fin 1024, h i * w1 i k) 0 * max (∑ i : Fin 1024, h i * w1 i k) 0 * w2 k j

/-- The two-layer network, all hidden units at once. -/
def mlpRow (h : Fin 1024 → EReal) (w1 : Fin 1024 → Fin 4096 → EReal) (w2 : Fin 4096 → Fin 1024 → EReal) (j : Fin 1024) : EReal :=
  ∑ k : Fin 4096, unit h w1 w2 j k

/-- The hidden units of one block of 1024. -/
def blkSum (h : Fin 1024 → EReal) (w1 : Fin 1024 → Fin 4096 → EReal) (w2 : Fin 4096 → Fin 1024 → EReal) (j : Fin 1024) (a : ℕ)
    (ha : a + 1024 ≤ 4096) : EReal :=
  ∑ k : Fin 1024, unit h w1 w2 j ⟨a + k.val, by omega⟩

/-- The row after a gated branch. -/
def resRow (x ga y : Fin 1024 → EReal) (j : Fin 1024) : EReal := x j + ga j * y j

/-- The row of the result. -/
def outRow (x ga sm cm gb sf cf : Fin 1024 → EReal) (om o z : Fin 512 → EReal) (g : Fin 128 → EReal)
    (w : Fin 1024 → Fin 1024 → EReal) (gm : Fin 1024 → EReal) (w1 : Fin 1024 → Fin 4096 → EReal)
    (w2 : Fin 4096 → Fin 1024 → EReal) (gf : Fin 1024 → EReal) (j : Fin 1024) : EReal :=
  modRow (resRow (resRow x ga (mixRow om o z g w)) gb (mlpRow (modRow (resRow x ga (mixRow om o z g w)) gm cm sm) w1 w2)) gf cf sf j

/-- A sum over `a + b` places is the sum over the first `a` and the sum over the last `b`. -/
theorem sum_add {a b n : ℕ} (h : n = a + b) (f : Fin n → EReal) :
    ∑ k, f k = (∑ k : Fin a, f ⟨k.val, by omega⟩) + ∑ k : Fin b, f ⟨a + k.val, by omega⟩ := by
  subst h
  rw [Fin.sum_univ_add]
  rfl

/-- The network's sum in four blocks. -/
theorem mlpRow_split (h : Fin 1024 → EReal) (w1 : Fin 1024 → Fin 4096 → EReal) (w2 : Fin 4096 → Fin 1024 → EReal) (j : Fin 1024) :
    mlpRow h w1 w2 j = blkSum h w1 w2 j 0 (by omega) + blkSum h w1 w2 j 1024 (by omega) + blkSum h w1 w2 j 2048 (by omega)
      + blkSum h w1 w2 j 3072 (by omega) := by
  unfold mlpRow blkSum
  rw [sum_add (a := 3072) (b := 1024) (by omega), sum_add (n := 3072) (a := 2048) (b := 1024) (by omega),
    sum_add (n := 2048) (a := 1024) (b := 1024) (by omega)]
  simp only [Nat.zero_add]

/-- The output projection with the heads' half as one sum over its 512 inputs. -/
theorem mixRow_eq (om o z : Fin 512 → EReal) (g : Fin 128 → EReal) (w : Fin 1024 → Fin 1024 → EReal) (j : Fin 1024)
    (f : Fin 512 → EReal)
    (e : ∀ (h : Fin 4) (d : Fin 128) (ha : h.val * 128 + 128 ≤ 512), f ⟨h.val * 128 + d.val, by omega⟩ = headVal o z g (h.val * 128) ha d) :
    (∑ k : Fin 512, om k * w ⟨k.val, by omega⟩ j) + ∑ k : Fin 512, f k * w ⟨512 + k.val, by omega⟩ j = mixRow om o z g w j := by
  have e' (h : Fin 4) (a : ℕ) (ha : a + 128 ≤ 512) (p : h.val * 128 = a) (d : Fin 128) : f ⟨a + d.val, by omega⟩ = headVal o z g a ha d := by
    subst p
    exact e h d ha
  unfold mixRow headSum
  generalize (∑ k : Fin 512, om k * w ⟨k.val, by omega⟩ j) = q
  rw [sum_add (n := 512) (a := 384) (b := 128) (by omega), sum_add (n := 384) (a := 256) (b := 128) (by omega),
    sum_add (n := 256) (a := 128) (b := 128) (by omega)]
  simp only [← add_assoc]
  refine congrArg₂ _ (congrArg₂ _ (congrArg₂ _ (congrArg₂ _ rfl ?_) ?_) ?_) ?_
  · refine Finset.sum_congr rfl fun k _ => ?_
    rw [← e' 0 0 (by omega) rfl k]
    simp only [Nat.zero_add, Nat.add_zero]
  · refine Finset.sum_congr rfl fun k _ => ?_
    rw [← e' 1 128 (by omega) rfl k]
  · refine Finset.sum_congr rfl fun k _ => ?_
    rw [← e' 2 256 (by omega) rfl k]
  · refine Finset.sum_congr rfl fun k _ => ?_
    rw [← e' 3 384 (by omega) rfl k]

end Cert.Post
end
-- ==== Proof.PostTile.lean ====
/- What the last call's body stores, at an index: one row's arithmetic, from the blocks. -/
module

public import proofs.«01_k».proof.Proof.Gen.Kernel2Ideal.Value
public import proofs.«01_k».proof.Proof.PostSpec
public import Idealize.ShloMosaic.Lib.Pipeline.ValueKit
public import Idealize.ShloMosaic.Lib.Pointwise

@[expose] public section

set_option maxRecDepth 16384

noncomputable section

namespace Cert.Kernel2Ideal.Post

open Cert.Kernel2Ideal Cert.Kernel2Ideal.Gen Cert.Post
open Idealize.ShloMosaic Idealize.ShloMosaic.TcCoe Idealize.SL.Sem

variable (x0 : Vec Ideal S1x512x1024 .f32) (x1 : Vec Ideal S1x1x6144 .f32) (x2 : Vec Ideal S1x1x2048 .f32)
  (x3 : Vec Ideal S1x512x512 .bf16) (x4 x5 x6 : Vec Ideal S1x512x512 .f32) (x7 : Vec Ideal S1x128 .f32)
  (x8 : Vec Ideal S1024x1024 .bf16) (x9 : Vec Ideal S1x1024 .f32) (x10 : Vec Ideal S1024x4096 .bf16)
  (x11 : Vec Ideal S4096x1024 .bf16) (x12 : Vec Ideal S1x1024 .f32)

/-- The mixers' sum after three heads. -/
theorem mix3_at (y : Fin 512) (j : Fin 1024) : k0_pay33 x0 x1 x2 x3 x4 x5 x6 x7 x8 x9 x10 x11 x12 (ix2 y j)
    = (∑ k : Fin 512, x3 (ix3 0 y k) * x8 (ix2 ⟨k.val, by omega⟩ j))
      + headSum (fun l => x4 (ix3 0 y l) + x5 (ix3 0 y l)) (fun l => x6 (ix3 0 y l)) (fun d => x7 (ix2 0 d)) (fun i j => x8 (ix2 i j)) 0 (by omega) j
      + headSum (fun l => x4 (ix3 0 y l) + x5 (ix3 0 y l)) (fun l => x6 (ix3 0 y l)) (fun d => x7 (ix2 0 d)) (fun i j => x8 (ix2 i j)) 128 (by omega) j
      + headSum (fun l => x4 (ix3 0 y l) + x5 (ix3 0 y l)) (fun l => x6 (ix3 0 y l)) (fun d => x7 (ix2 0 d)) (fun i j => x8 (ix2 i j)) 256 (by omega) j := by
  pointwise [k0_pay33, k0_pay31, k0_pay32, k0_pay21, k0_pay17, k0_pay13, k0_pay14, k0_pay15, k0_pay16, k0_pay18, k0_pay19, k0_pay20, k0_pay11, k0_pay12, headSum, headVal, rms, silu]
  simp only [col, Nat.zero_add]

/-- The block of rows after the gated mixers. -/
def x1blk : FVec Ideal S512x1024 .f32 :=
  k0_pay25 (k0_pay29 x0 x1 x2 x3 x4 x5 x6 x7 x8 x9 x10 x11 x12) (k0_pay30 x0 x1 x2 x3 x4 x5 x6 x7 x8 x9 x10 x11 x12) (k0_pay32 x0 x1 x2 x3 x4 x5 x6 x7 x8 x9 x10 x11 x12) (k0_pay33 x0 x1 x2 x3 x4 x5 x6 x7 x8 x9 x10 x11 x12) (k0_pay34 x0 x1 x2 x3 x4 x5 x6 x7 x8 x9 x10 x11 x12) (View.ld x7 r0_5) (k0_pay35 x0 x1 x2 x3 x4 x5 x6 x7 x8 x9 x10 x11 x12) (k0_pay36 x0 x1 x2 x3 x4 x5 x6 x7 x8 x9 x10 x11 x12) (View.ld x8 r0_9)

/-- The first three blocks of hidden units. -/
def accblk : FVec Ideal S512x1024 .f32 :=
  k0_pay27 (k0_pay37 x0 x1 x2 x3 x4 x5 x6 x7 x8 x9 x10 x11 x12) (Scalar.ofBits .f32 0x00000000#32) (View.ld x10 r0_11) (View.ld x11 r0_12) (View.ld x10 r0_13) (View.ld x11 r0_14) (View.ld x10 r0_15) (View.ld x11 r0_16)

/-- A row after the gated mixers. -/
theorem x1_at (y : Fin 512) (j : Fin 1024) : x1blk x0 x1 x2 x3 x4 x5 x6 x7 x8 x9 x10 x11 x12 (ix2 y j)
    = resRow (fun j => x0 (ix3 0 y j)) (fun j => x1 (ix3 0 0 ⟨2048 + j.val, by omega⟩)) (mixRow (fun k => x3 (ix3 0 y k)) (fun l => x4 (ix3 0 y l) + x5 (ix3 0 y l)) (fun l => x6 (ix3 0 y l)) (fun d => x7 (ix2 0 d)) (fun i j => x8 (ix2 i j))) j := by
  unfold resRow mixRow
  rw [← mix3_at x0 x1 x2 x3 x4 x5 x6 x7 x8 x9 x10 x11 x12]
  pointwise [x1blk, k0_pay25, k0_pay29, k0_pay2, k0_pay30, k0_pay4, k0_pay3, k0_pay32, k0_pay34, k0_pay22, k0_pay35, k0_pay23, k0_pay36, k0_pay24, k0_pay31, k0_pay11, k0_pay12, headSum, headVal, rms, silu]

/-- A row of the network's input. -/
theorem h_at (y : Fin 512) (j : Fin 1024) : k0_pay37 x0 x1 x2 x3 x4 x5 x6 x7 x8 x9 x10 x11 x12 (ix2 y j)
    = modRow (resRow (fun j => x0 (ix3 0 y j)) (fun j => x1 (ix3 0 0 ⟨2048 + j.val, by omega⟩)) (mixRow (fun k => x3 (ix3 0 y k)) (fun l => x4 (ix3 0 y l) + x5 (ix3 0 y l)) (fun l => x6 (ix3 0 y l)) (fun d => x7 (ix2 0 d)) (fun i j => x8 (ix2 i j)))) (fun j => x9 (ix2 0 j)) (fun j => x1 (ix3 0 0 ⟨4096 + j.val, by omega⟩)) (fun j => x1 (ix3 0 0 ⟨3072 + j.val, by omega⟩)) j := by
  unfold modRow rms
  simp only [← x1_at x0 x1 x2 x3 x4 x5 x6 x7 x8 x9 x10 x11 x12]
  pointwise [k0_pay37, k0_pay26, x1blk, k0_pay25, k0_pay5, k0_pay6, k0_pay3]

/-- The network over its first three blocks of hidden units. -/
theorem acc_at (y : Fin 512) (j : Fin 1024) : accblk x0 x1 x2 x3 x4 x5 x6 x7 x8 x9 x10 x11 x12 (ix2 y j)
    = blkSum (modRow (resRow (fun j => x0 (ix3 0 y j)) (fun j => x1 (ix3 0 0 ⟨2048 + j.val, by omega⟩)) (mixRow (fun k => x3 (ix3 0 y k)) (fun l => x4 (ix3 0 y l) + x5 (ix3 0 y l)) (fun l => x6 (ix3 0 y l)) (fun d => x7 (ix2 0 d)) (fun i j => x8 (ix2 i j)))) (fun j => x9 (ix2 0 j)) (fun j => x1 (ix3 0 0 ⟨4096 + j.val, by omega⟩)) (fun j => x1 (ix3 0 0 ⟨3072 + j.val, by omega⟩))) (fun i k => x10 (ix2 i k)) (fun k j => x11 (ix2 k j)) j 0 (by omega) + blkSum (modRow (resRow (fun j => x0 (ix3 0 y j)) (fun j => x1 (ix3 0 0 ⟨2048 + j.val, by omega⟩)) (mixRow (fun k => x3 (ix3 0 y k)) (fun l => x4 (ix3 0 y l) + x5 (ix3 0 y l)) (fun l => x6 (ix3 0 y l)) (fun d => x7 (ix2 0 d)) (fun i j => x8 (ix2 i j)))) (fun j => x9 (ix2 0 j)) (fun j => x1 (ix3 0 0 ⟨4096 + j.val, by omega⟩)) (fun j => x1 (ix3 0 0 ⟨3072 + j.val, by omega⟩))) (fun i k => x10 (ix2 i k)) (fun k j => x11 (ix2 k j)) j 1024 (by omega) + blkSum (modRow (resRow (fun j => x0 (ix3 0 y j)) (fun j => x1 (ix3 0 0 ⟨2048 + j.val, by omega⟩)) (mixRow (fun k => x3 (ix3 0 y k)) (fun l => x4 (ix3 0 y l) + x5 (ix3 0 y l)) (fun l => x6 (ix3 0 y l)) (fun d => x7 (ix2 0 d)) (fun i j => x8 (ix2 i j)))) (fun j => x9 (ix2 0 j)) (fun j => x1 (ix3 0 0 ⟨4096 + j.val, by omega⟩)) (fun j => x1 (ix3 0 0 ⟨3072 + j.val, by omega⟩))) (fun i k => x10 (ix2 i k)) (fun k j => x11 (ix2 k j)) j 2048 (by omega) := by
  unfold blkSum unit
  simp only [← h_at x0 x1 x2 x3 x4 x5 x6 x7 x8 x9 x10 x11 x12]
  pointwise [accblk, k0_pay27]

/-- What the body stores is the row's arithmetic. -/
theorem out_at (y : Fin 512) (j : Fin 1024) : k0_pay1 (k0_pay7 (View.ld x1 r0_1)) (k0_pay9 (View.ld x2 r0_2)) (k0_pay10 (View.ld x2 r0_2)) (x1blk x0 x1 x2 x3 x4 x5 x6 x7 x8 x9 x10 x11 x12) (k0_pay37 x0 x1 x2 x3 x4 x5 x6 x7 x8 x9 x10 x11 x12) (accblk x0 x1 x2 x3 x4 x5 x6 x7 x8 x9 x10 x11 x12) (k0_pay28 (View.ld x10 r0_17)) (constant S512x1024 .f32 0x00000000#32) (View.ld x11 r0_18) (View.ld x12 r0_10) (ix3 0 y j)
    = outRow (fun j => x0 (ix3 0 y j)) (fun j => x1 (ix3 0 0 ⟨2048 + j.val, by omega⟩)) (fun j => x1 (ix3 0 0 ⟨3072 + j.val, by omega⟩))
        (fun j => x1 (ix3 0 0 ⟨4096 + j.val, by omega⟩)) (fun j => x1 (ix3 0 0 ⟨5120 + j.val, by omega⟩))
        (fun j => x2 (ix3 0 0 ⟨j.val, by omega⟩)) (fun j => x2 (ix3 0 0 ⟨1024 + j.val, by omega⟩))
        (fun k => x3 (ix3 0 y k)) (fun l => x4 (ix3 0 y l) + x5 (ix3 0 y l)) (fun l => x6 (ix3 0 y l)) (fun d => x7 (ix2 0 d)) (fun i j => x8 (ix2 i j))
        (fun j => x9 (ix2 0 j)) (fun i k => x10 (ix2 i k)) (fun k j => x11 (ix2 k j)) (fun j => x12 (ix2 0 j)) j := by
  have ex : resRow (fun j => x0 (ix3 0 y j)) (fun j => x1 (ix3 0 0 ⟨2048 + j.val, by omega⟩)) (mixRow (fun k => x3 (ix3 0 y k)) (fun l => x4 (ix3 0 y l) + x5 (ix3 0 y l)) (fun l => x6 (ix3 0 y l)) (fun d => x7 (ix2 0 d)) (fun i j => x8 (ix2 i j))) = fun j => x1blk x0 x1 x2 x3 x4 x5 x6 x7 x8 x9 x10 x11 x12 (ix2 y j) := funext fun j => (x1_at x0 x1 x2 x3 x4 x5 x6 x7 x8 x9 x10 x11 x12 y j).symm
  have eh : modRow (fun j => x1blk x0 x1 x2 x3 x4 x5 x6 x7 x8 x9 x10 x11 x12 (ix2 y j)) (fun j => x9 (ix2 0 j)) (fun j => x1 (ix3 0 0 ⟨4096 + j.val, by omega⟩)) (fun j => x1 (ix3 0 0 ⟨3072 + j.val, by omega⟩))
      = fun j => k0_pay37 x0 x1 x2 x3 x4 x5 x6 x7 x8 x9 x10 x11 x12 (ix2 y j) := by
    rw [← ex]
    exact funext fun j => (h_at x0 x1 x2 x3 x4 x5 x6 x7 x8 x9 x10 x11 x12 y j).symm
  have ea (j : Fin 1024) := acc_at x0 x1 x2 x3 x4 x5 x6 x7 x8 x9 x10 x11 x12 y j
  rw [ex, eh] at ea
  unfold outRow
  rw [ex, eh]
  unfold modRow rms resRow
  simp only [mlpRow_split, ← ea]
  pointwise [k0_pay1, k0_pay7, k0_pay9, k0_pay10, k0_pay28, k0_pay3, k0_pay8, blkSum, unit]

/-- The one store fills the block. -/
theorem canon_at (p : Vec Ideal S1x512x1024 .f32) (i : S1x512x1024.Idx) :
    View.canon ([⟨r0_0, p⟩] : List (View.Piece (Elt Ideal) S1x512x1024 .f32)) i = p i := by
  frame_out

/-- What the body leaves in the result's block is the row's arithmetic. -/
theorem out0_at (y : Fin 512) (j : Fin 1024) : out0_13 x0 x1 x2 x3 x4 x5 x6 x7 x8 x9 x10 x11 x12 (ix3 0 y j)
    = outRow (fun j => x0 (ix3 0 y j)) (fun j => x1 (ix3 0 0 ⟨2048 + j.val, by omega⟩)) (fun j => x1 (ix3 0 0 ⟨3072 + j.val, by omega⟩))
        (fun j => x1 (ix3 0 0 ⟨4096 + j.val, by omega⟩)) (fun j => x1 (ix3 0 0 ⟨5120 + j.val, by omega⟩))
        (fun j => x2 (ix3 0 0 ⟨j.val, by omega⟩)) (fun j => x2 (ix3 0 0 ⟨1024 + j.val, by omega⟩))
        (fun k => x3 (ix3 0 y k)) (fun l => x4 (ix3 0 y l) + x5 (ix3 0 y l)) (fun l => x6 (ix3 0 y l)) (fun d => x7 (ix2 0 d)) (fun i j => x8 (ix2 i j))
        (fun j => x9 (ix2 0 j)) (fun i k => x10 (ix2 i k)) (fun k j => x11 (ix2 k j)) (fun j => x12 (ix2 0 j)) j := by
  exact (canon_at _ (ix3 0 y j)).trans (out_at x0 x1 x2 x3 x4 x5 x6 x7 x8 x9 x10 x11 x12 y j)

end Cert.Kernel2Ideal.Post
end
-- ==== Proof.PostBlocks.lean ====
/- What the last call's windows read at a grid point, in terms of the arguments. -/
module

public import proofs.«01_k».proof.Proof.PostTile
public import Idealize.ShloMosaic.Lib.Claim

@[expose] public section

set_option maxRecDepth 16384

noncomputable section

namespace Cert.Kernel2Ideal.Post

open Cert.Kernel2Ideal Cert.Kernel2Ideal.Gen Cert.Post
open Idealize.ShloMosaic Idealize.ShloMosaic.TcCoe Idealize.SL.Sem
open Idealize.ShloMosaic.Pipeline (Dat)

/-- Each window's block at a grid point: batch and tile of 512 rows. -/
theorem idx : ∀ t : Fin cfg0.N,
    win0_0.index t = ![(grid0.coords t 0).val, (grid0.coords t 1).val, 0]
    ∧ win0_1.index t = ![(grid0.coords t 0).val, 0, 0]
    ∧ win0_2.index t = ![(grid0.coords t 0).val, 0, 0]
    ∧ win0_3.index t = ![(grid0.coords t 0).val, (grid0.coords t 1).val, 0]
    ∧ win0_4.index t = ![(grid0.coords t 0).val, (grid0.coords t 1).val, 0]
    ∧ win0_5.index t = ![(grid0.coords t 0).val, (grid0.coords t 1).val, 0]
    ∧ win0_6.index t = ![(grid0.coords t 0).val, (grid0.coords t 1).val, 0]
    ∧ win0_7.index t = ![0, 0]
    ∧ win0_8.index t = ![0, 0]
    ∧ win0_9.index t = ![0, 0]
    ∧ win0_10.index t = ![0, 0]
    ∧ win0_11.index t = ![0, 0]
    ∧ win0_12.index t = ![0, 0]
    ∧ win0_13.index t = ![(grid0.coords t 0).val, (grid0.coords t 1).val, 0] :=
  (by decide +kernel : ∀ t : Fin grid0.N, _)

variable (m : (ℓ : Loc nD τ sig) → Buf (Elt Ideal) ℓ) (c : Dev nD)

/-- The batch of a grid point's tile. -/
def bOf (t : Fin cfg0.N) : Fin 2 := grid0.coords t 0

/-- The array's row of a row of a grid point's tile. -/
def sOf (t : Fin cfg0.N) (y : Fin 512) : Fin 16384 :=
  ⟨(grid0.coords t 1).val * 512 + y, by have : (grid0.coords t 1).val < 32 := (grid0.coords t 1).isLt; omega⟩

/-- The layer's input. -/
theorem x_blk (t : Fin cfg0.N) (y : Fin 512) (j : Fin 1024) : (iblk m c 0 t : Vec Ideal S1x512x1024 .f32) (ix3 0 y j)
    = (show EReal from m (c, Proc.tc.devRef main_arg0) (ix3 (bOf t) (sOf t y) j : S2x16384x1024.Idx)) := by
  blk_simp [iblk]
  refine (congrFun (V_main_arg0 m c) _).trans (congrArg (m (c, Proc.tc.devRef main_arg0)) ?_)
  blk_ext [idx t, bOf, sOf]

/-- The modulation vectors. -/
theorem mod_blk_host (b : Fin 2) (j : Fin 6144) : (show EReal from V m c main_v0 (ix3 b 0 j : S2x1x6144.Idx))
    = (show EReal from m (c, Proc.tc.devRef main_arg1) (ix2 b j : S2x6144.Idx)) := by
  entry_read
  pointwise []

/-- The modulation vectors. -/
theorem mod_blk (t : Fin cfg0.N) (j : Fin 6144) : (iblk m c 1 t : Vec Ideal S1x1x6144 .f32) (ix3 0 0 j)
    = (show EReal from m (c, Proc.tc.devRef main_arg1) (ix2 (bOf t) j : S2x6144.Idx)) := by
  refine Eq.trans ?_ (mod_blk_host m c (bOf t) j)
  blk_simp [iblk]
  refine congrArg (V m c main_v0) ?_
  blk_ext [idx t, bOf]

/-- The final modulation vectors. -/
theorem modf_blk_host (b : Fin 2) (j : Fin 2048) : (show EReal from V m c main_v1 (ix3 b 0 j : S2x1x2048.Idx))
    = (show EReal from m (c, Proc.tc.devRef main_arg2) (ix2 b j : S2x2048.Idx)) := by
  entry_read
  pointwise []

/-- The final modulation vectors. -/
theorem modf_blk (t : Fin cfg0.N) (j : Fin 2048) : (iblk m c 2 t : Vec Ideal S1x1x2048 .f32) (ix3 0 0 j)
    = (show EReal from m (c, Proc.tc.devRef main_arg2) (ix2 (bOf t) j : S2x2048.Idx)) := by
  refine Eq.trans ?_ (modf_blk_host m c (bOf t) j)
  blk_simp [iblk]
  refine congrArg (V m c main_v1) ?_
  blk_ext [idx t, bOf]

/-- The attention's output. -/
theorem om_blk (t : Fin cfg0.N) (y : Fin 512) (j : Fin 512) : (iblk m c 3 t : Vec Ideal S1x512x512 .bf16) (ix3 0 y j)
    = (show EReal from m (c, Proc.tc.devRef main_arg3) (ix3 (bOf t) (sOf t y) j : S2x16384x512.Idx)) := by
  blk_simp [iblk]
  refine (congrFun (V_main_arg3 m c) _).trans (congrArg (m (c, Proc.tc.devRef main_arg3)) ?_)
  blk_ext [idx t, bOf, sOf]

/-- The delta rule's forward output. -/
theorem of_blk (t : Fin cfg0.N) (y : Fin 512) (j : Fin 512) : (iblk m c 4 t : Vec Ideal S1x512x512 .f32) (ix3 0 y j)
    = (show EReal from m (c, Proc.tc.devRef main_arg4) (ix3 (bOf t) (sOf t y) j : S2x16384x512.Idx)) := by
  blk_simp [iblk]
  refine (congrFun (V_main_arg4 m c) _).trans (congrArg (m (c, Proc.tc.devRef main_arg4)) ?_)
  blk_ext [idx t, bOf, sOf]

/-- The delta rule's backward output. -/
theorem ob_blk (t : Fin cfg0.N) (y : Fin 512) (j : Fin 512) : (iblk m c 5 t : Vec Ideal S1x512x512 .f32) (ix3 0 y j)
    = (show EReal from m (c, Proc.tc.devRef main_arg5) (ix3 (bOf t) (sOf t y) j : S2x16384x512.Idx)) := by
  blk_simp [iblk]
  refine (congrFun (V_main_arg5 m c) _).trans (congrArg (m (c, Proc.tc.devRef main_arg5)) ?_)
  blk_ext [idx t, bOf, sOf]

/-- The gate. -/
theorem z_blk (t : Fin cfg0.N) (y : Fin 512) (j : Fin 512) : (iblk m c 6 t : Vec Ideal S1x512x512 .f32) (ix3 0 y j)
    = (show EReal from m (c, Proc.tc.devRef main_arg6) (ix3 (bOf t) (sOf t y) j : S2x16384x512.Idx)) := by
  blk_simp [iblk]
  refine (congrFun (V_main_arg6 m c) _).trans (congrArg (m (c, Proc.tc.devRef main_arg6)) ?_)
  blk_ext [idx t, bOf, sOf]

/-- The delta rule's gain. -/
theorem gg_blk (t : Fin cfg0.N) (j : Fin 128) : (iblk m c 7 t : Vec Ideal S1x128 .f32) (ix2 0 j)
    = (show EReal from m (c, Proc.tc.devRef main_arg7) (ix2 0 j : S1x128.Idx)) := by
  blk_simp [iblk]
  refine (congrFun (V_main_arg7 m c) _).trans (congrArg (m (c, Proc.tc.devRef main_arg7)) ?_)
  blk_ext [idx t, bOf, sOf]

/-- The output projection. -/
theorem wo_blk_host (i j : Fin 1024) : (show EReal from V m c main_v3 (ix2 i j : S1024x1024.Idx))
    = (show EReal from m (c, Proc.tc.devRef main_arg8) (ix3 0 i j : S1x1024x1024.Idx)) := by
  entry_read
  pointwise []

/-- The output projection. -/
theorem wo_blk (t : Fin cfg0.N) (i j : Fin 1024) : (iblk m c 8 t : Vec Ideal S1024x1024 .bf16) (ix2 i j)
    = (show EReal from m (c, Proc.tc.devRef main_arg8) (ix3 0 i j : S1x1024x1024.Idx)) := by
  refine Eq.trans ?_ (wo_blk_host m c i j)
  blk_simp [iblk]
  refine congrArg (V m c main_v3) ?_
  blk_ext [idx t, bOf]

/-- The network's gain. -/
theorem gm_blk (t : Fin cfg0.N) (j : Fin 1024) : (iblk m c 9 t : Vec Ideal S1x1024 .f32) (ix2 0 j)
    = (show EReal from m (c, Proc.tc.devRef main_arg9) (ix2 0 j : S1x1024.Idx)) := by
  blk_simp [iblk]
  refine (congrFun (V_main_arg9 m c) _).trans (congrArg (m (c, Proc.tc.devRef main_arg9)) ?_)
  blk_ext [idx t, bOf, sOf]

/-- The network's first weights. -/
theorem w1_blk_host (i : Fin 1024) (k : Fin 4096) : (show EReal from V m c main_v5 (ix2 i k : S1024x4096.Idx))
    = (show EReal from m (c, Proc.tc.devRef main_arg10) (ix3 0 i k : S1x1024x4096.Idx)) := by
  entry_read
  pointwise []

/-- The network's first weights. -/
theorem w1_blk (t : Fin cfg0.N) (i : Fin 1024) (k : Fin 4096) : (iblk m c 10 t : Vec Ideal S1024x4096 .bf16) (ix2 i k)
    = (show EReal from m (c, Proc.tc.devRef main_arg10) (ix3 0 i k : S1x1024x4096.Idx)) := by
  refine Eq.trans ?_ (w1_blk_host m c i k)
  blk_simp [iblk]
  refine congrArg (V m c main_v5) ?_
  blk_ext [idx t, bOf]

/-- The network's second weights. -/
theorem w2_blk_host (k : Fin 4096) (j : Fin 1024) : (show EReal from V m c main_v7 (ix2 k j : S4096x1024.Idx))
    = (show EReal from m (c, Proc.tc.devRef main_arg11) (ix3 0 k j : S1x4096x1024.Idx)) := by
  entry_read
  pointwise []

/-- The network's second weights. -/
theorem w2_blk (t : Fin cfg0.N) (k : Fin 4096) (j : Fin 1024) : (iblk m c 11 t : Vec Ideal S4096x1024 .bf16) (ix2 k j)
    = (show EReal from m (c, Proc.tc.devRef main_arg11) (ix3 0 k j : S1x4096x1024.Idx)) := by
  refine Eq.trans ?_ (w2_blk_host m c k j)
  blk_simp [iblk]
  refine congrArg (V m c main_v7) ?_
  blk_ext [idx t, bOf]

/-- The final gain. -/
theorem gf_blk_host (j : Fin 1024) : (show EReal from V m c main_v8 (ix2 0 j : S1x1024.Idx))
    = (show EReal from m (c, Proc.tc.devRef main_arg12) (ix1 j : S1024.Idx)) := by
  entry_read
  pointwise []

/-- The final gain. -/
theorem gf_blk (t : Fin cfg0.N) (j : Fin 1024) : (iblk m c 12 t : Vec Ideal S1x1024 .f32) (ix2 0 j)
    = (show EReal from m (c, Proc.tc.devRef main_arg12) (ix1 j : S1024.Idx)) := by
  refine Eq.trans ?_ (gf_blk_host m c j)
  blk_simp [iblk]
  refine congrArg (V m c main_v8) ?_
  blk_ext [idx t, bOf]

/-- Where the block of the result lies. -/
theorem y_emb (t : Fin cfg0.N) (y : Fin 512) (j : Fin 1024) : (win0_13.blk t).view.emb (ix3 0 y j : S1x512x1024.Idx)
    = (ix3 (bOf t) (sOf t y) j : S2x16384x1024.Idx) := by
  blk_ext [idx t, bOf, sOf]

end Cert.Kernel2Ideal.Post
end
-- ==== Proof.PostRef.lean ====
/- The last call's reference term, cut into its stages, and its value at an index: one row's arithmetic. -/
module

public import proofs.«01_k».proof.Proof.Gen.Reference2Ideal.Run
public import proofs.«01_k».proof.Proof.Gen.Reference2Ideal
public import proofs.«01_k».proof.Proof.PostSpec
public import Idealize.ShloMosaic.Lib.Pointwise

@[expose] public section

set_option maxRecDepth 16384

noncomputable section

namespace Cert.Reference2Ideal.RefValue

open Cert.Reference2Ideal Cert.Reference2Ideal.Gen Cert.Post
open Idealize.ShloMosaic Idealize.ShloMosaic.TcCoe Idealize.SL.Sem

section
variable (x : FVec Ideal S2x16384x1024 .f32) (mod : FVec Ideal S2x6144 .f32) (modf : FVec Ideal S2x2048 .f32)
  (om : FVec Ideal S2x16384x512 .bf16) (of ob z : FVec Ideal S2x16384x512 .f32) (gg : FVec Ideal S1x128 .f32)
  (wo : FVec Ideal S1x1024x1024 .f32) (gm : FVec Ideal S1x1024 .f32) (w1 : FVec Ideal S1x1024x4096 .f32)
  (w2 : FVec Ideal S1x4096x1024 .f32) (gf : FVec Ideal S1024 .f32)

/-- The delta rule's output, normalised and gated, head by head. -/
def OG : FVec Ideal S2x16384x4x128 .f32 :=
  mulf (mulf (mulf (shapeCast S2x16384x4x128 (addf of ob) shapeCasts_S2x16384x512_S2x16384x4x128) (broadcastInDim S2x16384x4x128 ![0, 1, 2, 3] bcast_S2x16384x4x1_S2x16384x4x128_0_1_2_3 (Host.rsqrt (addf (Host.divf (broadcastInDim S2x16384x4x1 ![0, 1, 2] bcast_S2x16384x4_S2x16384x4x1_0_1_2 (Host.reduceAdd (mulf (shapeCast S2x16384x4x128 (addf of ob) shapeCasts_S2x16384x512_S2x16384x4x128) (shapeCast S2x16384x4x128 (addf of ob) shapeCasts_S2x16384x512_S2x16384x4x128)) (constant S_ .f32 0x00000000#32) reducesTo_S2x16384x4x128_S2x16384x4_d3 h_S_)) (broadcastInDim S2x16384x4x1 ![] bcast_S_S2x16384x4x1 (constant S_ .f32 0x43000000#32))) (broadcastInDim S2x16384x4x1 ![] bcast_S_S2x16384x4x1 (constant S_ .f32 0x358637BD#32)))))) (broadcastInDim S2x16384x4x128 ![0, 1, 2, 3] bcast_S1x1x1x128_S2x16384x4x128_0_1_2_3 (broadcastInDim S1x1x1x128 ![3] bcast_S128_S1x1x1x128_3 (shapeCast S128 gg shapeCasts_S1x128_S128)))) (mulf (shapeCast S2x16384x4x128 z shapeCasts_S2x16384x512_S2x16384x4x128) (Host.divf (broadcastInDim S2x16384x4x128 ![] bcast_S_S2x16384x4x128 (constant S_ .f32 0x3F800000#32)) (addf (broadcastInDim S2x16384x4x128 ![] bcast_S_S2x16384x4x128 (constant S_ .f32 0x3F800000#32)) (Host.exp (Host.negf (shapeCast S2x16384x4x128 z shapeCasts_S2x16384x512_S2x16384x4x128))))))

/-- The layer's input plus the gated mixers. -/
def X1 (og : FVec Ideal S2x16384x4x128 .f32) : FVec Ideal S2x16384x1024 .f32 :=
  addf x (mulf (broadcastInDim S2x16384x1024 ![0, 1, 2] bcast_S2x1x1024_S2x16384x1024_0_1_2 (extractStridedSlice S2x1x1024 ![0, 0, 2048] (broadcastInDim S2x1x6144 ![0, 2] bcast_S2x6144_S2x1x6144_0_2 mod) slices_S2x1x6144_S2x1x1024_0_0_2048)) (Host.dotGeneral dot_S2x16384x1024_S1024x1024_S2x16384x1024_2_0_01_1_n_n none (concatenate S2x16384x1024 2 [⟨S2x16384x512, (extf .f32 om bitsLt_bf16_f32)⟩, ⟨S2x16384x512, (shapeCast S2x16384x512 og shapeCasts_S2x16384x4x128_S2x16384x512)⟩] concatenates_S2x16384x512_S2x16384x512_S2x16384x1024_d2) (shapeCast S1024x1024 wo shapeCasts_S1x1024x1024_S1024x1024)))

/-- The network's input. -/
def H (x1 : FVec Ideal S2x16384x1024 .f32) : FVec Ideal S2x16384x1024 .f32 :=
  addf (mulf (mulf (mulf x1 (broadcastInDim S2x16384x1024 ![0, 1, 2] bcast_S2x16384x1_S2x16384x1024_0_1_2 (Host.rsqrt (addf (Host.divf (broadcastInDim S2x16384x1 ![0, 1] bcast_S2x16384_S2x16384x1_0_1 (Host.reduceAdd (mulf x1 x1) (constant S_ .f32 0x00000000#32) reducesTo_S2x16384x1024_S2x16384_d2 h_S_)) (broadcastInDim S2x16384x1 ![] bcast_S_S2x16384x1 (constant S_ .f32 0x44800000#32))) (broadcastInDim S2x16384x1 ![] bcast_S_S2x16384x1 (constant S_ .f32 0x358637BD#32)))))) (broadcastInDim S2x16384x1024 ![0, 1, 2] bcast_S1x1x1024_S2x16384x1024_0_1_2 (broadcastInDim S1x1x1024 ![2] bcast_S1024_S1x1x1024_2 (shapeCast S1024 gm shapeCasts_S1x1024_S1024)))) (broadcastInDim S2x16384x1024 ![0, 1, 2] bcast_S2x1x1024_S2x16384x1024_0_1_2 (addf (broadcastInDim S2x1x1024 ![] bcast_S_S2x1x1024 (constant S_ .f32 0x3F800000#32)) (extractStridedSlice S2x1x1024 ![0, 0, 4096] (broadcastInDim S2x1x6144 ![0, 2] bcast_S2x6144_S2x1x6144_0_2 mod) slices_S2x1x6144_S2x1x1024_0_0_4096)))) (broadcastInDim S2x16384x1024 ![0, 1, 2] bcast_S2x1x1024_S2x16384x1024_0_1_2 (extractStridedSlice S2x1x1024 ![0, 0, 3072] (broadcastInDim S2x1x6144 ![0, 2] bcast_S2x6144_S2x1x6144_0_2 mod) slices_S2x1x6144_S2x1x1024_0_0_3072))

/-- The network. -/
def ML (h : FVec Ideal S2x16384x1024 .f32) : FVec Ideal S2x16384x1024 .f32 :=
  Host.dotGeneral dot_S2x16384x4096_S4096x1024_S2x16384x1024_2_0_01_1_n_n none (mulf (maximumf (Host.dotGeneral dot_S2x16384x1024_S1024x4096_S2x16384x4096_2_0_01_1_n_n none h (shapeCast S1024x4096 w1 shapeCasts_S1x1024x4096_S1024x4096)) (broadcastInDim S2x16384x4096 ![] bcast_S_S2x16384x4096 (constant S_ .f32 0x00000000#32))) (maximumf (Host.dotGeneral dot_S2x16384x1024_S1024x4096_S2x16384x4096_2_0_01_1_n_n none h (shapeCast S1024x4096 w1 shapeCasts_S1x1024x4096_S1024x4096)) (broadcastInDim S2x16384x4096 ![] bcast_S_S2x16384x4096 (constant S_ .f32 0x00000000#32)))) (shapeCast S4096x1024 w2 shapeCasts_S1x4096x1024_S4096x1024)

/-- The row after the gated network. -/
def X2 (x1 ml : FVec Ideal S2x16384x1024 .f32) : FVec Ideal S2x16384x1024 .f32 :=
  addf x1 (mulf (broadcastInDim S2x16384x1024 ![0, 1, 2] bcast_S2x1x1024_S2x16384x1024_0_1_2 (extractStridedSlice S2x1x1024 ![0, 0, 5120] (broadcastInDim S2x1x6144 ![0, 2] bcast_S2x6144_S2x1x6144_0_2 mod) slices_S2x1x6144_S2x1x1024_0_0_5120)) ml)

/-- The final normalisation. -/
def Y (x2 : FVec Ideal S2x16384x1024 .f32) : FVec Ideal S2x16384x1024 .f32 :=
  addf (mulf (mulf (mulf x2 (broadcastInDim S2x16384x1024 ![0, 1, 2] bcast_S2x16384x1_S2x16384x1024_0_1_2 (Host.rsqrt (addf (Host.divf (broadcastInDim S2x16384x1 ![0, 1] bcast_S2x16384_S2x16384x1_0_1 (Host.reduceAdd (mulf x2 x2) (constant S_ .f32 0x00000000#32) reducesTo_S2x16384x1024_S2x16384_d2 h_S_)) (broadcastInDim S2x16384x1 ![] bcast_S_S2x16384x1 (constant S_ .f32 0x44800000#32))) (broadcastInDim S2x16384x1 ![] bcast_S_S2x16384x1 (constant S_ .f32 0x358637BD#32)))))) (broadcastInDim S2x16384x1024 ![0, 1, 2] bcast_S1x1x1024_S2x16384x1024_0_1_2 (broadcastInDim S1x1x1024 ![2] bcast_S1024_S1x1x1024_2 gf))) (broadcastInDim S2x16384x1024 ![0, 1, 2] bcast_S2x1x1024_S2x16384x1024_0_1_2 (addf (broadcastInDim S2x1x1024 ![] bcast_S_S2x1x1024 (constant S_ .f32 0x3F800000#32)) (extractStridedSlice S2x1x1024 ![0, 0, 1024] (broadcastInDim S2x1x2048 ![0, 2] bcast_S2x2048_S2x1x2048_0_2 modf) slices_S2x1x2048_S2x1x1024_0_0_1024)))) (broadcastInDim S2x16384x1024 ![0, 1, 2] bcast_S2x1x1024_S2x16384x1024_0_1_2 (extractStridedSlice S2x1x1024 ![0, 0, 0] (broadcastInDim S2x1x2048 ![0, 2] bcast_S2x2048_S2x1x2048_0_2 modf) slices_S2x1x2048_S2x1x1024_0_0_0))

/-- The reference's result. -/
def REF : FVec Ideal S2x16384x1024 .f32 :=
  Y modf gf (X2 mod (X1 x mod om wo (OG of ob z gg)) (ML w1 w2 (H mod gm (X1 x mod om wo (OG of ob z gg)))))

/-- A head of the gated output. -/
theorem og_at (b : Fin 2) (s : Fin 16384) (h : Fin 4) (d : Fin 128) : OG of ob z gg (ix4 b s h d)
    = headVal (fun l => of (ix3 b s l) + ob (ix3 b s l)) (fun l => z (ix3 b s l)) (fun d => gg (ix2 0 d)) (h.val * 128) (by omega) d := by
  pointwise [OG, headVal, rms, silu]
  simp only [zero_sub]

/-- A row after the gated mixers. -/
theorem x1_at (b : Fin 2) (s : Fin 16384) (j : Fin 1024) : X1 x mod om wo (OG of ob z gg) (ix3 b s j)
    = resRow (fun j => x (ix3 b s j)) (fun j => mod (ix2 b ⟨2048 + j.val, by omega⟩))
        (mixRow (fun k => om (ix3 b s k)) (fun l => of (ix3 b s l) + ob (ix3 b s l)) (fun l => z (ix3 b s l)) (fun d => gg (ix2 0 d))
          (fun i j => wo (ix3 0 i j))) j := by
  unfold resRow
  rw [← mixRow_eq _ _ _ _ _ _ (fun k => OG of ob z gg (ix4 b s ⟨k.val / 128, by omega⟩ ⟨k.val % 128, by omega⟩)) (fun h d ha => by
    have hh : (⟨(h.val * 128 + d.val) / 128, by omega⟩ : Fin 4) = h := Fin.ext (by simp only; omega)
    have hd : (⟨(h.val * 128 + d.val) % 128, by omega⟩ : Fin 128) = d := Fin.ext (by simp only; omega)
    simp only [hh, hd]
    exact og_at of ob z gg b s h d)]
  pointwise [X1]

/-- A row of the network's input. -/
theorem h_at (x1 : FVec Ideal S2x16384x1024 .f32) (b : Fin 2) (s : Fin 16384) (j : Fin 1024) : H mod gm x1 (ix3 b s j)
    = modRow (fun j => x1 (ix3 b s j)) (fun j => gm (ix2 0 j)) (fun j => mod (ix2 b ⟨4096 + j.val, by omega⟩))
        (fun j => mod (ix2 b ⟨3072 + j.val, by omega⟩)) j := by
  pointwise [H, modRow, rms]

/-- A row of the network's output. -/
theorem ml_at (h : FVec Ideal S2x16384x1024 .f32) (b : Fin 2) (s : Fin 16384) (j : Fin 1024) : ML w1 w2 h (ix3 b s j)
    = mlpRow (fun j => h (ix3 b s j)) (fun i k => w1 (ix3 0 i k)) (fun k j => w2 (ix3 0 k j)) j := by
  pointwise [ML, mlpRow, unit]

/-- A row after the gated network. -/
theorem x2_at (x1 ml : FVec Ideal S2x16384x1024 .f32) (b : Fin 2) (s : Fin 16384) (j : Fin 1024) : X2 mod x1 ml (ix3 b s j)
    = resRow (fun j => x1 (ix3 b s j)) (fun j => mod (ix2 b ⟨5120 + j.val, by omega⟩)) (fun j => ml (ix3 b s j)) j := by
  pointwise [X2, resRow]

/-- A row of the result. -/
theorem y_at (x2 : FVec Ideal S2x16384x1024 .f32) (b : Fin 2) (s : Fin 16384) (j : Fin 1024) : Y modf gf x2 (ix3 b s j)
    = modRow (fun j => x2 (ix3 b s j)) (fun j => gf (ix1 j)) (fun j => modf (ix2 b ⟨1024 + j.val, by omega⟩))
        (fun j => modf (ix2 b ⟨j.val, by omega⟩)) j := by
  pointwise [Y, modRow, rms]

/-- The result at an index is the row's arithmetic. -/
theorem ref_at (b : Fin 2) (s : Fin 16384) (j : Fin 1024) : REF x mod modf om of ob z gg wo gm w1 w2 gf (ix3 b s j)
    = outRow (fun j => x (ix3 b s j)) (fun j => mod (ix2 b ⟨2048 + j.val, by omega⟩)) (fun j => mod (ix2 b ⟨3072 + j.val, by omega⟩))
        (fun j => mod (ix2 b ⟨4096 + j.val, by omega⟩)) (fun j => mod (ix2 b ⟨5120 + j.val, by omega⟩))
        (fun j => modf (ix2 b ⟨j.val, by omega⟩)) (fun j => modf (ix2 b ⟨1024 + j.val, by omega⟩))
        (fun k => om (ix3 b s k)) (fun l => of (ix3 b s l) + ob (ix3 b s l)) (fun l => z (ix3 b s l)) (fun d => gg (ix2 0 d))
        (fun i j => wo (ix3 0 i j)) (fun j => gm (ix2 0 j)) (fun i k => w1 (ix3 0 i k)) (fun k j => w2 (ix3 0 k j))
        (fun j => gf (ix1 j)) j := by
  unfold REF outRow
  rw [y_at]
  simp only [x2_at, ml_at, h_at, x1_at]

end

set_option maxHeartbeats 1000000 in
/-- The reference's composed term is `REF` of its arguments. -/
theorem res (m : (ℓ : Loc nD τ sig) → Buf (Elt Ideal) ℓ) (c : Dev nD) :
    Value.res_main_v84 m c = REF (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7))
        (m ((c.tc : Thread nD τ).loc main_arg8)) (m ((c.tc : Thread nD τ).loc main_arg9)) (m ((c.tc : Thread nD τ).loc main_arg10))
        (m ((c.tc : Thread nD τ).loc main_arg11)) (m ((c.tc : Thread nD τ).loc main_arg12)) := by
  rfl

end Cert.Reference2Ideal.RefValue
end
-- ==== Proof.PostFinal.lean ====
/- The last call's result array is the reference's term of its arguments. -/
module

public import proofs.«01_k».proof.Proof.PostBlocks
public import proofs.«01_k».proof.Proof.PostRef

@[expose] public section

set_option maxRecDepth 16384

noncomputable section

namespace Cert.Kernel2Ideal.Post

open Cert.Kernel2Ideal Cert.Kernel2Ideal.Gen Cert.Post
open Idealize.ShloMosaic Idealize.ShloMosaic.TcCoe Idealize.SL.Sem
open Idealize.ShloMosaic.Pipeline (Dat)
open Cert.Reference2Ideal.RefValue (REF ref_at)

variable (m : (ℓ : Loc nD τ sig) → Buf (Elt Ideal) ℓ) (c : Dev nD)

/-- The reference's term of the kernel's arguments. -/
def REFm : FVec Ideal S2x16384x1024 .f32 :=
  REF (m (c, Proc.tc.devRef main_arg0)) (m (c, Proc.tc.devRef main_arg1)) (m (c, Proc.tc.devRef main_arg2)) (m (c, Proc.tc.devRef main_arg3)) (m (c, Proc.tc.devRef main_arg4)) (m (c, Proc.tc.devRef main_arg5)) (m (c, Proc.tc.devRef main_arg6)) (m (c, Proc.tc.devRef main_arg7)) (m (c, Proc.tc.devRef main_arg8)) (m (c, Proc.tc.devRef main_arg9)) (m (c, Proc.tc.devRef main_arg10)) (m (c, Proc.tc.devRef main_arg11)) (m (c, Proc.tc.devRef main_arg12))

/-- What a grid point stores at an index of its block is the reference's entry there. -/
theorem point_at (t : Fin cfg0.N) (y : Fin 512) (j : Fin 1024) :
    out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix3 0 y j)
      = REFm m c ((win0_13.blk t).view.emb (ix3 0 y j : S1x512x1024.Idx)) := by
  rw [y_emb]
  refine Eq.trans ?_ (ref_at (m (c, Proc.tc.devRef main_arg0)) (m (c, Proc.tc.devRef main_arg1)) (m (c, Proc.tc.devRef main_arg2)) (m (c, Proc.tc.devRef main_arg3)) (m (c, Proc.tc.devRef main_arg4)) (m (c, Proc.tc.devRef main_arg5)) (m (c, Proc.tc.devRef main_arg6)) (m (c, Proc.tc.devRef main_arg7)) (m (c, Proc.tc.devRef main_arg8)) (m (c, Proc.tc.devRef main_arg9)) (m (c, Proc.tc.devRef main_arg10)) (m (c, Proc.tc.devRef main_arg11)) (m (c, Proc.tc.devRef main_arg12)) (bOf t) (sOf t y) j).symm
  refine (out0_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y j).trans ?_
  simp only [x_blk, mod_blk, modf_blk, om_blk, of_blk, ob_blk, z_blk, gg_blk, wo_blk, gm_blk, w1_blk, w2_blk, gf_blk]

/-- The same at any index of the block. -/
theorem point (t : Fin cfg0.N) (y : S1x512x1024.Idx) :
    out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y = REFm m c ((win0_13.blk t).view.emb y) := by
  have e : y = ix3 0 (y 1) (y 2) := (eq_ix3 y).trans (congrArg (fun z => ix3 z (y 1) (y 2)) (Subsingleton.elim (α := Fin 1) _ _))
  rw [e]
  exact point_at m c t (y 1) (y 2)

/-- After the run the result array is the reference's term of the arguments. -/
theorem final : (dats m 0 c).arrAt 13 cfg0.N = REFm m c := by
  refine (dats m 0 c).arrAt_eq_of_covers 13 _ (by decide +kernel) fun t _ y => ?_
  blk_simp
  rw [after0_13]
  exact point m c t y

end Cert.Kernel2Ideal.Post
end
-- ==== Proof.PostAlgebraic.lean ====
/- The last call: its frames, and the equality of the idealized kernel with the reference. -/
module

public import proofs.«01_k».proof.Defs
public import proofs.«01_k».proof.Proof.PostFinal
public import proofs.«01_k».proof.Proof.Gen.Kernel2
public import proofs.«01_k».proof.Proof.Gen.Kernel2.Frame
public import Idealize.ShloMosaic.Lib.Claim

@[expose] public section

set_option maxRecDepth 16384

noncomputable section

namespace Cert.Proof.Post

open Idealize.ShloMosaic Idealize.ShloMosaic.TcCoe Idealize.SL.Sem
open Cert.Kernel2Ideal.Post (REFm final)

/-- The last call's kernel, at machine words, runs, leaves its arguments unchanged and ends with every counter at zero. -/
theorem frame_p : Cert.quiescent_Kernel2 := fun m g _ => Cert.Kernel2.Gen.frame m g

/-- The same of the idealized kernel, at the extended reals. -/
theorem frame_pi : Cert.quiescent_Kernel2Ideal := fun m g _ => Cert.Kernel2Ideal.Gen.frame m g

/-- The reference runs, leaves its arguments unchanged and ends with every counter at zero: it has no counters. -/
theorem frame_ri : Cert.quiescent_Reference2Ideal := fun m g _ =>
  (θ_run Cert.Reference2Ideal.defs _ _).mono (fun r h => ⟨fun c => (h c).2,
      Idealize.ShloMosaic.sem_eq_zero_of_no_sems (by decide) r.2⟩)
    (Cert.Reference2Ideal.Value.run (F := Ideal) m g)

/-- The idealized kernel is the kernel's own text: nothing is replaced. -/
theorem preserves : Cert.preserves_Kernel2_Kernel2Ideal := trivial

/-- The idealized kernel and the reference end with equal arrays. -/
theorem algebraic : Cert.algebraic_Kernel2Ideal_Reference2Ideal := by
  intro m ρ m' ρ' _ hagree
  refine ⟨fun c => REFm m c, ?_, ?_⟩
  · exact (θ_run Cert.Kernel2Ideal.defs _ _).mono (fun r h c => ⟨(h c).1.trans (final m c), (h c).2⟩)
      (Cert.Kernel2Ideal.Value.run_blocks (F := Ideal) m ρ)
  · refine (θ_run Cert.Reference2Ideal.defs _ _).mono (fun _ h c => ⟨(h c).1.trans ?_, (h c).2⟩)
      (Cert.Reference2Ideal.Value.run (F := Ideal) m' ρ')
    refine (Cert.Reference2Ideal.RefValue.res m' c).trans ?_
    obtain ⟨e0, e1, e2, e3, e4, e5, e6, e7, e8, e9, e10, e11, e12⟩ := hagree c
    rw [e0, e1, e2, e3, e4, e5, e6, e7, e8, e9, e10, e11, e12]
    rfl

end Cert.Proof.Post

end
-- ==== Proof.PreSpec.lean ====
/- The arithmetic of one row of the layer's first call, over the extended reals. -/
module

public import proofs.«01_k».proof.Proof.PostSpec

@[expose] public section

noncomputable section

namespace Cert.Pre

open Idealize.ShloMosaic

/-- A row's product with a matrix, at one column. -/
def proj {n k : ℕ} (h : Fin n → EReal) (w : Fin n → Fin k → EReal) (j : Fin k) : EReal := ∑ i, h i * w i j

/-- A normalised low-rank row's product with its second matrix. -/
def low {n k : ℕ} (N : BitVec 32) (p g : Fin n → EReal) (w : Fin n → Fin k → EReal) (j : Fin k) : EReal :=
  proj (Cert.Post.rms N p g) w j

/-- The rotary angle of a position and a lane. -/
def angle (s : Fin 16384) (l : Fin 32) : EReal :=
  FloatOps.sitofp (F := Ideal) .f32 (BitVec.ofNat 32 s.val) * Ideal.div 1 (Ideal.pow (Ideal.ofBits .f32 1176256512#32)
    (Ideal.div (Ideal.ofBits .f32 1073741824#32 * FloatOps.sitofp (F := Ideal) .f32 (BitVec.ofNat 32 l.val)) (Ideal.ofBits .f32 1115684864#32)))

/-- The rotary embedding of 64 lanes. -/
def rope (u : Fin 64 → EReal) (cs sn : Fin 32 → EReal) (l : Fin 64) : EReal :=
  if h : l.val < 32 then u l * cs ⟨l.val, h⟩ - u ⟨l.val + 32, by omega⟩ * sn ⟨l.val, h⟩
  else u l * cs ⟨l.val - 32, by omega⟩ + u ⟨l.val - 32, by omega⟩ * sn ⟨l.val - 32, by omega⟩

/-- The rotary embedding in the first 64 of 128 lanes, zero in the others. -/
def ropePad (u : Fin 64 → EReal) (cs sn : Fin 32 → EReal) (l : Fin 128) : EReal :=
  if h : l.val < 64 then rope u cs sn ⟨l.val, h⟩ else 0

/-- The lane of the 64 that stands at a lane of the 128: the lanes, then the lanes with the halves swapped. -/
def swp (l : Fin 128) : Fin 64 :=
  if h : l.val < 64 then ⟨l.val, h⟩ else if h2 : l.val < 96 then ⟨l.val - 32, by omega⟩ else ⟨l.val - 96, by omega⟩

/-- The lane half a turn away. -/
def half (l : Fin 128) : Fin 128 := ⟨(l.val + 128 - 64) % 128, Nat.mod_lt _ (by decide)⟩

/-- The padded table of cosines. -/
def csPad (cs : Fin 32 → EReal) (l : Fin 128) : EReal :=
  if h : l.val < 32 then cs ⟨l.val, h⟩ else if h : l.val - 32 < 32 then cs ⟨l.val - 32, h⟩ else 0

/-- The padded table of signed sines. -/
def snPad (sn : Fin 32 → EReal) (l : Fin 128) : EReal :=
  if h : l.val < 32 then -sn ⟨l.val, h⟩ else if h : l.val - 32 < 32 then sn ⟨l.val - 32, h⟩ else 0

/-- The first 64 lanes stand at themselves. -/
theorem swp_0 (l : Fin 128) (h : l.val < 64) : swp l = ⟨l.val, h⟩ := dif_pos h

/-- Then the upper half stands. -/
theorem swp_1 (l : Fin 128) (h : ¬ l.val < 64) (h' : l.val < 96) : swp l = ⟨l.val - 32, by omega⟩ :=
  (dif_neg h).trans (dif_pos h')

/-- Then the lower half stands. -/
theorem swp_2 (l : Fin 128) (h : ¬ l.val < 96) : swp l = ⟨l.val - 96, by omega⟩ :=
  (dif_neg (by omega)).trans (dif_neg h)

/-- Half a turn from one of the first 64 lanes. -/
theorem half_0 (l : Fin 128) (h : l.val < 64) : half l = ⟨l.val + 64, by omega⟩ :=
  Fin.ext (show (l.val + 128 - 64) % 128 = l.val + 64 by omega)

/-- The rotary embedding in the first 32 lanes. -/
theorem ropePad_0 (u : Fin 64 → EReal) (cs sn : Fin 32 → EReal) (l : Fin 128) (h : l.val < 32) :
    ropePad u cs sn l = u ⟨l.val, by omega⟩ * cs ⟨l.val, h⟩ - u ⟨32 + l.val, by omega⟩ * sn ⟨l.val, h⟩ := by
  have h2 : l.val < 64 := by omega
  have e : (⟨l.val + 32, by omega⟩ : Fin 64) = ⟨32 + l.val, by omega⟩ := Fin.ext (Nat.add_comm _ _)
  refine (show ropePad u cs sn l = rope u cs sn ⟨l.val, h2⟩ from dif_pos h2).trans ?_
  refine (show rope u cs sn ⟨l.val, h2⟩ = u ⟨l.val, h2⟩ * cs ⟨l.val, h⟩ - u ⟨l.val + 32, by omega⟩ * sn ⟨l.val, h⟩ from dif_pos h).trans ?_
  exact congrArg (fun z => u ⟨l.val, h2⟩ * cs ⟨l.val, h⟩ - u z * sn ⟨l.val, h⟩) e

/-- The rotary embedding in the next 32 lanes. -/
theorem ropePad_1 (u : Fin 64 → EReal) (cs sn : Fin 32 → EReal) (l : Fin 128) (h : ¬ l.val < 32) (h2 : l.val < 64) :
    ropePad u cs sn l = u ⟨32 + (l.val - 32), by omega⟩ * cs ⟨l.val - 32, by omega⟩
      + u ⟨l.val - 32, by omega⟩ * sn ⟨l.val - 32, by omega⟩ := by
  have e : (⟨l.val, by omega⟩ : Fin 64) = ⟨32 + (l.val - 32), by omega⟩ := Fin.ext (by simp only; omega)
  refine (show ropePad u cs sn l = rope u cs sn ⟨l.val, h2⟩ from dif_pos h2).trans ?_
  refine (show rope u cs sn ⟨l.val, h2⟩ = u ⟨l.val, h2⟩ * cs ⟨l.val - 32, by omega⟩
    + u ⟨l.val - 32, by omega⟩ * sn ⟨l.val - 32, by omega⟩ from dif_neg h).trans ?_
  exact congrArg (fun z => u z * cs ⟨l.val - 32, by omega⟩ + u ⟨l.val - 32, by omega⟩ * sn ⟨l.val - 32, by omega⟩) e

/-- The other lanes are zero. -/
theorem ropePad_2 (u : Fin 64 → EReal) (cs sn : Fin 32 → EReal) (l : Fin 128) (h2 : ¬ l.val < 64) : ropePad u cs sn l = 0 := dif_neg h2

/-- A column of a product reads that column of the matrix. -/
theorem low_col {n k k' : ℕ} (N : BitVec 32) (p g : Fin n → EReal) (w : Fin n → Fin k → EReal) (w' : Fin n → Fin k' → EReal)
    (j : Fin k) (j' : Fin k') (e : ∀ i, w i j = w' i j') : low N p g w j = low N p g w' j' := by
  unfold low proj
  exact Finset.sum_congr rfl fun i _ => congrArg (Cert.Post.rms N p g i * ·) (e i)

/-- The same of a plain product. -/
theorem proj_col {n k k' : ℕ} (h : Fin n → EReal) (w : Fin n → Fin k → EReal) (w' : Fin n → Fin k' → EReal)
    (j : Fin k) (j' : Fin k') (e : ∀ i, w i j = w' i j') : proj h w j = proj h w' j' := by
  unfold proj
  exact Finset.sum_congr rfl fun i _ => congrArg (h i * ·) (e i)

/-- A lane times its cosine plus the lane half a turn away times its signed sine is the rotary embedding. -/
theorem rope_eq (u : Fin 64 → EReal) (cs sn : Fin 32 → EReal) (l : Fin 128) :
    u (swp l) * csPad cs l + u (swp (half l)) * snPad sn l = ropePad u cs sn l := by
  by_cases h1 : l.val < 32
  · have h2 : l.val < 64 := by omega
    have a : ¬ (⟨l.val + 64, by omega⟩ : Fin 128).val < 64 := by simp only; omega
    have b : (⟨l.val + 64, by omega⟩ : Fin 128).val < 96 := by simp only; omega
    have e : (⟨l.val + 64 - 32, by omega⟩ : Fin 64) = ⟨l.val + 32, by omega⟩ := Fin.ext (by simp only; omega)
    rw [half_0 l h2, swp_0 l h2, swp_1 _ a b, show csPad cs l = cs ⟨l.val, h1⟩ from dif_pos h1,
      show snPad sn l = -sn ⟨l.val, h1⟩ from dif_pos h1, show ropePad u cs sn l = rope u cs sn ⟨l.val, h2⟩ from dif_pos h2]
    refine Eq.trans ?_ (show rope u cs sn ⟨l.val, h2⟩ = u ⟨l.val, h2⟩ * cs ⟨l.val, h1⟩ - u ⟨l.val + 32, by omega⟩ * sn ⟨l.val, h1⟩
      from dif_pos h1).symm
    rw [mul_neg, sub_eq_add_neg]
    exact congrArg (fun z => u ⟨l.val, h2⟩ * cs ⟨l.val, h1⟩ + -(u z * sn ⟨l.val, h1⟩)) e
  · by_cases h2 : l.val < 64
    · have b : ¬ (⟨l.val + 64, by omega⟩ : Fin 128).val < 96 := by simp only; omega
      have h3 : l.val - 32 < 32 := by omega
      have e : (⟨l.val + 64 - 96, by omega⟩ : Fin 64) = ⟨l.val - 32, by omega⟩ := Fin.ext (by simp only; omega)
      rw [half_0 l h2, swp_0 l h2, swp_2 _ b, show csPad cs l = cs ⟨l.val - 32, h3⟩ from (dif_neg h1).trans (dif_pos h3),
        show snPad sn l = sn ⟨l.val - 32, h3⟩ from (dif_neg h1).trans (dif_pos h3),
        show ropePad u cs sn l = rope u cs sn ⟨l.val, h2⟩ from dif_pos h2]
      refine Eq.trans ?_ (show rope u cs sn ⟨l.val, h2⟩ = u ⟨l.val, h2⟩ * cs ⟨l.val - 32, h3⟩
        + u ⟨l.val - 32, by omega⟩ * sn ⟨l.val - 32, h3⟩ from dif_neg h1).symm
      exact congrArg (fun z => u ⟨l.val, h2⟩ * cs ⟨l.val - 32, h3⟩ + u z * sn ⟨l.val - 32, h3⟩) e
    · have h3 : ¬ l.val - 32 < 32 := by omega
      rw [show csPad cs l = 0 from (dif_neg h1).trans (dif_neg h3), show snPad sn l = 0 from (dif_neg h1).trans (dif_neg h3),
        show ropePad u cs sn l = 0 from dif_neg h2, mul_zero, mul_zero, add_zero]

/-- The scale of the queries: over the square root of 192, and over the logarithm of 2. -/
def qs : EReal := (((Real.sqrt 192)⁻¹ * (Real.log 2)⁻¹ : ℝ) : EReal)

/-- The word 192. -/
theorem bits_192 : Ideal.ofBits .f32 0x43400000#32 = ((192 : ℝ) : EReal) := by
  simp [Ideal.ofBits, Ideal.ieee]
  rw [← EReal.coe_mul]
  norm_num

/-- The word 2. -/
theorem bits_2 : Ideal.ofBits .f32 0x40000000#32 = ((2 : ℝ) : EReal) := by
  simp [Ideal.ofBits, Ideal.ieee]
  rw [← EReal.coe_mul]
  norm_num

/-- The reference scales a query in two steps. -/
theorem scale_eq (a : EReal) :
    Ideal.div (a * Ideal.rsqrt (Ideal.ofBits .f32 0x43400000#32)) (Ideal.log (Ideal.ofBits .f32 0x40000000#32)) = a * qs := by
  have hl : 0 < Real.log 2 := Real.log_pos (by norm_num)
  rw [bits_192, bits_2, Ideal.rsqrt_coe, if_neg (by norm_num), if_neg (by norm_num)]
  rw [Ideal.log_coe, if_neg (by norm_num), Ideal.div_coe hl.ne', one_div, mul_assoc, ← EReal.coe_mul]
  rfl

end Cert.Pre

end
-- ==== Proof.PreHost.lean ====
/- What the first call's prepared operands hold, in terms of the arguments. -/
module

public import proofs.«01_k».proof.Proof.Gen.Kernel3Ideal.Value
public import proofs.«01_k».proof.Proof.PreSpec
public import Idealize.ShloMosaic.Lib.Claim

@[expose] public section

set_option maxRecDepth 16384

noncomputable section

namespace Cert.Kernel3Ideal.Pre

open Cert.Kernel3Ideal Cert.Kernel3Ideal.Gen Cert.Pre
open Idealize.ShloMosaic Idealize.ShloMosaic.TcCoe Idealize.SL.Sem
open Idealize.ShloMosaic.Pipeline (Dat)

variable (m : (ℓ : Loc nD τ sig) → Buf (Elt Ideal) ℓ) (c : Dev nD)

/-- The padded cosines. -/
theorem cs_host (s : Fin 16384) (l : Fin 128) : (show EReal from V m c main_v21 (ix2 s l : S16384x128.Idx))
    = csPad (fun l => Ideal.cos (angle s l)) l := by
  entry_read
  pointwise [csPad, angle]
  after_results_simp
  pointwise []

/-- The padded, signed sines. -/
theorem sn_host (s : Fin 16384) (l : Fin 128) : (show EReal from V m c main_v24 (ix2 s l : S16384x128.Idx))
    = snPad (fun l => Ideal.sin (angle s l)) l := by
  entry_read
  pointwise [snPad, angle]
  after_results_simp
  pointwise []

/-- The input weights with the rotary columns repeated, their halves swapped. -/
theorem wa_host (i : Fin 1024) (j : Fin 2944) : (show EReal from V m c main_v35 (ix2 i j : S1024x2944.Idx))
    = if h : j.val < 704 then (show EReal from m (c, Proc.tc.devRef main_arg3) (ix3 0 i ⟨j.val, by omega⟩ : S1x1024x2768.Idx))
      else if h : j.val - 704 < 32 then (show EReal from m (c, Proc.tc.devRef main_arg3) (ix3 0 i ⟨672 + (j.val - 704), by omega⟩ : S1x1024x2768.Idx))
      else if h : j.val - 704 - 32 < 32 then (show EReal from m (c, Proc.tc.devRef main_arg3) (ix3 0 i ⟨640 + (j.val - 704 - 32), by omega⟩ : S1x1024x2768.Idx))
      else if h : j.val - 704 - 32 - 32 < 2064 then (show EReal from m (c, Proc.tc.devRef main_arg3) (ix3 0 i ⟨704 + (j.val - 704 - 32 - 32), by omega⟩ : S1x1024x2768.Idx))
      else 0 := by
  entry_read
  pointwise []

/-- The queries' weights with each head's rotary columns repeated, their halves swapped. -/
theorem wq_host (i : Fin 384) (j : Fin 1024) : (show EReal from V m c main_v43 (ix2 i j : S384x1024.Idx))
    = if h : j.val % 256 < 192 then (show EReal from m (c, Proc.tc.devRef main_arg5) (ix3 0 i ⟨j.val / 256 * 192 + j.val % 256, by omega⟩ : S1x384x768.Idx))
      else if h : j.val % 256 - 192 < 32 then (show EReal from m (c, Proc.tc.devRef main_arg5) (ix3 0 i ⟨j.val / 256 * 192 + (160 + (j.val % 256 - 192)), by omega⟩ : S1x384x768.Idx))
      else (show EReal from m (c, Proc.tc.devRef main_arg5) (ix3 0 i ⟨j.val / 256 * 192 + (128 + (j.val % 256 - 192 - 32)), by omega⟩ : S1x384x768.Idx)) := by
  entry_read
  pointwise []

/-- The modulation vectors. -/
theorem mod_host (b : Fin 2) (j : Fin 6144) : (show EReal from V m c main_v44 (ix3 b 0 j : S2x1x6144.Idx)) = (show EReal from m (c, Proc.tc.devRef main_arg1) (ix2 b j : S2x6144.Idx)) := by
  entry_read
  pointwise []

/-- The weights of the keys and values. -/
theorem wk_host (i : Fin 256) (j : Fin 1024) : (show EReal from V m c main_v46 (ix2 i j : S256x1024.Idx)) = (show EReal from m (c, Proc.tc.devRef main_arg7) (ix3 0 i j : S1x256x1024.Idx)) := by
  entry_read
  pointwise []

end Cert.Kernel3Ideal.Pre
end
-- ==== Proof.PreBlocks.lean ====
/- What the first call's windows read at a grid point, in terms of the arguments. -/
module

public import proofs.«01_k».proof.Proof.PreHost
public import Idealize.ShloMosaic.Lib.Pipeline.ValueKit
public import Idealize.ShloMosaic.Lib.Claim

@[expose] public section

set_option maxRecDepth 16384

noncomputable section

namespace Cert.Kernel3Ideal.Pre

open Cert.Kernel3Ideal Cert.Kernel3Ideal.Gen Cert.Pre
open Idealize.ShloMosaic Idealize.ShloMosaic.TcCoe Idealize.SL.Sem
open Idealize.ShloMosaic.Pipeline (Dat)

/-- Each window's block at a grid point: batch and tile of 512 rows. -/
theorem idx : ∀ t : Fin cfg0.N,
    win0_0.index t = ![(grid0.coords t 0).val, (grid0.coords t 1).val, 0]
    ∧ win0_1.index t = ![(grid0.coords t 0).val, 0, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![(grid0.coords t 1).val, 0]
    ∧ win0_9.index t = ![(grid0.coords t 1).val, 0]
    ∧ win0_10.index t = ![(grid0.coords t 0).val, 0, 0, (grid0.coords t 1).val]
    ∧ win0_11.index t = ![(grid0.coords t 0).val, 0, (grid0.coords t 1).val, 0]
    ∧ win0_12.index t = ![(grid0.coords t 0).val, 0, 0, (grid0.coords t 1).val]
    ∧ win0_13.index t = ![(grid0.coords t 0).val, (grid0.coords t 1).val, 0]
    ∧ win0_14.index t = ![(grid0.coords t 0).val, (grid0.coords t 1).val, 0]
    ∧ win0_15.index t = ![(grid0.coords t 0).val, (grid0.coords t 1).val, 0] :=
  (by decide +kernel : ∀ t : Fin grid0.N, _)

/-- The batch of a grid point's tile. -/
def bOf (t : Fin cfg0.N) : Fin 2 := grid0.coords t 0

/-- The array's row of a row of a grid point's tile. -/
def sOf (t : Fin cfg0.N) (y : Fin 512) : Fin 16384 :=
  ⟨(grid0.coords t 1).val * 512 + y, by have : (grid0.coords t 1).val < 32 := (grid0.coords t 1).isLt; omega⟩

variable (m : (ℓ : Loc nD τ sig) → Buf (Elt Ideal) ℓ) (c : Dev nD)

/-- The layer's input. -/
theorem x_blk (t : Fin cfg0.N) (y : Fin 512) (j : Fin 1024) : (iblk m c 0 t : Vec Ideal S1x512x1024 .f32) (ix3 0 y j) = (show EReal from m (c, Proc.tc.devRef main_arg0) (ix3 (bOf t) (sOf t y) j : S2x16384x1024.Idx)) := by
  blk_simp [iblk]
  refine (congrFun (V_main_arg0 m c) _).trans (congrArg (m (c, Proc.tc.devRef main_arg0)) ?_)
  blk_ext [idx t, bOf, sOf]

/-- The modulation vectors. -/
theorem mod_blk0 (t : Fin cfg0.N) (j : Fin 6144) : (iblk m c 1 t : Vec Ideal S1x1x6144 .f32) (ix3 0 0 j) = (show EReal from V m c main_v44 (ix3 (bOf t) 0 j : S2x1x6144.Idx)) := by
  blk_simp [iblk]
  refine congrArg (V m c main_v44) ?_
  blk_ext [idx t, bOf, sOf]

/-- The mixing gain. -/
theorem gm_blk (t : Fin cfg0.N) (j : Fin 1024) : (iblk m c 2 t : Vec Ideal S1x1024 .f32) (ix2 0 j) = (show EReal from m (c, Proc.tc.devRef main_arg2) (ix2 0 j : S1x1024.Idx)) := by
  blk_simp [iblk]
  refine (congrFun (V_main_arg2 m c) _).trans (congrArg (m (c, Proc.tc.devRef main_arg2)) ?_)
  blk_ext [idx t, bOf, sOf]

/-- The input weights. -/
theorem wa_blk (t : Fin cfg0.N) (i : Fin 1024) (j : Fin 2944) : (iblk m c 3 t : Vec Ideal S1024x2944 .bf16) (ix2 i j) = (show EReal from V m c main_v35 (ix2 i j : S1024x2944.Idx)) := by
  blk_simp [iblk]
  refine congrArg (V m c main_v35) ?_
  blk_ext [idx t, bOf, sOf]

/-- The queries' gain. -/
theorem gq_blk (t : Fin cfg0.N) (j : Fin 384) : (iblk m c 4 t : Vec Ideal S1x384 .f32) (ix2 0 j) = (show EReal from m (c, Proc.tc.devRef main_arg4) (ix2 0 j : S1x384.Idx)) := by
  blk_simp [iblk]
  refine (congrFun (V_main_arg4 m c) _).trans (congrArg (m (c, Proc.tc.devRef main_arg4)) ?_)
  blk_ext [idx t, bOf, sOf]

/-- The queries' weights. -/
theorem wq_blk (t : Fin cfg0.N) (i : Fin 384) (j : Fin 1024) : (iblk m c 5 t : Vec Ideal S384x1024 .bf16) (ix2 i j) = (show EReal from V m c main_v43 (ix2 i j : S384x1024.Idx)) := by
  blk_simp [iblk]
  refine congrArg (V m c main_v43) ?_
  blk_ext [idx t, bOf, sOf]

/-- The gain of the keys and values. -/
theorem gk_blk (t : Fin cfg0.N) (j : Fin 256) : (iblk m c 6 t : Vec Ideal S1x256 .f32) (ix2 0 j) = (show EReal from m (c, Proc.tc.devRef main_arg6) (ix2 0 j : S1x256.Idx)) := by
  blk_simp [iblk]
  refine (congrFun (V_main_arg6 m c) _).trans (congrArg (m (c, Proc.tc.devRef main_arg6)) ?_)
  blk_ext [idx t, bOf, sOf]

/-- The weights of the keys and values. -/
theorem wk_blk0 (t : Fin cfg0.N) (i : Fin 256) (j : Fin 1024) : (iblk m c 7 t : Vec Ideal S256x1024 .bf16) (ix2 i j) = (show EReal from V m c main_v46 (ix2 i j : S256x1024.Idx)) := by
  blk_simp [iblk]
  refine congrArg (V m c main_v46) ?_
  blk_ext [idx t, bOf, sOf]

/-- The cosines. -/
theorem cs_blk (t : Fin cfg0.N) (y : Fin 512) (l : Fin 128) : (iblk m c 8 t : Vec Ideal S512x128 .f32) (ix2 y l) = (show EReal from V m c main_v21 (ix2 (sOf t y) l : S16384x128.Idx)) := by
  blk_simp [iblk]
  refine congrArg (V m c main_v21) ?_
  blk_ext [idx t, bOf, sOf]

/-- The sines. -/
theorem sn_blk (t : Fin cfg0.N) (y : Fin 512) (l : Fin 128) : (iblk m c 9 t : Vec Ideal S512x128 .f32) (ix2 y l) = (show EReal from V m c main_v24 (ix2 (sOf t y) l : S16384x128.Idx)) := by
  blk_simp [iblk]
  refine congrArg (V m c main_v24) ?_
  blk_ext [idx t, bOf, sOf]

/-- Where the block of this result lies. -/
theorem q_emb (t : Fin cfg0.N) (h : Fin 4) (d : Fin 256) (y : Fin 512) : (win0_10.blk t).view.emb (ix4 0 h d y : S1x4x256x512.Idx) = (ix4 (bOf t) h d (sOf t y) : S2x4x256x16384.Idx) := by
  blk_ext [idx t, bOf, sOf]

/-- Where the block of this result lies. -/
theorem k_emb (t : Fin cfg0.N) (h : Fin 4) (y : Fin 512) (d : Fin 256) : (win0_11.blk t).view.emb (ix4 0 h y d : S1x4x512x256.Idx) = (ix4 (bOf t) h (sOf t y) d : S2x4x16384x256.Idx) := by
  blk_ext [idx t, bOf, sOf]

/-- Where the block of this result lies. -/
theorem v_emb (t : Fin cfg0.N) (h : Fin 4) (d : Fin 144) (y : Fin 512) : (win0_12.blk t).view.emb (ix4 0 h d y : S1x4x144x512.Idx) = (ix4 (bOf t) h d (sOf t y) : S2x4x144x16384.Idx) := by
  blk_ext [idx t, bOf, sOf]

/-- Where the block of this result lies. -/
theorem qkv_emb (t : Fin cfg0.N) (y : Fin 512) (j : Fin 1536) : (win0_13.blk t).view.emb (ix3 0 y j : S1x512x1536.Idx) = (ix3 (bOf t) (sOf t y) j : S2x16384x1536.Idx) := by
  blk_ext [idx t, bOf, sOf]

/-- Where the block of this result lies. -/
theorem z_emb (t : Fin cfg0.N) (y : Fin 512) (j : Fin 512) : (win0_14.blk t).view.emb (ix3 0 y j : S1x512x512.Idx) = (ix3 (bOf t) (sOf t y) j : S2x16384x512.Idx) := by
  blk_ext [idx t, bOf, sOf]

/-- Where the block of this result lies. -/
theorem g_emb (t : Fin cfg0.N) (y : Fin 512) (j : Fin 128) : (win0_15.blk t).view.emb (ix3 0 y j : S1x512x128.Idx) = (ix3 (bOf t) (sOf t y) j : S2x16384x128.Idx) := by
  blk_ext [idx t, bOf, sOf]

end Cert.Kernel3Ideal.Pre
end
-- ==== Proof.PreTile.lean ====
/- What the first call's body stores, at an index: one row's arithmetic, from the blocks. -/
module

public import proofs.«01_k».proof.Proof.Gen.Kernel3Ideal.Value
public import proofs.«01_k».proof.Proof.PreSpec
public import Idealize.ShloMosaic.Lib.Pipeline.ValueKit
public import Idealize.ShloMosaic.Lib.Pointwise
public import Idealize.ShloMosaic.Lib.Claim

@[expose] public section

set_option maxRecDepth 16384

noncomputable section

namespace Cert.Kernel3Ideal.Pre

open Cert.Kernel3Ideal Cert.Kernel3Ideal.Gen Cert.Pre
open Idealize.ShloMosaic Idealize.ShloMosaic.TcCoe Idealize.SL.Sem

variable (x0 : Vec Ideal S1x512x1024 .f32) (x1 : Vec Ideal S1x1x6144 .f32) (x2 : Vec Ideal S1x1024 .f32)

/-- A row of a tile's normalised, modulated block. -/
def hRow (y : Fin 512) (j : Fin 1024) : EReal :=
  Cert.Post.modRow (fun j => x0 (ix3 0 y j)) (fun j => x2 (ix2 0 j)) (fun j => x1 (ix3 0 0 ⟨1024 + j.val, by omega⟩))
    (fun j => x1 (ix3 0 0 ⟨j.val, by omega⟩)) j

/-- The normalised rows. -/
theorem h_at (y : Fin 512) (j : Fin 1024) : k0_pay3 x0 x1 x2 (ix2 y j) = hRow x0 x1 x2 y j := by
  pointwise [k0_pay3, hRow, Cert.Post.modRow, Cert.Post.rms]

/-- The queries' low-rank rows. -/
theorem cq_at (w : Vec Ideal S1024x384 .bf16) (y : Fin 512) (j : Fin 384) :
    k0_pay7 x0 x1 x2 w (ix2 y j) = proj (hRow x0 x1 x2 y) (fun i j => w (ix2 i j)) j := by
  pointwise [k0_pay7, h_at, proj]

/-- The queries. -/
theorem q_at (p : FVec Ideal S512x384 .f32) (g : Vec Ideal S1x384 .f32) (w : Vec Ideal S384x1024 .bf16) (y : Fin 512) (j : Fin 1024) :
    k0_pay9 p g (mulf p p) w (ix2 y j) = low 0x43C00000#32 (fun i => p (ix2 y i)) (fun i => g (ix2 0 i)) (fun i j => w (ix2 i j)) j := by
  pointwise [k0_pay9, low, proj, Cert.Post.rms]

/-- The keys and values. -/
theorem kv_at (h : FVec Ideal S512x1024 .bf16) (wc : Vec Ideal S1024x256 .bf16) (g : Vec Ideal S1x256 .f32) (w : Vec Ideal S256x1024 .bf16) (y : Fin 512) (j : Fin 1024) :
    k0_pay10 h wc g w (ix2 y j) = low 0x43800000#32 (proj (fun i => h (ix2 y i)) (fun i j => wc (ix2 i j))) (fun i => g (ix2 0 i)) (fun i j => w (ix2 i j)) j := by
  pointwise [k0_pay10, low, proj, Cert.Post.rms]

/-- The shared rotary key. -/
theorem kr_at (h : FVec Ideal S512x1024 .bf16) (w : Vec Ideal S1024x128 .bf16) (y : Fin 512) (l : Fin 128) :
    k0_pay11 h w (ix2 y l) = proj (fun i => h (ix2 y i)) (fun i j => w (ix2 i j)) l := by
  pointwise [k0_pay11, proj]

/-- The rotary key, turned. -/
theorem rope_at (cs sn p : FVec Ideal S512x128 .f32) (y : Fin 512) (l : Fin 128) :
    k0_pay13 sn p (mulf p cs) 64#32 (ix2 y l) = p (ix2 y l) * cs (ix2 y l) + p (ix2 y (half l)) * sn (ix2 y l) := by
  pointwise [k0_pay13]
  rfl

/-- Head 0's queries in the first 128 lanes. -/
theorem qlo0_at (q : FVec Ideal S512x1024 .f32) (d : Fin 128) (y : Fin 512) :
    k0_pay14 q (ix4 0 0 d y) = q (ix2 y ⟨d.val, by omega⟩) * qs := by
  pointwise [k0_pay14]
  rfl

/-- Head 1's queries in the first 128 lanes. -/
theorem qlo1_at (q : FVec Ideal S512x1024 .f32) (d : Fin 128) (y : Fin 512) :
    k0_pay21 q (ix4 0 0 d y) = q (ix2 y ⟨256 + d.val, by omega⟩) * qs := by
  pointwise [k0_pay21]
  rfl

/-- Head 2's queries in the first 128 lanes. -/
theorem qlo2_at (q : FVec Ideal S512x1024 .f32) (d : Fin 128) (y : Fin 512) :
    k0_pay27 q (ix4 0 0 d y) = q (ix2 y ⟨512 + d.val, by omega⟩) * qs := by
  pointwise [k0_pay27]
  rfl

/-- Head 3's queries in the first 128 lanes. -/
theorem qlo3_at (q : FVec Ideal S512x1024 .f32) (d : Fin 128) (y : Fin 512) :
    k0_pay34 q (ix4 0 0 d y) = q (ix2 y ⟨768 + d.val, by omega⟩) * qs := by
  pointwise [k0_pay34]
  rfl

/-- Head 0's queries in the other 128 lanes. -/
theorem qhi0_at (cs sn : FVec Ideal S512x128 .f32) (q : FVec Ideal S512x1024 .f32) (d : Fin 128) (y : Fin 512) :
    k0_pay15 cs sn q (ix4 0 0 d y) = (q (ix2 y ⟨128 + d.val, by omega⟩) * cs (ix2 y d) + q (ix2 y ⟨128 + (half d).val, by omega⟩) * sn (ix2 y d)) * qs := by
  pointwise [k0_pay15]
  rfl

/-- Head 1's queries in the other 128 lanes. -/
theorem qhi1_at (cs sn : FVec Ideal S512x128 .f32) (q : FVec Ideal S512x1024 .f32) (d : Fin 128) (y : Fin 512) :
    k0_pay22 cs sn q (ix4 0 0 d y) = (q (ix2 y ⟨384 + d.val, by omega⟩) * cs (ix2 y d) + q (ix2 y ⟨384 + (half d).val, by omega⟩) * sn (ix2 y d)) * qs := by
  pointwise [k0_pay22]
  rfl

/-- Head 2's queries in the other 128 lanes. -/
theorem qhi2_at (cs sn : FVec Ideal S512x128 .f32) (q : FVec Ideal S512x1024 .f32) (d : Fin 128) (y : Fin 512) :
    k0_pay28 cs sn q (ix4 0 0 d y) = (q (ix2 y ⟨640 + d.val, by omega⟩) * cs (ix2 y d) + q (ix2 y ⟨640 + (half d).val, by omega⟩) * sn (ix2 y d)) * qs := by
  pointwise [k0_pay28]
  rfl

/-- Head 3's queries in the other 128 lanes. -/
theorem qhi3_at (cs sn : FVec Ideal S512x128 .f32) (q : FVec Ideal S512x1024 .f32) (d : Fin 128) (y : Fin 512) :
    k0_pay36 (k0_pay35 cs sn q) (ix4 0 0 d y) = (q (ix2 y ⟨896 + d.val, by omega⟩) * cs (ix2 y d) + q (ix2 y ⟨896 + (half d).val, by omega⟩) * sn (ix2 y d)) * qs := by
  pointwise [k0_pay36, k0_pay35]
  rfl

/-- Head 0's keys in the first 128 lanes. -/
theorem klo0_at (k : FVec Ideal S512x1024 .f32) (y : Fin 512) (d : Fin 128) :
    k0_pay16 k (ix4 0 0 y d) = k (ix2 y ⟨d.val, by omega⟩) := by
  pointwise [k0_pay16]

/-- Head 1's keys in the first 128 lanes. -/
theorem klo1_at (k : FVec Ideal S512x1024 .f32) (y : Fin 512) (d : Fin 128) :
    k0_pay23 k (ix4 0 0 y d) = k (ix2 y ⟨256 + d.val, by omega⟩) := by
  pointwise [k0_pay23]

/-- Head 2's keys in the first 128 lanes. -/
theorem klo2_at (k : FVec Ideal S512x1024 .f32) (y : Fin 512) (d : Fin 128) :
    k0_pay30 (k0_pay29 k) (ix4 0 0 y d) = k (ix2 y ⟨512 + d.val, by omega⟩) := by
  pointwise [k0_pay30, k0_pay29]

/-- Head 3's keys in the first 128 lanes. -/
theorem klo3_at (k : FVec Ideal S512x1024 .f32) (y : Fin 512) (d : Fin 128) :
    k0_pay37 k (ix4 0 0 y d) = k (ix2 y ⟨768 + d.val, by omega⟩) := by
  pointwise [k0_pay37]

/-- Head 1's keys in the other 128 lanes. -/
theorem khi1_at (r : FVec Ideal S512x128 .bf16) (y : Fin 512) (d : Fin 128) : k0_pay24 r (ix4 0 0 y d) = r (ix2 y d) := by
  pointwise [k0_pay24]

/-- Head 2's keys in the other 128 lanes. -/
theorem khi2_at (r : FVec Ideal S512x128 .bf16) (y : Fin 512) (d : Fin 128) : k0_pay31 r (ix4 0 0 y d) = r (ix2 y d) := by
  pointwise [k0_pay31]

/-- Head 3's keys in the other 128 lanes. -/
theorem khi3_at (r : FVec Ideal S512x128 .bf16) (y : Fin 512) (d : Fin 128) : k0_pay38 r (ix4 0 0 y d) = r (ix2 y d) := by
  pointwise [k0_pay38]

/-- Head 0's keys in the other 128 lanes. -/
theorem khi0_at (cs sn p : FVec Ideal S512x128 .f32) (y : Fin 512) (d : Fin 128) :
    k0_pay17 sn p (mulf p cs) 64#32 (ix4 0 0 y d) = k0_pay13 sn p (mulf p cs) 64#32 (ix2 y d) := by
  pointwise [k0_pay17]

/-- Head 0's values. -/
theorem v0_at (k : FVec Ideal S512x1024 .f32) (d : Fin 128) (y : Fin 512) :
    k0_pay19 (k0_pay18 k) (ix4 0 0 d y) = k (ix2 y ⟨128 + d.val, by omega⟩) := by
  pointwise [k0_pay19, k0_pay18]

/-- Head 1's values. -/
theorem v1_at (k : FVec Ideal S512x1024 .f32) (d : Fin 128) (y : Fin 512) :
    k0_pay25 k (ix4 0 0 d y) = k (ix2 y ⟨384 + d.val, by omega⟩) := by
  pointwise [k0_pay25]

/-- Head 2's values. -/
theorem v2_at (k : FVec Ideal S512x1024 .f32) (d : Fin 128) (y : Fin 512) :
    k0_pay32 k (ix4 0 0 d y) = k (ix2 y ⟨640 + d.val, by omega⟩) := by
  pointwise [k0_pay32]

/-- Head 3's values. -/
theorem v3_at (k : FVec Ideal S512x1024 .f32) (d : Fin 128) (y : Fin 512) :
    k0_pay39 k (ix4 0 0 d y) = k (ix2 y ⟨896 + d.val, by omega⟩) := by
  pointwise [k0_pay39]

/-- The word 1. -/
theorem one_bits : Ideal.ofBits .bf16 0x3F80#16 = 1 := by
  simp [Ideal.ofBits, Ideal.ieee]
  rw [← EReal.coe_mul]
  norm_num

/-- Head 0's ones. -/
theorem one0_at (d : Fin 16) (y : Fin 512) : k0_pay20 (F := Ideal) k0_pay6 (ix4 0 0 d y) = 1 := by
  pointwise [k0_pay20, k0_pay6]

/-- Head 1's ones. -/
theorem one1_at (d : Fin 16) (y : Fin 512) : k0_pay26 (F := Ideal) k0_pay6 (ix4 0 0 d y) = 1 := by
  pointwise [k0_pay26, k0_pay6]

/-- Head 2's ones. -/
theorem one2_at (d : Fin 16) (y : Fin 512) : k0_pay33 (F := Ideal) k0_pay6 (ix4 0 0 d y) = 1 := by
  pointwise [k0_pay33, k0_pay6]

/-- Head 3's ones. -/
theorem one3_at (d : Fin 16) (y : Fin 512) : k0_pay40 (F := Ideal) k0_pay6 (ix4 0 0 d y) = 1 := by
  pointwise [k0_pay40, k0_pay6]

/-- A plain projection's rows. -/
theorem qkv_at (h : FVec Ideal S512x1024 .bf16) (w : Vec Ideal S1024x1536 .bf16) (y : Fin 512) (j : Fin 1536) :
    k0_pay41 h w (ix3 0 y j) = proj (fun i => h (ix2 y i)) (fun i j => w (ix2 i j)) j := by
  pointwise [k0_pay41, proj]

/-- A plain projection's rows. -/
theorem z_at (h : FVec Ideal S512x1024 .bf16) (w : Vec Ideal S1024x512 .bf16) (y : Fin 512) (j : Fin 512) :
    k0_pay1 h w (ix3 0 y j) = proj (fun i => h (ix2 y i)) (fun i j => w (ix2 i j)) j := by
  pointwise [k0_pay1, proj]

/-- A plain projection's rows. -/
theorem g_at (h : FVec Ideal S512x1024 .bf16) (w : Vec Ideal S1024x128 .bf16) (y : Fin 512) (j : Fin 128) :
    k0_pay2 h w (ix3 0 y j) = proj (fun i => h (ix2 y i)) (fun i j => w (ix2 i j)) j := by
  pointwise [k0_pay2, proj]

end Cert.Kernel3Ideal.Pre

end
-- ==== Proof.PreRef.lean ====
/- The first call's reference terms, cut into their stages, and their values at an index: one row's arithmetic. -/
module

public import proofs.«01_k».proof.Proof.Gen.Reference3Ideal.Run
public import proofs.«01_k».proof.Proof.Gen.Reference3Ideal
public import proofs.«01_k».proof.Proof.PreSpec
public import Idealize.ShloMosaic.Lib.Pointwise

@[expose] public section

set_option maxRecDepth 16384

noncomputable section

namespace Cert.Reference3Ideal.RefValue

open Cert.Reference3Ideal Cert.Reference3Ideal.Gen Cert.Pre
open Idealize.ShloMosaic Idealize.ShloMosaic.TcCoe Idealize.SL.Sem

section
variable (x : FVec Ideal S2x16384x1024 .f32) (mod : FVec Ideal S2x6144 .f32) (gm : FVec Ideal S1x1024 .f32)
  (wi : FVec Ideal S1x1024x2768 .f32) (gq : FVec Ideal S1x384 .f32) (wq : FVec Ideal S1x384x768 .f32) (gk : FVec Ideal S1x256 .f32)
  (wk : FVec Ideal S1x256x1024 .f32)

/-- The normalised, modulated rows. -/
def H : FVec Ideal S2x16384x1024 .f32 :=
  addf (mulf (mulf (mulf x (broadcastInDim S2x16384x1024 ![0, 1, 2] bcast_S2x16384x1_S2x16384x1024_0_1_2 (Host.rsqrt (addf (Host.divf (broadcastInDim S2x16384x1 ![0, 1] bcast_S2x16384_S2x16384x1_0_1 (Host.reduceAdd (mulf x x) (constant S_ .f32 0x00000000#32) reducesTo_S2x16384x1024_S2x16384_d2 h_S_)) (broadcastInDim S2x16384x1 ![] bcast_S_S2x16384x1 (constant S_ .f32 0x44800000#32))) (broadcastInDim S2x16384x1 ![] bcast_S_S2x16384x1 (constant S_ .f32 0x358637BD#32)))))) (broadcastInDim S2x16384x1024 ![0, 1, 2] bcast_S1x1x1024_S2x16384x1024_0_1_2 (broadcastInDim S1x1x1024 ![2] bcast_S1024_S1x1x1024_2 (shapeCast S1024 gm shapeCasts_S1x1024_S1024)))) (broadcastInDim S2x16384x1024 ![0, 1, 2] bcast_S2x1x1024_S2x16384x1024_0_1_2 (addf (broadcastInDim S2x1x1024 ![] bcast_S_S2x1x1024 (constant S_ .f32 0x3F800000#32)) (extractStridedSlice S2x1x1024 ![0, 0, 1024] (broadcastInDim S2x1x6144 ![0, 2] bcast_S2x6144_S2x1x6144_0_2 mod) slices_S2x1x6144_S2x1x1024_0_0_1024)))) (broadcastInDim S2x16384x1024 ![0, 1, 2] bcast_S2x1x1024_S2x16384x1024_0_1_2 (extractStridedSlice S2x1x1024 ![0, 0, 0] (broadcastInDim S2x1x6144 ![0, 2] bcast_S2x6144_S2x1x6144_0_2 mod) slices_S2x1x6144_S2x1x1024_0_0_0))

/-- The input projection. -/
def PJ (h : FVec Ideal S2x16384x1024 .f32) : FVec Ideal S2x16384x2768 .f32 :=
  Host.dotGeneral dot_S2x16384x1024_S1024x2768_S2x16384x2768_2_0_01_1_n_n none h (shapeCast S1024x2768 wi shapeCasts_S1x1024x2768_S1024x2768)

/-- The queries of all heads. -/
def UQ (pj : FVec Ideal S2x16384x2768 .f32) : FVec Ideal S2x16384x768 .f32 :=
  Host.dotGeneral dot_S2x16384x384_S384x768_S2x16384x768_2_0_01_1_n_n none (mulf (mulf (extractStridedSlice S2x16384x384 ![0, 0, 0] pj slices_S2x16384x2768_S2x16384x384_0_0_0) (broadcastInDim S2x16384x384 ![0, 1, 2] bcast_S2x16384x1_S2x16384x384_0_1_2 (Host.rsqrt (addf (Host.divf (broadcastInDim S2x16384x1 ![0, 1] bcast_S2x16384_S2x16384x1_0_1 (Host.reduceAdd (mulf (extractStridedSlice S2x16384x384 ![0, 0, 0] pj slices_S2x16384x2768_S2x16384x384_0_0_0) (extractStridedSlice S2x16384x384 ![0, 0, 0] pj slices_S2x16384x2768_S2x16384x384_0_0_0)) (constant S_ .f32 0x00000000#32) reducesTo_S2x16384x384_S2x16384_d2 h_S_)) (broadcastInDim S2x16384x1 ![] bcast_S_S2x16384x1 (constant S_ .f32 0x43C00000#32))) (broadcastInDim S2x16384x1 ![] bcast_S_S2x16384x1 (constant S_ .f32 0x358637BD#32)))))) (broadcastInDim S2x16384x384 ![0, 1, 2] bcast_S1x1x384_S2x16384x384_0_1_2 (broadcastInDim S1x1x384 ![2] bcast_S384_S1x1x384_2 (shapeCast S384 gq shapeCasts_S1x384_S384)))) (shapeCast S384x768 wq shapeCasts_S1x384x768_S384x768)

/-- The keys and values of all heads. -/
def UK (pj : FVec Ideal S2x16384x2768 .f32) : FVec Ideal S2x16384x1024 .f32 :=
  Host.dotGeneral dot_S2x16384x256_S256x1024_S2x16384x1024_2_0_01_1_n_n none (mulf (mulf (extractStridedSlice S2x16384x256 ![0, 0, 384] pj slices_S2x16384x2768_S2x16384x256_0_0_384) (broadcastInDim S2x16384x256 ![0, 1, 2] bcast_S2x16384x1_S2x16384x256_0_1_2 (Host.rsqrt (addf (Host.divf (broadcastInDim S2x16384x1 ![0, 1] bcast_S2x16384_S2x16384x1_0_1 (Host.reduceAdd (mulf (extractStridedSlice S2x16384x256 ![0, 0, 384] pj slices_S2x16384x2768_S2x16384x256_0_0_384) (extractStridedSlice S2x16384x256 ![0, 0, 384] pj slices_S2x16384x2768_S2x16384x256_0_0_384)) (constant S_ .f32 0x00000000#32) reducesTo_S2x16384x256_S2x16384_d2 h_S_)) (broadcastInDim S2x16384x1 ![] bcast_S_S2x16384x1 (constant S_ .f32 0x43800000#32))) (broadcastInDim S2x16384x1 ![] bcast_S_S2x16384x1 (constant S_ .f32 0x358637BD#32)))))) (broadcastInDim S2x16384x256 ![0, 1, 2] bcast_S1x1x256_S2x16384x256_0_1_2 (broadcastInDim S1x1x256 ![2] bcast_S256_S1x1x256_2 (shapeCast S256 gk shapeCasts_S1x256_S256)))) (shapeCast S256x1024 wk shapeCasts_S1x256x1024_S256x1024)

/-- The rotary angles. -/
def ANG : FVec Ideal S16384x32 .f32 :=
  mulf (broadcastInDim S16384x32 ![0, 1] bcast_S16384x1_S16384x32_0_1 (broadcastInDim S16384x1 ![0] bcast_S16384_S16384x1_0 (sitofp .f32 (iotaInDim S16384 32 0)))) (broadcastInDim S16384x32 ![0, 1] bcast_S1x32_S16384x32_0_1 (broadcastInDim S1x32 ![1] bcast_S32_S1x32_1 (Host.divf (broadcastInDim S32 ![] bcast_S_S32 (constant S_ .f32 0x3F800000#32)) (Host.powf (broadcastInDim S32 ![] bcast_S_S32 (constant S_ .f32 0x461C4000#32)) (Host.divf (addf (broadcastInDim S32 ![] bcast_S_S32 (constant S_ .f32 0x00000000#32)) (mulf (broadcastInDim S32 ![] bcast_S_S32 (constant S_ .f32 0x40000000#32)) (sitofp .f32 (iotaInDim S32 32 0)))) (broadcastInDim S32 ![] bcast_S_S32 (constant S_ .f32 0x42800000#32)))))))

/-- The cosines. -/
def CS : FVec Ideal S16384x32 .f32 := Host.cos ANG

/-- The sines. -/
def SN : FVec Ideal S16384x32 .f32 := Host.sin ANG

/-- The queries, scaled and padded. -/
def Q (uq : FVec Ideal S2x16384x768 .f32) (cs sn : FVec Ideal S16384x32 .f32) : FVec Ideal S2x4x256x16384 .bf16 :=
  truncf .bf16 (transpose S2x4x256x16384 [0, 2, 3, 1] (Host.divf ((concatenate S2x16384x4x256 3 [⟨S2x16384x4x128, ((mulf (extractStridedSlice S2x16384x4x128 ![0, 0, 0, 0] (shapeCast S2x16384x4x192 uq shapeCasts_S2x16384x768_S2x16384x4x192) slices_S2x16384x4x192_S2x16384x4x128_0_0_0_0) (broadcastInDim S2x16384x4x128 ![] bcast_S_S2x16384x4x128 (Host.rsqrt (constant S_ .f32 0x43400000#32)))))⟩, ⟨S2x16384x4x64, ((mulf (concatenate S2x16384x4x64 3 [⟨S2x16384x4x32, (subf (mulf (extractStridedSlice S2x16384x4x32 ![0, 0, 0, 0] (extractStridedSlice S2x16384x4x64 ![0, 0, 0, 128] (shapeCast S2x16384x4x192 uq shapeCasts_S2x16384x768_S2x16384x4x192) slices_S2x16384x4x192_S2x16384x4x64_0_0_0_128) slices_S2x16384x4x64_S2x16384x4x32_0_0_0_0) (broadcastInDim S2x16384x4x32 ![0, 1, 2, 3] bcast_S1x16384x1x32_S2x16384x4x32_0_1_2_3 (broadcastInDim S1x16384x1x32 ![1, 2, 3] bcast_S16384x1x32_S1x16384x1x32_1_2_3 (broadcastInDim S16384x1x32 ![0, 2] bcast_S16384x32_S16384x1x32_0_2 cs)))) (mulf (extractStridedSlice S2x16384x4x32 ![0, 0, 0, 32] (extractStridedSlice S2x16384x4x64 ![0, 0, 0, 128] (shapeCast S2x16384x4x192 uq shapeCasts_S2x16384x768_S2x16384x4x192) slices_S2x16384x4x192_S2x16384x4x64_0_0_0_128) slices_S2x16384x4x64_S2x16384x4x32_0_0_0_32) (broadcastInDim S2x16384x4x32 ![0, 1, 2, 3] bcast_S1x16384x1x32_S2x16384x4x32_0_1_2_3 (broadcastInDim S1x16384x1x32 ![1, 2, 3] bcast_S16384x1x32_S1x16384x1x32_1_2_3 (broadcastInDim S16384x1x32 ![0, 2] bcast_S16384x32_S16384x1x32_0_2 sn)))))⟩, ⟨S2x16384x4x32, (addf (mulf (extractStridedSlice S2x16384x4x32 ![0, 0, 0, 32] (extractStridedSlice S2x16384x4x64 ![0, 0, 0, 128] (shapeCast S2x16384x4x192 uq shapeCasts_S2x16384x768_S2x16384x4x192) slices_S2x16384x4x192_S2x16384x4x64_0_0_0_128) slices_S2x16384x4x64_S2x16384x4x32_0_0_0_32) (broadcastInDim S2x16384x4x32 ![0, 1, 2, 3] bcast_S1x16384x1x32_S2x16384x4x32_0_1_2_3 (broadcastInDim S1x16384x1x32 ![1, 2, 3] bcast_S16384x1x32_S1x16384x1x32_1_2_3 (broadcastInDim S16384x1x32 ![0, 2] bcast_S16384x32_S16384x1x32_0_2 cs)))) (mulf (extractStridedSlice S2x16384x4x32 ![0, 0, 0, 0] (extractStridedSlice S2x16384x4x64 ![0, 0, 0, 128] (shapeCast S2x16384x4x192 uq shapeCasts_S2x16384x768_S2x16384x4x192) slices_S2x16384x4x192_S2x16384x4x64_0_0_0_128) slices_S2x16384x4x64_S2x16384x4x32_0_0_0_0) (broadcastInDim S2x16384x4x32 ![0, 1, 2, 3] bcast_S1x16384x1x32_S2x16384x4x32_0_1_2_3 (broadcastInDim S1x16384x1x32 ![1, 2, 3] bcast_S16384x1x32_S1x16384x1x32_1_2_3 (broadcastInDim S16384x1x32 ![0, 2] bcast_S16384x32_S16384x1x32_0_2 sn)))))⟩] concatenates_S2x16384x4x32_S2x16384x4x32_S2x16384x4x64_d3) (broadcastInDim S2x16384x4x64 ![] bcast_S_S2x16384x4x64 (Host.rsqrt (constant S_ .f32 0x43400000#32)))))⟩, ⟨S2x16384x4x64, ((broadcastInDim S2x16384x4x64 ![] bcast_S_S2x16384x4x64 (constant S_ .f32 0x00000000#32)))⟩] concatenates_S2x16384x4x128_S2x16384x4x64_S2x16384x4x64_S2x16384x4x256_d3)) (broadcastInDim S2x16384x4x256 ![] bcast_S_S2x16384x4x256 (Host.log (constant S_ .f32 0x40000000#32)))) transposes_S2x16384x4x256_S2x4x256x16384_0_2_3_1) bitsLt_bf16_f32

/-- The keys, padded. -/
def K (pj : FVec Ideal S2x16384x2768 .f32) (uk : FVec Ideal S2x16384x1024 .f32) (cs sn : FVec Ideal S16384x32 .f32) :
    FVec Ideal S2x4x16384x256 .bf16 :=
  truncf .bf16 (transpose S2x4x16384x256 [0, 2, 1, 3] ((concatenate S2x16384x4x256 3 [⟨S2x16384x4x128, ((extractStridedSlice S2x16384x4x128 ![0, 0, 0, 0] (shapeCast S2x16384x4x256 uk shapeCasts_S2x16384x1024_S2x16384x4x256) slices_S2x16384x4x256_S2x16384x4x128_0_0_0_0))⟩, ⟨S2x16384x4x64, ((broadcastInDim S2x16384x4x64 ![0, 1, 2, 3] bcast_S2x16384x1x64_S2x16384x4x64_0_1_2_3 (broadcastInDim S2x16384x1x64 ![0, 1, 3] bcast_S2x16384x64_S2x16384x1x64_0_1_3 (concatenate S2x16384x64 2 [⟨S2x16384x32, (subf (mulf (extractStridedSlice S2x16384x32 ![0, 0, 0] (extractStridedSlice S2x16384x64 ![0, 0, 640] pj slices_S2x16384x2768_S2x16384x64_0_0_640) slices_S2x16384x64_S2x16384x32_0_0_0) (broadcastInDim S2x16384x32 ![0, 1, 2] bcast_S1x16384x32_S2x16384x32_0_1_2 (broadcastInDim S1x16384x32 ![1, 2] bcast_S16384x32_S1x16384x32_1_2 cs))) (mulf (extractStridedSlice S2x16384x32 ![0, 0, 32] (extractStridedSlice S2x16384x64 ![0, 0, 640] pj slices_S2x16384x2768_S2x16384x64_0_0_640) slices_S2x16384x64_S2x16384x32_0_0_32) (broadcastInDim S2x16384x32 ![0, 1, 2] bcast_S1x16384x32_S2x16384x32_0_1_2 (broadcastInDim S1x16384x32 ![1, 2] bcast_S16384x32_S1x16384x32_1_2 sn))))⟩, ⟨S2x16384x32, (addf (mulf (extractStridedSlice S2x16384x32 ![0, 0, 32] (extractStridedSlice S2x16384x64 ![0, 0, 640] pj slices_S2x16384x2768_S2x16384x64_0_0_640) slices_S2x16384x64_S2x16384x32_0_0_32) (broadcastInDim S2x16384x32 ![0, 1, 2] bcast_S1x16384x32_S2x16384x32_0_1_2 (broadcastInDim S1x16384x32 ![1, 2] bcast_S16384x32_S1x16384x32_1_2 cs))) (mulf (extractStridedSlice S2x16384x32 ![0, 0, 0] (extractStridedSlice S2x16384x64 ![0, 0, 640] pj slices_S2x16384x2768_S2x16384x64_0_0_640) slices_S2x16384x64_S2x16384x32_0_0_0) (broadcastInDim S2x16384x32 ![0, 1, 2] bcast_S1x16384x32_S2x16384x32_0_1_2 (broadcastInDim S1x16384x32 ![1, 2] bcast_S16384x32_S1x16384x32_1_2 sn))))⟩] concatenates_S2x16384x32_S2x16384x32_S2x16384x64_d2))))⟩, ⟨S2x16384x4x64, ((broadcastInDim S2x16384x4x64 ![] bcast_S_S2x16384x4x64 (constant S_ .f32 0x00000000#32)))⟩] concatenates_S2x16384x4x128_S2x16384x4x64_S2x16384x4x64_S2x16384x4x256_d3)) transposes_S2x16384x4x256_S2x4x16384x256_0_2_1_3) bitsLt_bf16_f32

/-- The values with their rows of ones. -/
def V (uk : FVec Ideal S2x16384x1024 .f32) : FVec Ideal S2x4x144x16384 .bf16 :=
  truncf .bf16 (transpose S2x4x144x16384 [0, 2, 3, 1] (concatenate S2x16384x4x144 3 [⟨S2x16384x4x128, (extractStridedSlice S2x16384x4x128 ![0, 0, 0, 128] (shapeCast S2x16384x4x256 uk shapeCasts_S2x16384x1024_S2x16384x4x256) slices_S2x16384x4x256_S2x16384x4x128_0_0_0_128)⟩, ⟨S2x16384x4x16, (broadcastInDim S2x16384x4x16 ![] bcast_S_S2x16384x4x16 (constant S_ .f32 0x3F800000#32))⟩] concatenates_S2x16384x4x128_S2x16384x4x16_S2x16384x4x144_d3) transposes_S2x16384x4x144_S2x4x144x16384_0_2_3_1) bitsLt_bf16_f32

/-- The delta rule's channels. -/
def QKV (pj : FVec Ideal S2x16384x2768 .f32) : FVec Ideal S2x16384x1536 .f32 :=
  extractStridedSlice S2x16384x1536 ![0, 0, 704] pj slices_S2x16384x2768_S2x16384x1536_0_0_704

/-- The delta rule's output gate. -/
def Z (pj : FVec Ideal S2x16384x2768 .f32) : FVec Ideal S2x16384x512 .f32 :=
  extractStridedSlice S2x16384x512 ![0, 0, 2240] pj slices_S2x16384x2768_S2x16384x512_0_0_2240

/-- The delta rule's gates, padded. -/
def G (pj : FVec Ideal S2x16384x2768 .f32) : FVec Ideal S2x16384x128 .f32 :=
  concatenate S2x16384x128 2 [⟨S2x16384x16, (extractStridedSlice S2x16384x16 ![0, 0, 2752] pj slices_S2x16384x2768_S2x16384x16_0_0_2752)⟩, ⟨S2x16384x112, (broadcastInDim S2x16384x112 ![] bcast_S_S2x16384x112 (constant S_ .f32 0x00000000#32))⟩] concatenates_S2x16384x16_S2x16384x112_S2x16384x128_d2

/-- A row of the input projection. -/
def pRow (b : Fin 2) (s : Fin 16384) (j : Fin 2768) : EReal :=
  proj (Cert.Post.modRow (fun j => x (ix3 b s j)) (fun j => gm (ix2 0 j)) (fun j => mod (ix2 b ⟨1024 + j.val, by omega⟩))
    (fun j => mod (ix2 b ⟨j.val, by omega⟩))) (fun i j => wi (ix3 0 i j)) j

/-- The input projection at an index. -/
theorem pj_at (b : Fin 2) (s : Fin 16384) (j : Fin 2768) : PJ wi (H x mod gm) (ix3 b s j) = pRow x mod gm wi b s j := by
  pointwise [PJ, H, pRow, proj, Cert.Post.modRow, Cert.Post.rms]

/-- The queries at an index. -/
theorem uq_at (pj : FVec Ideal S2x16384x2768 .f32) (b : Fin 2) (s : Fin 16384) (j : Fin 768) : UQ gq wq pj (ix3 b s j)
    = low 0x43C00000#32 (fun i => pj (ix3 b s ⟨i.val, by omega⟩)) (fun i => gq (ix2 0 i)) (fun i j => wq (ix3 0 i j)) j := by
  pointwise [UQ, low, proj, Cert.Post.rms]

/-- The keys and values at an index. -/
theorem uk_at (pj : FVec Ideal S2x16384x2768 .f32) (b : Fin 2) (s : Fin 16384) (j : Fin 1024) : UK gk wk pj (ix3 b s j)
    = low 0x43800000#32 (fun i => pj (ix3 b s ⟨384 + i.val, by omega⟩)) (fun i => gk (ix2 0 i)) (fun i j => wk (ix3 0 i j)) j := by
  pointwise [UK, low, proj, Cert.Post.rms]

/-- The cosine of a position and a lane. -/
theorem cs_at (s : Fin 16384) (l : Fin 32) : CS (ix2 s l) = Ideal.cos (angle s l) := by
  pointwise [CS, ANG, angle]

/-- The sine of a position and a lane. -/
theorem sn_at (s : Fin 16384) (l : Fin 32) : SN (ix2 s l) = Ideal.sin (angle s l) := by
  pointwise [SN, ANG, angle]

/-- The queries in the first 128 lanes. -/
theorem q_lo (uq : FVec Ideal S2x16384x768 .f32) (cs sn : FVec Ideal S16384x32 .f32) (b : Fin 2) (h : Fin 4) (d : Fin 128)
    (s : Fin 16384) : Q uq cs sn (ix4 b h ⟨d.val, by omega⟩ s) = uq (ix3 b s ⟨h.val * 192 + d.val, by omega⟩) * qs := by
  rw [← scale_eq]
  pointwise [Q]

/-- The queries in the other 128 lanes. -/
theorem q_hi (uq : FVec Ideal S2x16384x768 .f32) (cs sn : FVec Ideal S16384x32 .f32) (b : Fin 2) (h : Fin 4) (d : Fin 128)
    (s : Fin 16384) : Q uq cs sn (ix4 b h ⟨128 + d.val, by omega⟩ s)
    = ropePad (fun l => uq (ix3 b s ⟨h.val * 192 + (128 + l.val), by omega⟩)) (fun l => cs (ix2 s l)) (fun l => sn (ix2 s l)) d * qs := by
  by_cases h2 : d.val < 64
  · by_cases h1 : d.val < 32
    · rw [ropePad_0 _ _ _ _ h1, ← scale_eq]
      pointwise [Q]
      rw [dif_pos h2, dif_pos h1]
    · rw [ropePad_1 _ _ _ _ h1 h2, ← scale_eq]
      pointwise [Q]
      rw [dif_pos h2, dif_neg h1]
  · rw [ropePad_2 _ _ _ _ h2, ← scale_eq]
    pointwise [Q]
    rw [dif_neg h2]
    simp only [zero_mul]

/-- The keys in the first 128 lanes. -/
theorem k_lo (pj : FVec Ideal S2x16384x2768 .f32) (uk : FVec Ideal S2x16384x1024 .f32) (cs sn : FVec Ideal S16384x32 .f32)
    (b : Fin 2) (h : Fin 4) (s : Fin 16384) (d : Fin 128) :
    K pj uk cs sn (ix4 b h s ⟨d.val, by omega⟩) = uk (ix3 b s ⟨h.val * 256 + d.val, by omega⟩) := by
  pointwise [K]

/-- The keys in the other 128 lanes. -/
theorem k_hi (pj : FVec Ideal S2x16384x2768 .f32) (uk : FVec Ideal S2x16384x1024 .f32) (cs sn : FVec Ideal S16384x32 .f32)
    (b : Fin 2) (h : Fin 4) (s : Fin 16384) (d : Fin 128) :
    K pj uk cs sn (ix4 b h s ⟨128 + d.val, by omega⟩)
    = ropePad (fun l => pj (ix3 b s ⟨640 + l.val, by omega⟩)) (fun l => cs (ix2 s l)) (fun l => sn (ix2 s l)) d := by
  by_cases h2 : d.val < 64
  · by_cases h1 : d.val < 32
    · rw [ropePad_0 _ _ _ _ h1]
      pointwise [K]
      rw [dif_pos h2, dif_pos h1]
    · rw [ropePad_1 _ _ _ _ h1 h2]
      pointwise [K]
      rw [dif_pos h2, dif_neg h1]
  · rw [ropePad_2 _ _ _ _ h2]
    pointwise [K]
    rw [dif_neg h2]

/-- The values and the ones. -/
theorem v_at (uk : FVec Ideal S2x16384x1024 .f32) (b : Fin 2) (h : Fin 4) (d : Fin 144) (s : Fin 16384) :
    V uk (ix4 b h d s) = if hd : d.val < 128 then uk (ix3 b s ⟨h.val * 256 + (128 + d.val), by omega⟩) else 1 := by
  pointwise [V]

/-- The delta rule's channels at an index. -/
theorem qkv_at (pj : FVec Ideal S2x16384x2768 .f32) (b : Fin 2) (s : Fin 16384) (j : Fin 1536) :
    QKV pj (ix3 b s j) = pj (ix3 b s ⟨704 + j.val, by omega⟩) := by
  pointwise [QKV]

/-- The gate at an index. -/
theorem z_at (pj : FVec Ideal S2x16384x2768 .f32) (b : Fin 2) (s : Fin 16384) (j : Fin 512) :
    Z pj (ix3 b s j) = pj (ix3 b s ⟨2240 + j.val, by omega⟩) := by
  pointwise [Z]

/-- The padded gates at an index. -/
theorem g_at (pj : FVec Ideal S2x16384x2768 .f32) (b : Fin 2) (s : Fin 16384) (j : Fin 128) :
    G pj (ix3 b s j) = if h : j.val < 16 then pj (ix3 b s ⟨2752 + j.val, by omega⟩) else 0 := by
  pointwise [G]

end

end Cert.Reference3Ideal.RefValue

end
-- ==== Proof.PreRows.lean ====
/- What the first call computes in a grid point's tile, as the reference's rows. -/
module

public import proofs.«01_k».proof.Proof.PreBlocks
public import proofs.«01_k».proof.Proof.PreTile
public import proofs.«01_k».proof.Proof.PreRef

@[expose] public section

set_option maxRecDepth 16384

noncomputable section

namespace Cert.Kernel3Ideal.Pre

open Cert.Kernel3Ideal Cert.Kernel3Ideal.Gen Cert.Pre
open Idealize.ShloMosaic Idealize.ShloMosaic.TcCoe Idealize.SL.Sem
open Idealize.ShloMosaic.Pipeline (Dat)
open Cert.Reference3Ideal.RefValue (pRow)

variable (m : (ℓ : Loc nD τ sig) → Buf (Elt Ideal) ℓ) (c : Dev nD)

/-! ## The weights' columns -/

/-- The first 640 columns. -/
theorem wa_c (i : Fin 1024) (j : Fin 2944) (h : j.val < 640) : (show EReal from V m c main_v35 (ix2 i j : S1024x2944.Idx)) = (show EReal from m (c, Proc.tc.devRef main_arg3) (ix3 0 i ⟨j.val, by omega⟩ : S1x1024x2768.Idx)) :=
  (wa_host m c i j).trans (dif_pos (by omega))

/-- The columns of the rotary key. -/
theorem wa_r (i : Fin 1024) (l : Fin 128) : (show EReal from V m c main_v35 (ix2 i ⟨640 + l.val, by omega⟩ : S1024x2944.Idx)) = (show EReal from m (c, Proc.tc.devRef main_arg3) (ix3 0 i ⟨640 + (swp l).val, by omega⟩ : S1x1024x2768.Idx)) := by
  refine (wa_host m c i _).trans ?_
  by_cases h1 : l.val < 64
  · have e : (swp l).val = l.val := congrArg Fin.val (swp_0 l h1)
    rw [dif_pos (by simp only; omega)]
    exact congrArg (fun z : Fin 2768 => (show EReal from m (c, Proc.tc.devRef main_arg3) (ix3 0 i z : S1x1024x2768.Idx))) (Fin.ext (by simp only; omega))
  · by_cases h2 : l.val < 96
    · have e : (swp l).val = l.val - 32 := congrArg Fin.val (swp_1 l h1 h2)
      rw [dif_neg (by simp only; omega), dif_pos (by simp only; omega)]
      exact congrArg (fun z : Fin 2768 => (show EReal from m (c, Proc.tc.devRef main_arg3) (ix3 0 i z : S1x1024x2768.Idx))) (Fin.ext (by simp only; omega))
    · have e : (swp l).val = l.val - 96 := congrArg Fin.val (swp_2 l h2)
      rw [dif_neg (by simp only; omega), dif_neg (by simp only; omega), dif_pos (by simp only; omega)]
      exact congrArg (fun z : Fin 2768 => (show EReal from m (c, Proc.tc.devRef main_arg3) (ix3 0 i z : S1x1024x2768.Idx))) (Fin.ext (by simp only; omega))

/-- The remaining columns. -/
theorem wa_m (i : Fin 1024) (k : Fin 2944) (j : Fin 2064) (e : k.val = 768 + j.val) : (show EReal from V m c main_v35 (ix2 i k : S1024x2944.Idx)) = (show EReal from m (c, Proc.tc.devRef main_arg3) (ix3 0 i ⟨704 + j.val, by omega⟩ : S1x1024x2768.Idx)) := by
  refine (wa_host m c i _).trans ?_
  rw [dif_neg (by omega), dif_neg (by omega), dif_neg (by omega), dif_pos (by omega)]
  exact congrArg (fun z : Fin 2768 => (show EReal from m (c, Proc.tc.devRef main_arg3) (ix3 0 i z : S1x1024x2768.Idx))) (Fin.ext (by simp only; omega))

/-- The padding columns. -/
theorem wa_z (i : Fin 1024) (k : Fin 2944) (e : 2832 ≤ k.val) : (show EReal from V m c main_v35 (ix2 i k : S1024x2944.Idx)) = 0 := by
  refine (wa_host m c i _).trans ?_
  rw [dif_neg (by omega), dif_neg (by omega), dif_neg (by omega), dif_neg (by omega)]

/-- A head's first 128 columns of the queries' weights. -/
theorem wq_c (i : Fin 384) (h : Fin 4) (d : Fin 128) : (show EReal from V m c main_v43 (ix2 i ⟨h.val * 256 + d.val, by omega⟩ : S384x1024.Idx)) = (show EReal from m (c, Proc.tc.devRef main_arg5) (ix3 0 i ⟨h.val * 192 + d.val, by omega⟩ : S1x384x768.Idx)) := by
  refine (wq_host m c i _).trans ?_
  rw [dif_pos (by simp only; omega)]
  exact congrArg (fun z : Fin 768 => (show EReal from m (c, Proc.tc.devRef main_arg5) (ix3 0 i z : S1x384x768.Idx))) (Fin.ext (by simp only; omega))

/-- A head's rotary columns of the queries' weights. -/
theorem wq_r (i : Fin 384) (h : Fin 4) (l : Fin 128) : (show EReal from V m c main_v43 (ix2 i ⟨h.val * 256 + (128 + l.val), by omega⟩ : S384x1024.Idx))
    = (show EReal from m (c, Proc.tc.devRef main_arg5) (ix3 0 i ⟨h.val * 192 + (128 + (swp l).val), by omega⟩ : S1x384x768.Idx)) := by
  refine (wq_host m c i _).trans ?_
  by_cases h1 : l.val < 64
  · have e : (swp l).val = l.val := congrArg Fin.val (swp_0 l h1)
    rw [dif_pos (by simp only; omega)]
    exact congrArg (fun z : Fin 768 => (show EReal from m (c, Proc.tc.devRef main_arg5) (ix3 0 i z : S1x384x768.Idx))) (Fin.ext (by simp only; omega))
  · by_cases h2 : l.val < 96
    · have e : (swp l).val = l.val - 32 := congrArg Fin.val (swp_1 l h1 h2)
      rw [dif_neg (by simp only; omega), dif_pos (by simp only; omega)]
      exact congrArg (fun z : Fin 768 => (show EReal from m (c, Proc.tc.devRef main_arg5) (ix3 0 i z : S1x384x768.Idx))) (Fin.ext (by simp only; omega))
    · have e : (swp l).val = l.val - 96 := congrArg Fin.val (swp_2 l h2)
      rw [dif_neg (by simp only; omega), dif_neg (by simp only; omega)]
      exact congrArg (fun z : Fin 768 => (show EReal from m (c, Proc.tc.devRef main_arg5) (ix3 0 i z : S1x384x768.Idx))) (Fin.ext (by simp only; omega))

/-! ## The rows -/

/-- The reference's row of the input projection. -/
def PR (b : Fin 2) (s : Fin 16384) (j : Fin 2768) : EReal :=
  pRow (m (c, Proc.tc.devRef main_arg0)) (m (c, Proc.tc.devRef main_arg1)) (m (c, Proc.tc.devRef main_arg2)) (m (c, Proc.tc.devRef main_arg3)) b s j

/-- The reference's row of the queries. -/
def QR (b : Fin 2) (s : Fin 16384) (j : Fin 768) : EReal :=
  low 0x43C00000#32 (fun i : Fin 384 => PR m c b s ⟨i.val, by omega⟩) (fun i => (show EReal from m (c, Proc.tc.devRef main_arg4) (ix2 0 i : S1x384.Idx))) (fun i j => (show EReal from m (c, Proc.tc.devRef main_arg5) (ix3 0 i j : S1x384x768.Idx))) j

/-- The reference's row of the keys and values. -/
def KR (b : Fin 2) (s : Fin 16384) (j : Fin 1024) : EReal :=
  low 0x43800000#32 (fun i : Fin 256 => PR m c b s ⟨384 + i.val, by omega⟩) (fun i => (show EReal from m (c, Proc.tc.devRef main_arg6) (ix2 0 i : S1x256.Idx))) (fun i j => (show EReal from m (c, Proc.tc.devRef main_arg7) (ix3 0 i j : S1x256x1024.Idx))) j

/-- The normalised, modulated row. -/
def HR (b : Fin 2) (s : Fin 16384) : Fin 1024 → EReal :=
  Cert.Post.modRow (fun j => (show EReal from m (c, Proc.tc.devRef main_arg0) (ix3 b s j : S2x16384x1024.Idx))) (fun j => (show EReal from m (c, Proc.tc.devRef main_arg2) (ix2 0 j : S1x1024.Idx)))
    (fun j => (show EReal from m (c, Proc.tc.devRef main_arg1) (ix2 b ⟨1024 + j.val, by omega⟩ : S2x6144.Idx))) (fun j => (show EReal from m (c, Proc.tc.devRef main_arg1) (ix2 b ⟨j.val, by omega⟩ : S2x6144.Idx)))

/-- The tile's rows are the array's. -/
theorem hRow_eq (t : Fin cfg0.N) (y : Fin 512) : hRow (iblk m c 0 t) (iblk m c 1 t) (iblk m c 2 t) y = HR m c (bOf t) (sOf t y) := by
  funext j
  unfold hRow HR
  simp only [x_blk, gm_blk, mod_blk0]
  exact congrArg₂ (fun p q => Cert.Post.modRow _ _ p q j) (funext fun _ => mod_host m c (bOf t) _) (funext fun _ => mod_host m c (bOf t) _)

/-- The reference's row of the input projection, as a product. -/
theorem PR_eq (b : Fin 2) (s : Fin 16384) (j : Fin 2768) : PR m c b s j = proj (HR m c b s) (fun i k => (show EReal from m (c, Proc.tc.devRef main_arg3) (ix3 0 i k : S1x1024x2768.Idx))) j := rfl

/-- The low-rank columns of the projection. -/
theorem pr_c (b : Fin 2) (s : Fin 16384) (n : ℕ) (w : Fin 1024 → Fin n → EReal) (j : Fin n) (k : Fin 2944) (h : k.val < 640)
    (e : ∀ i, w i j = (show EReal from V m c main_v35 (ix2 i k : S1024x2944.Idx))) : proj (HR m c b s) w j = PR m c b s ⟨k.val, by omega⟩ :=
  (proj_col _ w (fun i k => (show EReal from m (c, Proc.tc.devRef main_arg3) (ix3 0 i k : S1x1024x2768.Idx))) j ⟨k.val, by omega⟩ fun i => (e i).trans (wa_c m c i k h)).trans (PR_eq m c b s _).symm

/-- The rotary key's columns of the projection. -/
theorem pr_r (b : Fin 2) (s : Fin 16384) (w : Fin 1024 → Fin 128 → EReal) (l : Fin 128)
    (e : ∀ i, w i l = (show EReal from V m c main_v35 (ix2 i ⟨640 + l.val, by omega⟩ : S1024x2944.Idx))) : proj (HR m c b s) w l = PR m c b s ⟨640 + (swp l).val, by omega⟩ :=
  (proj_col _ w (fun i k => (show EReal from m (c, Proc.tc.devRef main_arg3) (ix3 0 i k : S1x1024x2768.Idx))) l ⟨640 + (swp l).val, by omega⟩ fun i => (e i).trans (wa_r m c i l)).trans (PR_eq m c b s _).symm

/-- The remaining columns of the projection. -/
theorem pr_m (b : Fin 2) (s : Fin 16384) (n : ℕ) (w : Fin 1024 → Fin n → EReal) (j : Fin n) (k : Fin 2944) (j' : Fin 2064)
    (h : k.val = 768 + j'.val) (e : ∀ i, w i j = (show EReal from V m c main_v35 (ix2 i k : S1024x2944.Idx))) : proj (HR m c b s) w j = PR m c b s ⟨704 + j'.val, by omega⟩ :=
  (proj_col _ w (fun i k => (show EReal from m (c, Proc.tc.devRef main_arg3) (ix3 0 i k : S1x1024x2768.Idx))) j ⟨704 + j'.val, by omega⟩ fun i => (e i).trans (wa_m m c i k j' h)).trans (PR_eq m c b s _).symm

/-- The padding columns of the projection. -/
theorem pr_z (b : Fin 2) (s : Fin 16384) (n : ℕ) (w : Fin 1024 → Fin n → EReal) (j : Fin n) (k : Fin 2944) (h : 2832 ≤ k.val)
    (e : ∀ i, w i j = (show EReal from V m c main_v35 (ix2 i k : S1024x2944.Idx))) : proj (HR m c b s) w j = 0 :=
  show (∑ i, HR m c b s i * w i j) = 0 from Finset.sum_eq_zero fun i _ => (congrArg (HR m c b s i * ·) ((e i).trans (wa_z m c i k h))).trans (mul_zero _)

/-- The cosines of a row's position. -/
def CR (s : Fin 16384) (l : Fin 32) : EReal := Ideal.cos (angle s l)

/-- The sines of a row's position. -/
def SR (s : Fin 16384) (l : Fin 32) : EReal := Ideal.sin (angle s l)

end Cert.Kernel3Ideal.Pre
end
-- ==== Proof.PreTargets.lean ====
/- The reference's terms of the first call's arguments, at an index. -/
module

public import proofs.«01_k».proof.Proof.PreRows

@[expose] public section

set_option maxRecDepth 16384

noncomputable section

namespace Cert.Kernel3Ideal.Pre

open Cert.Kernel3Ideal Cert.Kernel3Ideal.Gen Cert.Pre
open Idealize.ShloMosaic Idealize.ShloMosaic.TcCoe Idealize.SL.Sem
open Idealize.ShloMosaic.Pipeline (Dat)
open Cert.Reference3Ideal.RefValue

variable (m : (ℓ : Loc nD τ sig) → Buf (Elt Ideal) ℓ) (c : Dev nD)

/-- The reference's input projection of the arguments. -/
theorem PJ_at (b : Fin 2) (s : Fin 16384) (j : Fin 2768) : (PJ (m (c, Proc.tc.devRef main_arg3)) (H (m (c, Proc.tc.devRef main_arg0)) (m (c, Proc.tc.devRef main_arg1)) (m (c, Proc.tc.devRef main_arg2)))) (ix3 b s j) = PR m c b s j :=
  pj_at (m (c, Proc.tc.devRef main_arg0)) (m (c, Proc.tc.devRef main_arg1)) (m (c, Proc.tc.devRef main_arg2)) (m (c, Proc.tc.devRef main_arg3)) b s j

/-- The reference's queries of the arguments. -/
theorem UQ_at (b : Fin 2) (s : Fin 16384) (j : Fin 768) : (UQ (m (c, Proc.tc.devRef main_arg4)) (m (c, Proc.tc.devRef main_arg5)) (PJ (m (c, Proc.tc.devRef main_arg3)) (H (m (c, Proc.tc.devRef main_arg0)) (m (c, Proc.tc.devRef main_arg1)) (m (c, Proc.tc.devRef main_arg2))))) (ix3 b s j) = QR m c b s j := by
  refine (uq_at (m (c, Proc.tc.devRef main_arg4)) (m (c, Proc.tc.devRef main_arg5)) (PJ (m (c, Proc.tc.devRef main_arg3)) (H (m (c, Proc.tc.devRef main_arg0)) (m (c, Proc.tc.devRef main_arg1)) (m (c, Proc.tc.devRef main_arg2)))) b s j).trans ?_
  have e : (fun i : Fin 384 => (PJ (m (c, Proc.tc.devRef main_arg3)) (H (m (c, Proc.tc.devRef main_arg0)) (m (c, Proc.tc.devRef main_arg1)) (m (c, Proc.tc.devRef main_arg2)))) (ix3 b s ⟨i.val, by omega⟩)) = fun i : Fin 384 => PR m c b s ⟨i.val, by omega⟩ := funext fun i => PJ_at m c b s _
  rw [e]
  rfl

/-- The reference's keys and values of the arguments. -/
theorem UK_at (b : Fin 2) (s : Fin 16384) (j : Fin 1024) : (UK (m (c, Proc.tc.devRef main_arg6)) (m (c, Proc.tc.devRef main_arg7)) (PJ (m (c, Proc.tc.devRef main_arg3)) (H (m (c, Proc.tc.devRef main_arg0)) (m (c, Proc.tc.devRef main_arg1)) (m (c, Proc.tc.devRef main_arg2))))) (ix3 b s j) = KR m c b s j := by
  refine (uk_at (m (c, Proc.tc.devRef main_arg6)) (m (c, Proc.tc.devRef main_arg7)) (PJ (m (c, Proc.tc.devRef main_arg3)) (H (m (c, Proc.tc.devRef main_arg0)) (m (c, Proc.tc.devRef main_arg1)) (m (c, Proc.tc.devRef main_arg2)))) b s j).trans ?_
  have e : (fun i : Fin 256 => (PJ (m (c, Proc.tc.devRef main_arg3)) (H (m (c, Proc.tc.devRef main_arg0)) (m (c, Proc.tc.devRef main_arg1)) (m (c, Proc.tc.devRef main_arg2)))) (ix3 b s ⟨384 + i.val, by omega⟩)) = fun i : Fin 256 => PR m c b s ⟨384 + i.val, by omega⟩ := funext fun i => PJ_at m c b s _
  rw [e]
  rfl

/-- The cosines of a position. -/
theorem CS_at (s : Fin 16384) : (fun l => CS (ix2 s l)) = CR s := funext fun l => cs_at s l

/-- The sines of a position. -/
theorem SN_at (s : Fin 16384) : (fun l => SN (ix2 s l)) = SR s := funext fun l => sn_at s l

/-- The reference's queries of the arguments. -/
def QM : FVec Ideal S2x4x256x16384 .bf16 := Cert.Reference3Ideal.RefValue.Q (UQ (m (c, Proc.tc.devRef main_arg4)) (m (c, Proc.tc.devRef main_arg5)) (PJ (m (c, Proc.tc.devRef main_arg3)) (H (m (c, Proc.tc.devRef main_arg0)) (m (c, Proc.tc.devRef main_arg1)) (m (c, Proc.tc.devRef main_arg2))))) CS SN

/-- The reference's keys of the arguments. -/
def KM : FVec Ideal S2x4x16384x256 .bf16 := Cert.Reference3Ideal.RefValue.K (PJ (m (c, Proc.tc.devRef main_arg3)) (H (m (c, Proc.tc.devRef main_arg0)) (m (c, Proc.tc.devRef main_arg1)) (m (c, Proc.tc.devRef main_arg2)))) (UK (m (c, Proc.tc.devRef main_arg6)) (m (c, Proc.tc.devRef main_arg7)) (PJ (m (c, Proc.tc.devRef main_arg3)) (H (m (c, Proc.tc.devRef main_arg0)) (m (c, Proc.tc.devRef main_arg1)) (m (c, Proc.tc.devRef main_arg2))))) CS SN

/-- The reference's values of the arguments. -/
def VM : FVec Ideal S2x4x144x16384 .bf16 := Cert.Reference3Ideal.RefValue.V (UK (m (c, Proc.tc.devRef main_arg6)) (m (c, Proc.tc.devRef main_arg7)) (PJ (m (c, Proc.tc.devRef main_arg3)) (H (m (c, Proc.tc.devRef main_arg0)) (m (c, Proc.tc.devRef main_arg1)) (m (c, Proc.tc.devRef main_arg2)))))

/-- The reference's delta rule's channels of the arguments. -/
def CM : FVec Ideal S2x16384x1536 .f32 := QKV (PJ (m (c, Proc.tc.devRef main_arg3)) (H (m (c, Proc.tc.devRef main_arg0)) (m (c, Proc.tc.devRef main_arg1)) (m (c, Proc.tc.devRef main_arg2))))

/-- The reference's output gate of the arguments. -/
def ZM : FVec Ideal S2x16384x512 .f32 := Cert.Reference3Ideal.RefValue.Z (PJ (m (c, Proc.tc.devRef main_arg3)) (H (m (c, Proc.tc.devRef main_arg0)) (m (c, Proc.tc.devRef main_arg1)) (m (c, Proc.tc.devRef main_arg2))))

/-- The reference's delta rule's gates of the arguments. -/
def GM : FVec Ideal S2x16384x128 .f32 := Cert.Reference3Ideal.RefValue.G (PJ (m (c, Proc.tc.devRef main_arg3)) (H (m (c, Proc.tc.devRef main_arg0)) (m (c, Proc.tc.devRef main_arg1)) (m (c, Proc.tc.devRef main_arg2))))

/-- The first 128 lanes of the queries. -/
theorem QM_lo (b : Fin 2) (h : Fin 4) (d : Fin 128) (s : Fin 16384) : QM m c (ix4 b h ⟨d.val, by omega⟩ s)
    = QR m c b s ⟨h.val * 192 + d.val, by omega⟩ * qs :=
  (q_lo (UQ (m (c, Proc.tc.devRef main_arg4)) (m (c, Proc.tc.devRef main_arg5)) (PJ (m (c, Proc.tc.devRef main_arg3)) (H (m (c, Proc.tc.devRef main_arg0)) (m (c, Proc.tc.devRef main_arg1)) (m (c, Proc.tc.devRef main_arg2))))) CS SN b h d s).trans (congrArg (· * qs) (UQ_at m c b s _))

/-- The other lanes of the queries. -/
theorem QM_hi (b : Fin 2) (h : Fin 4) (d : Fin 128) (s : Fin 16384) : QM m c (ix4 b h ⟨128 + d.val, by omega⟩ s)
    = ropePad (fun l => QR m c b s ⟨h.val * 192 + (128 + l.val), by omega⟩) (CR s) (SR s) d * qs := by
  refine (q_hi (UQ (m (c, Proc.tc.devRef main_arg4)) (m (c, Proc.tc.devRef main_arg5)) (PJ (m (c, Proc.tc.devRef main_arg3)) (H (m (c, Proc.tc.devRef main_arg0)) (m (c, Proc.tc.devRef main_arg1)) (m (c, Proc.tc.devRef main_arg2))))) CS SN b h d s).trans ?_
  rw [CS_at, SN_at]
  exact congrArg (fun u => ropePad u (CR s) (SR s) d * qs) (funext fun l => UQ_at m c b s _)

/-- The first 128 lanes of the keys. -/
theorem KM_lo (b : Fin 2) (h : Fin 4) (s : Fin 16384) (d : Fin 128) : KM m c (ix4 b h s ⟨d.val, by omega⟩)
    = KR m c b s ⟨h.val * 256 + d.val, by omega⟩ :=
  (k_lo (PJ (m (c, Proc.tc.devRef main_arg3)) (H (m (c, Proc.tc.devRef main_arg0)) (m (c, Proc.tc.devRef main_arg1)) (m (c, Proc.tc.devRef main_arg2)))) (UK (m (c, Proc.tc.devRef main_arg6)) (m (c, Proc.tc.devRef main_arg7)) (PJ (m (c, Proc.tc.devRef main_arg3)) (H (m (c, Proc.tc.devRef main_arg0)) (m (c, Proc.tc.devRef main_arg1)) (m (c, Proc.tc.devRef main_arg2))))) CS SN b h s d).trans (UK_at m c b s _)

/-- The other lanes of the keys. -/
theorem KM_hi (b : Fin 2) (h : Fin 4) (s : Fin 16384) (d : Fin 128) : KM m c (ix4 b h s ⟨128 + d.val, by omega⟩)
    = ropePad (fun l => PR m c b s ⟨640 + l.val, by omega⟩) (CR s) (SR s) d := by
  refine (k_hi (PJ (m (c, Proc.tc.devRef main_arg3)) (H (m (c, Proc.tc.devRef main_arg0)) (m (c, Proc.tc.devRef main_arg1)) (m (c, Proc.tc.devRef main_arg2)))) (UK (m (c, Proc.tc.devRef main_arg6)) (m (c, Proc.tc.devRef main_arg7)) (PJ (m (c, Proc.tc.devRef main_arg3)) (H (m (c, Proc.tc.devRef main_arg0)) (m (c, Proc.tc.devRef main_arg1)) (m (c, Proc.tc.devRef main_arg2))))) CS SN b h s d).trans ?_
  rw [CS_at, SN_at]
  exact congrArg (fun u => ropePad u (CR s) (SR s) d) (funext fun l => PJ_at m c b s _)

/-- The values. -/
theorem VM_lo (b : Fin 2) (h : Fin 4) (d : Fin 128) (s : Fin 16384) : VM m c (ix4 b h ⟨d.val, by omega⟩ s)
    = KR m c b s ⟨h.val * 256 + (128 + d.val), by omega⟩ :=
  (v_at (UK (m (c, Proc.tc.devRef main_arg6)) (m (c, Proc.tc.devRef main_arg7)) (PJ (m (c, Proc.tc.devRef main_arg3)) (H (m (c, Proc.tc.devRef main_arg0)) (m (c, Proc.tc.devRef main_arg1)) (m (c, Proc.tc.devRef main_arg2))))) b h ⟨d.val, by omega⟩ s).trans ((dif_pos d.isLt).trans (UK_at m c b s _))

/-- The ones. -/
theorem VM_hi (b : Fin 2) (h : Fin 4) (d : Fin 16) (s : Fin 16384) : VM m c (ix4 b h ⟨128 + d.val, by omega⟩ s) = 1 :=
  (v_at (UK (m (c, Proc.tc.devRef main_arg6)) (m (c, Proc.tc.devRef main_arg7)) (PJ (m (c, Proc.tc.devRef main_arg3)) (H (m (c, Proc.tc.devRef main_arg0)) (m (c, Proc.tc.devRef main_arg1)) (m (c, Proc.tc.devRef main_arg2))))) b h ⟨128 + d.val, by omega⟩ s).trans (dif_neg (show ¬ 128 + d.val < 128 by omega))

/-- The delta rule's channels. -/
theorem CM_at (b : Fin 2) (s : Fin 16384) (j : Fin 1536) : CM m c (ix3 b s j) = PR m c b s ⟨704 + j.val, by omega⟩ :=
  (Cert.Reference3Ideal.RefValue.qkv_at (PJ (m (c, Proc.tc.devRef main_arg3)) (H (m (c, Proc.tc.devRef main_arg0)) (m (c, Proc.tc.devRef main_arg1)) (m (c, Proc.tc.devRef main_arg2)))) b s j).trans (PJ_at m c b s _)

/-- The output gate. -/
theorem ZM_at (b : Fin 2) (s : Fin 16384) (j : Fin 512) : ZM m c (ix3 b s j) = PR m c b s ⟨2240 + j.val, by omega⟩ :=
  (Cert.Reference3Ideal.RefValue.z_at (PJ (m (c, Proc.tc.devRef main_arg3)) (H (m (c, Proc.tc.devRef main_arg0)) (m (c, Proc.tc.devRef main_arg1)) (m (c, Proc.tc.devRef main_arg2)))) b s j).trans (PJ_at m c b s _)

/-- The delta rule's gates. -/
theorem GM_lo (b : Fin 2) (s : Fin 16384) (j : Fin 128) (h : j.val < 16) : GM m c (ix3 b s j) = PR m c b s ⟨2752 + j.val, by omega⟩ :=
  (Cert.Reference3Ideal.RefValue.g_at (PJ (m (c, Proc.tc.devRef main_arg3)) (H (m (c, Proc.tc.devRef main_arg0)) (m (c, Proc.tc.devRef main_arg1)) (m (c, Proc.tc.devRef main_arg2)))) b s j).trans ((dif_pos h).trans (PJ_at m c b s _))

/-- The padding of the gates. -/
theorem GM_hi (b : Fin 2) (s : Fin 16384) (j : Fin 128) (h : ¬ j.val < 16) : GM m c (ix3 b s j) = 0 :=
  (Cert.Reference3Ideal.RefValue.g_at (PJ (m (c, Proc.tc.devRef main_arg3)) (H (m (c, Proc.tc.devRef main_arg0)) (m (c, Proc.tc.devRef main_arg1)) (m (c, Proc.tc.devRef main_arg2)))) b s j).trans (dif_neg h)

end Cert.Kernel3Ideal.Pre
end
-- ==== Proof.PreTensors.lean ====
/- The first call's intermediate tensors at a grid point, as the reference's rows. -/
module

public import proofs.«01_k».proof.Proof.PreRows

@[expose] public section

set_option maxRecDepth 16384

noncomputable section

namespace Cert.Kernel3Ideal.Pre

open Cert.Kernel3Ideal Cert.Kernel3Ideal.Gen Cert.Pre
open Idealize.ShloMosaic Idealize.ShloMosaic.TcCoe Idealize.SL.Sem
open Idealize.ShloMosaic.Pipeline (Dat)
open Cert.Reference3Ideal.RefValue (pRow)

variable (m : (ℓ : Loc nD τ sig) → Buf (Elt Ideal) ℓ) (c : Dev nD)

/-- A load of the input weights' columns. -/
theorem ld_0 (t : Fin cfg0.N) (i : Fin 1024) (j : Fin 384) : ((View.ld (iblk m c 3 t) (Rect.unit ![0, 0] ![1024, 384] inb_S1024x2944_S1024x384_0_0)) : Vec Ideal S1024x384 .bf16) (ix2 i j)
    = (show EReal from V m c main_v35 (ix2 i ⟨j.val, by omega⟩ : S1024x2944.Idx)) := by
  refine Eq.trans ?_ (wa_blk m c t i ⟨j.val, by omega⟩)
  pointwise []

/-- A load of the input weights' columns. -/
theorem ld_384 (t : Fin cfg0.N) (i : Fin 1024) (j : Fin 256) : ((View.ld (iblk m c 3 t) (Rect.unit ![0, 384] ![1024, 256] inb_S1024x2944_S1024x256_0_384)) : Vec Ideal S1024x256 .bf16) (ix2 i j)
    = (show EReal from V m c main_v35 (ix2 i ⟨384 + j.val, by omega⟩ : S1024x2944.Idx)) := by
  refine Eq.trans ?_ (wa_blk m c t i ⟨384 + j.val, by omega⟩)
  pointwise []

/-- A load of the input weights' columns. -/
theorem ld_640 (t : Fin cfg0.N) (i : Fin 1024) (j : Fin 128) : ((View.ld (iblk m c 3 t) (Rect.unit ![0, 640] ![1024, 128] inb_S1024x2944_S1024x128_0_640)) : Vec Ideal S1024x128 .bf16) (ix2 i j)
    = (show EReal from V m c main_v35 (ix2 i ⟨640 + j.val, by omega⟩ : S1024x2944.Idx)) := by
  refine Eq.trans ?_ (wa_blk m c t i ⟨640 + j.val, by omega⟩)
  pointwise []

/-- A load of the input weights' columns. -/
theorem ld_768 (t : Fin cfg0.N) (i : Fin 1024) (j : Fin 1536) : ((View.ld (iblk m c 3 t) (Rect.unit ![0, 768] ![1024, 1536] inb_S1024x2944_S1024x1536_0_768)) : Vec Ideal S1024x1536 .bf16) (ix2 i j)
    = (show EReal from V m c main_v35 (ix2 i ⟨768 + j.val, by omega⟩ : S1024x2944.Idx)) := by
  refine Eq.trans ?_ (wa_blk m c t i ⟨768 + j.val, by omega⟩)
  pointwise []

/-- A load of the input weights' columns. -/
theorem ld_2304 (t : Fin cfg0.N) (i : Fin 1024) (j : Fin 512) : ((View.ld (iblk m c 3 t) (Rect.unit ![0, 2304] ![1024, 512] inb_S1024x2944_S1024x512_0_2304)) : Vec Ideal S1024x512 .bf16) (ix2 i j)
    = (show EReal from V m c main_v35 (ix2 i ⟨2304 + j.val, by omega⟩ : S1024x2944.Idx)) := by
  refine Eq.trans ?_ (wa_blk m c t i ⟨2304 + j.val, by omega⟩)
  pointwise []

/-- A load of the input weights' columns. -/
theorem ld_2816 (t : Fin cfg0.N) (i : Fin 1024) (j : Fin 128) : ((View.ld (iblk m c 3 t) (Rect.unit ![0, 2816] ![1024, 128] inb_S1024x2944_S1024x128_0_2816)) : Vec Ideal S1024x128 .bf16) (ix2 i j)
    = (show EReal from V m c main_v35 (ix2 i ⟨2816 + j.val, by omega⟩ : S1024x2944.Idx)) := by
  refine Eq.trans ?_ (wa_blk m c t i ⟨2816 + j.val, by omega⟩)
  pointwise []

/-- The tile's normalised rows. -/
theorem hT_at (t : Fin cfg0.N) (y : Fin 512) : (fun i => ((k0_pay3 (iblk m c 0 t) (iblk m c 1 t) (iblk m c 2 t)) : FVec Ideal S512x1024 .bf16) (ix2 y i)) = HR m c (bOf t) (sOf t y) :=
  (funext fun i => h_at _ _ _ y i).trans (hRow_eq m c t y)

/-- The tile's queries. -/
theorem qT_at (t : Fin cfg0.N) (y : Fin 512) (j : Fin 1024) : ((k0_pay9 (k0_pay7 (iblk m c 0 t) (iblk m c 1 t) (iblk m c 2 t) (View.ld (iblk m c 3 t) (Rect.unit ![0, 0] ![1024, 384] inb_S1024x2944_S1024x384_0_0))) (iblk m c 4 t) (k0_pay8 (iblk m c 0 t) (iblk m c 1 t) (iblk m c 2 t) (View.ld (iblk m c 3 t) (Rect.unit ![0, 0] ![1024, 384] inb_S1024x2944_S1024x384_0_0))) (iblk m c 5 t)) : FVec Ideal S512x1024 .f32) (ix2 y j)
    = low 0x43C00000#32 (fun i : Fin 384 => PR m c (bOf t) (sOf t y) ⟨i.val, by omega⟩) (fun i => (show EReal from m (c, Proc.tc.devRef main_arg4) (ix2 0 i : S1x384.Idx)))
        (fun i j => (show EReal from V m c main_v43 (ix2 i j : S384x1024.Idx))) j := by
  refine (q_at (k0_pay7 (iblk m c 0 t) (iblk m c 1 t) (iblk m c 2 t) (View.ld (iblk m c 3 t) (Rect.unit ![0, 0] ![1024, 384] inb_S1024x2944_S1024x384_0_0))) (iblk m c 4 t) (iblk m c 5 t) y j).trans ?_
  have e1 : (fun i => (k0_pay7 (iblk m c 0 t) (iblk m c 1 t) (iblk m c 2 t) (View.ld (iblk m c 3 t) (Rect.unit ![0, 0] ![1024, 384] inb_S1024x2944_S1024x384_0_0)) : FVec Ideal S512x384 .f32) (ix2 y i)) = fun i : Fin 384 => PR m c (bOf t) (sOf t y) ⟨i.val, by omega⟩ := by
    funext i
    refine (cq_at _ _ _ _ y i).trans ?_
    rw [hRow_eq]
    exact pr_c m c _ _ 384 _ i ⟨i.val, by omega⟩ (show i.val < 640 by omega) fun k => ld_0 m c t k i
  have e2 : (fun i => (show Vec Ideal S1x384 .f32 from (iblk m c 4 t)) (ix2 0 i)) = fun i => (show EReal from m (c, Proc.tc.devRef main_arg4) (ix2 0 i : S1x384.Idx)) := funext fun i => gq_blk m c t i
  have e3 : (fun i j => (show Vec Ideal S384x1024 .bf16 from (iblk m c 5 t)) (ix2 i j)) = fun i j => (show EReal from V m c main_v43 (ix2 i j : S384x1024.Idx)) := funext fun i => funext fun j => wq_blk m c t i j
  exact congrArg (fun f => f j) (congr (congr (congrArg (low 0x43C00000#32) e1) e2) e3)

/-- A head's first 128 lanes of the queries. -/
theorem qT_lo (t : Fin cfg0.N) (y : Fin 512) (h : Fin 4) (d : Fin 128) (k : Fin 1024) (e : k.val = h.val * 256 + d.val) :
    ((k0_pay9 (k0_pay7 (iblk m c 0 t) (iblk m c 1 t) (iblk m c 2 t) (View.ld (iblk m c 3 t) (Rect.unit ![0, 0] ![1024, 384] inb_S1024x2944_S1024x384_0_0))) (iblk m c 4 t) (k0_pay8 (iblk m c 0 t) (iblk m c 1 t) (iblk m c 2 t) (View.ld (iblk m c 3 t) (Rect.unit ![0, 0] ![1024, 384] inb_S1024x2944_S1024x384_0_0))) (iblk m c 5 t)) : FVec Ideal S512x1024 .f32) (ix2 y k) = QR m c (bOf t) (sOf t y) ⟨h.val * 192 + d.val, by omega⟩ := by
  obtain ⟨k, hk⟩ := k
  dsimp only at e
  subst e
  exact (qT_at m c t y _).trans (low_col _ _ _ _ (fun i j => (show EReal from m (c, Proc.tc.devRef main_arg5) (ix3 0 i j : S1x384x768.Idx))) _ ⟨h.val * 192 + d.val, by omega⟩ fun i => wq_c m c i h d)

/-- A head's rotary lanes of the queries. -/
theorem qT_hi (t : Fin cfg0.N) (y : Fin 512) (h : Fin 4) (l : Fin 128) (k : Fin 1024) (e : k.val = h.val * 256 + (128 + l.val)) :
    ((k0_pay9 (k0_pay7 (iblk m c 0 t) (iblk m c 1 t) (iblk m c 2 t) (View.ld (iblk m c 3 t) (Rect.unit ![0, 0] ![1024, 384] inb_S1024x2944_S1024x384_0_0))) (iblk m c 4 t) (k0_pay8 (iblk m c 0 t) (iblk m c 1 t) (iblk m c 2 t) (View.ld (iblk m c 3 t) (Rect.unit ![0, 0] ![1024, 384] inb_S1024x2944_S1024x384_0_0))) (iblk m c 5 t)) : FVec Ideal S512x1024 .f32) (ix2 y k) = QR m c (bOf t) (sOf t y) ⟨h.val * 192 + (128 + (swp l).val), by omega⟩ := by
  obtain ⟨k, hk⟩ := k
  dsimp only at e
  subst e
  exact (qT_at m c t y _).trans (low_col _ _ _ _ (fun i j => (show EReal from m (c, Proc.tc.devRef main_arg5) (ix3 0 i j : S1x384x768.Idx))) _ ⟨h.val * 192 + (128 + (swp l).val), by omega⟩ fun i => wq_r m c i h l)

/-- The tile's keys and values. -/
theorem kvT_at (t : Fin cfg0.N) (y : Fin 512) (j : Fin 1024) : ((k0_pay10 (k0_pay3 (iblk m c 0 t) (iblk m c 1 t) (iblk m c 2 t)) (View.ld (iblk m c 3 t) (Rect.unit ![0, 384] ![1024, 256] inb_S1024x2944_S1024x256_0_384)) (iblk m c 6 t) (iblk m c 7 t)) : FVec Ideal S512x1024 .f32) (ix2 y j)
    = KR m c (bOf t) (sOf t y) j := by
  refine (kv_at (k0_pay3 (iblk m c 0 t) (iblk m c 1 t) (iblk m c 2 t)) (View.ld (iblk m c 3 t) (Rect.unit ![0, 384] ![1024, 256] inb_S1024x2944_S1024x256_0_384)) (iblk m c 6 t) (iblk m c 7 t) y j).trans ?_
  have e1 : proj (fun i => ((k0_pay3 (iblk m c 0 t) (iblk m c 1 t) (iblk m c 2 t)) : FVec Ideal S512x1024 .bf16) (ix2 y i)) (fun i j => ((View.ld (iblk m c 3 t) (Rect.unit ![0, 384] ![1024, 256] inb_S1024x2944_S1024x256_0_384)) : Vec Ideal S1024x256 .bf16) (ix2 i j))
      = fun i : Fin 256 => PR m c (bOf t) (sOf t y) ⟨384 + i.val, by omega⟩ := by
    funext i
    rw [hT_at]
    exact pr_c m c _ _ 256 _ i ⟨384 + i.val, by omega⟩ (show 384 + i.val < 640 by omega) fun k => ld_384 m c t k i
  have e2 : (fun i => (show Vec Ideal S1x256 .f32 from (iblk m c 6 t)) (ix2 0 i)) = fun i => (show EReal from m (c, Proc.tc.devRef main_arg6) (ix2 0 i : S1x256.Idx)) := funext fun i => gk_blk m c t i
  have e3 : (fun i j => (show Vec Ideal S256x1024 .bf16 from (iblk m c 7 t)) (ix2 i j)) = fun i j => (show EReal from m (c, Proc.tc.devRef main_arg7) (ix3 0 i j : S1x256x1024.Idx)) :=
    funext fun i => funext fun j => (wk_blk0 m c t i j).trans (wk_host m c i j)
  exact congrArg (fun f => f j) (congr (congr (congrArg (low 0x43800000#32) e1) e2) e3)

/-- The tile's shared rotary key before its turn. -/
theorem krT_at (t : Fin cfg0.N) (y : Fin 512) (l : Fin 128) : ((k0_pay11 (k0_pay3 (iblk m c 0 t) (iblk m c 1 t) (iblk m c 2 t)) (View.ld (iblk m c 3 t) (Rect.unit ![0, 640] ![1024, 128] inb_S1024x2944_S1024x128_0_640))) : FVec Ideal S512x128 .f32) (ix2 y l)
    = PR m c (bOf t) (sOf t y) ⟨640 + (swp l).val, by omega⟩ := by
  refine (kr_at _ _ y l).trans ?_
  rw [hT_at]
  exact pr_r m c _ _ _ l fun k => ld_640 m c t k l

/-- The tile's cosines. -/
theorem csT_at (t : Fin cfg0.N) (y : Fin 512) (l : Fin 128) : (k0_pay4 (iblk m c 8 t) : FVec Ideal S512x128 .f32) (ix2 y l) = csPad (CR (sOf t y)) l := by
  refine Eq.trans ?_ ((cs_blk m c t y l).trans (cs_host m c (sOf t y) l))
  pointwise [k0_pay4]

/-- The tile's signed sines. -/
theorem snT_at (t : Fin cfg0.N) (y : Fin 512) (l : Fin 128) : (k0_pay5 (iblk m c 9 t) : FVec Ideal S512x128 .f32) (ix2 y l) = snPad (SR (sOf t y)) l := by
  refine Eq.trans ?_ ((sn_blk m c t y l).trans (sn_host m c (sOf t y) l))
  pointwise [k0_pay5]

/-- The tile's shared rotary key. -/
theorem rpT_at (t : Fin cfg0.N) (y : Fin 512) (d : Fin 128) : ((k0_pay13 (k0_pay5 (iblk m c 9 t)) (k0_pay11 (k0_pay3 (iblk m c 0 t) (iblk m c 1 t) (iblk m c 2 t)) (View.ld (iblk m c 3 t) (Rect.unit ![0, 640] ![1024, 128] inb_S1024x2944_S1024x128_0_640))) (k0_pay12 (k0_pay3 (iblk m c 0 t) (iblk m c 1 t) (iblk m c 2 t)) (k0_pay4 (iblk m c 8 t)) (View.ld (iblk m c 3 t) (Rect.unit ![0, 640] ![1024, 128] inb_S1024x2944_S1024x128_0_640))) 64#32) : FVec Ideal S512x128 .bf16) (ix2 y d)
    = ropePad (fun l => PR m c (bOf t) (sOf t y) ⟨640 + l.val, by omega⟩) (CR (sOf t y)) (SR (sOf t y)) d := by
  refine (rope_at (k0_pay4 (iblk m c 8 t)) (k0_pay5 (iblk m c 9 t)) (k0_pay11 (k0_pay3 (iblk m c 0 t) (iblk m c 1 t) (iblk m c 2 t)) (View.ld (iblk m c 3 t) (Rect.unit ![0, 640] ![1024, 128] inb_S1024x2944_S1024x128_0_640))) y d).trans ?_
  rw [krT_at, krT_at, csT_at, snT_at]
  exact rope_eq (fun l => PR m c (bOf t) (sOf t y) ⟨640 + l.val, by omega⟩) _ _ d

/-- A head's rotary lanes of the queries, turned. -/
theorem qr_at (t : Fin cfg0.N) (y : Fin 512) (h : Fin 4) (d : Fin 128) (k k' : Fin 1024) (e : k.val = h.val * 256 + (128 + d.val))
    (e' : k'.val = h.val * 256 + (128 + (half d).val)) :
    (((k0_pay9 (k0_pay7 (iblk m c 0 t) (iblk m c 1 t) (iblk m c 2 t) (View.ld (iblk m c 3 t) (Rect.unit ![0, 0] ![1024, 384] inb_S1024x2944_S1024x384_0_0))) (iblk m c 4 t) (k0_pay8 (iblk m c 0 t) (iblk m c 1 t) (iblk m c 2 t) (View.ld (iblk m c 3 t) (Rect.unit ![0, 0] ![1024, 384] inb_S1024x2944_S1024x384_0_0))) (iblk m c 5 t)) : FVec Ideal S512x1024 .f32) (ix2 y k) * (k0_pay4 (iblk m c 8 t) : FVec Ideal S512x128 .f32) (ix2 y d)
      + ((k0_pay9 (k0_pay7 (iblk m c 0 t) (iblk m c 1 t) (iblk m c 2 t) (View.ld (iblk m c 3 t) (Rect.unit ![0, 0] ![1024, 384] inb_S1024x2944_S1024x384_0_0))) (iblk m c 4 t) (k0_pay8 (iblk m c 0 t) (iblk m c 1 t) (iblk m c 2 t) (View.ld (iblk m c 3 t) (Rect.unit ![0, 0] ![1024, 384] inb_S1024x2944_S1024x384_0_0))) (iblk m c 5 t)) : FVec Ideal S512x1024 .f32) (ix2 y k') * (k0_pay5 (iblk m c 9 t) : FVec Ideal S512x128 .f32) (ix2 y d)) * qs
    = ropePad (fun l => QR m c (bOf t) (sOf t y) ⟨h.val * 192 + (128 + l.val), by omega⟩) (CR (sOf t y)) (SR (sOf t y)) d * qs := by
  rw [qT_hi m c t y h d k e, qT_hi m c t y h (half d) k' e', csT_at, snT_at]
  exact congrArg (· * qs) (rope_eq (fun l => QR m c (bOf t) (sOf t y) ⟨h.val * 192 + (128 + l.val), by omega⟩) _ _ d)

end Cert.Kernel3Ideal.Pre
end
-- ==== Proof.PrePieces.lean ====
/- The first call's result arrays are the reference's terms of its arguments. -/
module

public import proofs.«01_k».proof.Proof.PreTargets
public import proofs.«01_k».proof.Proof.PreTensors

@[expose] public section

set_option maxRecDepth 16384

noncomputable section

namespace Cert.Kernel3Ideal.Pre

open Cert.Kernel3Ideal Cert.Kernel3Ideal.Gen Cert.Pre
open Idealize.ShloMosaic Idealize.ShloMosaic.TcCoe Idealize.SL.Sem
open Idealize.ShloMosaic.Pipeline (Dat)
open Cert.Reference3Ideal.RefValue

variable (m : (ℓ : Loc nD τ sig) → Buf (Elt Ideal) ℓ) (c : Dev nD)

/-- An index with given coordinates. -/
theorem ix4_of {n0 n1 n2 n3 : ℕ} (y : (⟨4, ![n0, n1, n2, n3]⟩ : Shape).Idx) (a0 : Fin n0) (a1 : Fin n1) (a2 : Fin n2) (a3 : Fin n3)
    (e0 : y 0 = a0) (e1 : y 1 = a1) (e2 : y 2 = a2) (e3 : y 3 = a3) : y = ix4 a0 a1 a2 a3 :=
  (eq_ix4 y).trans (congr (congr (congr (congrArg ix4 e0) e1) e2) e3)

/-- A piece of the queries' first 128 lanes. -/
theorem q_lo_piece (t : Fin cfg0.N) (h : Fin 4) (P : FVec Ideal S1x1x128x512 .bf16) (x : S1x1x128x512.Idx) (y : S1x4x256x512.Idx)
    (h1 : (y 1).val = h.val) (h2 : (y 2).val = (x 2).val) (h3 : (y 3).val = (x 3).val)
    (hP : ∀ (d : Fin 128) (z : Fin 512), P (ix4 0 0 d z) = QR m c (bOf t) (sOf t z) ⟨h.val * 192 + d.val, by omega⟩ * qs) : P x = QM m c ((win0_10.blk t).view.emb y) := by
  obtain ⟨d, z, ex⟩ : ∃ (d : Fin 128) (z : Fin 512), x = ix4 0 0 d z := ⟨x 2, x 3, ix4_of x _ _ _ _ (Subsingleton.elim (α := Fin 1) _ _) (Subsingleton.elim (α := Fin 1) _ _) rfl rfl⟩
  subst ex
  have ey : y = ix4 0 h ⟨d.val, by omega⟩ z := ix4_of y _ _ _ _ (Subsingleton.elim (α := Fin 1) _ _) (Fin.ext h1) (Fin.ext h2) (Fin.ext h3)
  rw [ey, q_emb]
  exact (hP d z).trans (QM_lo m c (bOf t) h d (sOf t z)).symm

/-- A piece of the queries' other lanes. -/
theorem q_hi_piece (t : Fin cfg0.N) (h : Fin 4) (P : FVec Ideal S1x1x128x512 .bf16) (x : S1x1x128x512.Idx) (y : S1x4x256x512.Idx)
    (h1 : (y 1).val = h.val) (h2 : (y 2).val = 128 + (x 2).val) (h3 : (y 3).val = (x 3).val)
    (hP : ∀ (d : Fin 128) (z : Fin 512), P (ix4 0 0 d z) = ropePad (fun l => QR m c (bOf t) (sOf t z) ⟨h.val * 192 + (128 + l.val), by omega⟩) (CR (sOf t z)) (SR (sOf t z)) d * qs) : P x = QM m c ((win0_10.blk t).view.emb y) := by
  obtain ⟨d, z, ex⟩ : ∃ (d : Fin 128) (z : Fin 512), x = ix4 0 0 d z := ⟨x 2, x 3, ix4_of x _ _ _ _ (Subsingleton.elim (α := Fin 1) _ _) (Subsingleton.elim (α := Fin 1) _ _) rfl rfl⟩
  subst ex
  have ey : y = ix4 0 h ⟨128 + d.val, by omega⟩ z := ix4_of y _ _ _ _ (Subsingleton.elim (α := Fin 1) _ _) (Fin.ext h1) (Fin.ext h2) (Fin.ext h3)
  rw [ey, q_emb]
  exact (hP d z).trans (QM_hi m c (bOf t) h d (sOf t z)).symm

/-- A piece of the keys' first 128 lanes. -/
theorem k_lo_piece (t : Fin cfg0.N) (h : Fin 4) (P : FVec Ideal S1x1x512x128 .bf16) (x : S1x1x512x128.Idx) (y : S1x4x512x256.Idx)
    (h1 : (y 1).val = h.val) (h2 : (y 2).val = (x 2).val) (h3 : (y 3).val = (x 3).val)
    (hP : ∀ (d : Fin 128) (z : Fin 512), P (ix4 0 0 z d) = KR m c (bOf t) (sOf t z) ⟨h.val * 256 + d.val, by omega⟩) : P x = KM m c ((win0_11.blk t).view.emb y) := by
  obtain ⟨d, z, ex⟩ : ∃ (d : Fin 128) (z : Fin 512), x = ix4 0 0 z d := ⟨x 3, x 2, ix4_of x _ _ _ _ (Subsingleton.elim (α := Fin 1) _ _) (Subsingleton.elim (α := Fin 1) _ _) rfl rfl⟩
  subst ex
  have ey : y = ix4 0 h z ⟨d.val, by omega⟩ := ix4_of y _ _ _ _ (Subsingleton.elim (α := Fin 1) _ _) (Fin.ext h1) (Fin.ext h2) (Fin.ext h3)
  rw [ey, k_emb]
  exact (hP d z).trans (KM_lo m c (bOf t) h (sOf t z) d).symm

/-- A piece of the keys' other lanes. -/
theorem k_hi_piece (t : Fin cfg0.N) (h : Fin 4) (P : FVec Ideal S1x1x512x128 .bf16) (x : S1x1x512x128.Idx) (y : S1x4x512x256.Idx)
    (h1 : (y 1).val = h.val) (h2 : (y 2).val = (x 2).val) (h3 : (y 3).val = 128 + (x 3).val)
    (hP : ∀ (d : Fin 128) (z : Fin 512), P (ix4 0 0 z d) = ropePad (fun l => PR m c (bOf t) (sOf t z) ⟨640 + l.val, by omega⟩) (CR (sOf t z)) (SR (sOf t z)) d) : P x = KM m c ((win0_11.blk t).view.emb y) := by
  obtain ⟨d, z, ex⟩ : ∃ (d : Fin 128) (z : Fin 512), x = ix4 0 0 z d := ⟨x 3, x 2, ix4_of x _ _ _ _ (Subsingleton.elim (α := Fin 1) _ _) (Subsingleton.elim (α := Fin 1) _ _) rfl rfl⟩
  subst ex
  have ey : y = ix4 0 h z ⟨128 + d.val, by omega⟩ := ix4_of y _ _ _ _ (Subsingleton.elim (α := Fin 1) _ _) (Fin.ext h1) (Fin.ext h2) (Fin.ext h3)
  rw [ey, k_emb]
  exact (hP d z).trans (KM_hi m c (bOf t) h (sOf t z) d).symm

/-- A piece of the values. -/
theorem v_lo_piece (t : Fin cfg0.N) (h : Fin 4) (P : FVec Ideal S1x1x128x512 .bf16) (x : S1x1x128x512.Idx) (y : S1x4x144x512.Idx)
    (h1 : (y 1).val = h.val) (h2 : (y 2).val = (x 2).val) (h3 : (y 3).val = (x 3).val)
    (hP : ∀ (d : Fin 128) (z : Fin 512), P (ix4 0 0 d z) = KR m c (bOf t) (sOf t z) ⟨h.val * 256 + (128 + d.val), by omega⟩) : P x = VM m c ((win0_12.blk t).view.emb y) := by
  obtain ⟨d, z, ex⟩ : ∃ (d : Fin 128) (z : Fin 512), x = ix4 0 0 d z := ⟨x 2, x 3, ix4_of x _ _ _ _ (Subsingleton.elim (α := Fin 1) _ _) (Subsingleton.elim (α := Fin 1) _ _) rfl rfl⟩
  subst ex
  have ey : y = ix4 0 h ⟨d.val, by omega⟩ z := ix4_of y _ _ _ _ (Subsingleton.elim (α := Fin 1) _ _) (Fin.ext h1) (Fin.ext h2) (Fin.ext h3)
  rw [ey, v_emb]
  exact (hP d z).trans (VM_lo m c (bOf t) h d (sOf t z)).symm

/-- A piece of the ones. -/
theorem v_hi_piece (t : Fin cfg0.N) (h : Fin 4) (P : FVec Ideal S1x1x16x512 .bf16) (x : S1x1x16x512.Idx) (y : S1x4x144x512.Idx)
    (h1 : (y 1).val = h.val) (h2 : (y 2).val = 128 + (x 2).val) (h3 : (y 3).val = (x 3).val)
    (hP : ∀ (d : Fin 16) (z : Fin 512), P (ix4 0 0 d z) = 1) : P x = VM m c ((win0_12.blk t).view.emb y) := by
  obtain ⟨d, z, ex⟩ : ∃ (d : Fin 16) (z : Fin 512), x = ix4 0 0 d z := ⟨x 2, x 3, ix4_of x _ _ _ _ (Subsingleton.elim (α := Fin 1) _ _) (Subsingleton.elim (α := Fin 1) _ _) rfl rfl⟩
  subst ex
  have ey : y = ix4 0 h ⟨128 + d.val, by omega⟩ z := ix4_of y _ _ _ _ (Subsingleton.elim (α := Fin 1) _ _) (Fin.ext h1) (Fin.ext h2) (Fin.ext h3)
  rw [ey, v_emb]
  exact (hP d z).trans (VM_hi m c (bOf t) h d (sOf t z)).symm

end Cert.Kernel3Ideal.Pre
end
-- ==== Proof.PreFinal.lean ====
/- The first call's result arrays are the reference's terms of its arguments. -/
module

public import proofs.«01_k».proof.Proof.PrePieces

@[expose] public section

set_option maxRecDepth 16384

noncomputable section

namespace Cert.Kernel3Ideal.Pre

open Cert.Kernel3Ideal Cert.Kernel3Ideal.Gen Cert.Pre
open Idealize.ShloMosaic Idealize.ShloMosaic.TcCoe Idealize.SL.Sem
open Idealize.ShloMosaic.Pipeline (Dat)
open Cert.Reference3Ideal.RefValue

variable (m : (ℓ : Loc nD τ sig) → Buf (Elt Ideal) ℓ) (c : Dev nD)

/-- What a grid point leaves in this result's block. -/
theorem q_point (t : Fin cfg0.N) (y : S1x4x256x512.Idx) : (outsAt0 m c t).1 y = QM m c ((win0_10.blk t).view.emb y) := by
  unfold outsAt0
  frame_out
  canon_tiles x h
  case piece0 => exact q_hi_piece m c t 3 _ x y (show (y 1).val = 3 by omega) (by omega) (by omega) fun d z => (qhi3_at _ _ _ d z).trans (qr_at m c t z 3 d _ _ (show 896 + d.val = 3 * 256 + (128 + d.val) by omega) (show 896 + (half d).val = 3 * 256 + (128 + (half d).val) by omega))
  case piece1 => exact q_lo_piece m c t 3 _ x y (show (y 1).val = 3 by omega) (by omega) (by omega) fun d z => (qlo3_at _ d z).trans (congrArg (· * qs) (qT_lo m c t z 3 d _ (show 768 + d.val = 3 * 256 + d.val by omega)))
  case piece2 => exact q_hi_piece m c t 2 _ x y (show (y 1).val = 2 by omega) (by omega) (by omega) fun d z => (qhi2_at _ _ _ d z).trans (qr_at m c t z 2 d _ _ (show 640 + d.val = 2 * 256 + (128 + d.val) by omega) (show 640 + (half d).val = 2 * 256 + (128 + (half d).val) by omega))
  case piece3 => exact q_lo_piece m c t 2 _ x y (show (y 1).val = 2 by omega) (by omega) (by omega) fun d z => (qlo2_at _ d z).trans (congrArg (· * qs) (qT_lo m c t z 2 d _ (show 512 + d.val = 2 * 256 + d.val by omega)))
  case piece4 => exact q_hi_piece m c t 1 _ x y (show (y 1).val = 1 by omega) (by omega) (by omega) fun d z => (qhi1_at _ _ _ d z).trans (qr_at m c t z 1 d _ _ (show 384 + d.val = 1 * 256 + (128 + d.val) by omega) (show 384 + (half d).val = 1 * 256 + (128 + (half d).val) by omega))
  case piece5 => exact q_lo_piece m c t 1 _ x y (show (y 1).val = 1 by omega) (by omega) (by omega) fun d z => (qlo1_at _ d z).trans (congrArg (· * qs) (qT_lo m c t z 1 d _ (show 256 + d.val = 1 * 256 + d.val by omega)))
  case piece6 => exact q_hi_piece m c t 0 _ x y (show (y 1).val = 0 by omega) (by omega) (by omega) fun d z => (qhi0_at _ _ _ d z).trans (qr_at m c t z 0 d _ _ (show 128 + d.val = 0 * 256 + (128 + d.val) by omega) (show 128 + (half d).val = 0 * 256 + (128 + (half d).val) by omega))
  case piece7 => exact q_lo_piece m c t 0 _ x y (show (y 1).val = 0 by omega) (by omega) (by omega) fun d z => (qlo0_at _ d z).trans (congrArg (· * qs) (qT_lo m c t z 0 d _ (show d.val = 0 * 256 + d.val by omega)))

/-- What a grid point leaves in this result's block. -/
theorem k_point (t : Fin cfg0.N) (y : S1x4x512x256.Idx) : (outsAt0 m c t).2.1 y = KM m c ((win0_11.blk t).view.emb y) := by
  unfold outsAt0
  frame_out
  canon_tiles x h
  case piece0 => exact k_hi_piece m c t 3 _ x y (show (y 1).val = 3 by omega) (by omega) (by omega) fun d z => (khi3_at _ z d).trans (rpT_at m c t z d)
  case piece1 => exact k_lo_piece m c t 3 _ x y (show (y 1).val = 3 by omega) (by omega) (by omega) fun d z => (klo3_at _ z d).trans ((kvT_at m c t z _).trans (congrArg (KR m c (bOf t) (sOf t z)) (Fin.ext (show 768 + d.val = 3 * 256 + d.val by omega))))
  case piece2 => exact k_hi_piece m c t 2 _ x y (show (y 1).val = 2 by omega) (by omega) (by omega) fun d z => (khi2_at _ z d).trans (rpT_at m c t z d)
  case piece3 => exact k_lo_piece m c t 2 _ x y (show (y 1).val = 2 by omega) (by omega) (by omega) fun d z => (klo2_at _ z d).trans ((kvT_at m c t z _).trans (congrArg (KR m c (bOf t) (sOf t z)) (Fin.ext (show 512 + d.val = 2 * 256 + d.val by omega))))
  case piece4 => exact k_hi_piece m c t 1 _ x y (show (y 1).val = 1 by omega) (by omega) (by omega) fun d z => (khi1_at _ z d).trans (rpT_at m c t z d)
  case piece5 => exact k_lo_piece m c t 1 _ x y (show (y 1).val = 1 by omega) (by omega) (by omega) fun d z => (klo1_at _ z d).trans ((kvT_at m c t z _).trans (congrArg (KR m c (bOf t) (sOf t z)) (Fin.ext (show 256 + d.val = 1 * 256 + d.val by omega))))
  case piece6 => exact k_hi_piece m c t 0 _ x y (show (y 1).val = 0 by omega) (by omega) (by omega) fun d z => (khi0_at (k0_pay4 (iblk m c 8 t)) _ _ z d).trans (rpT_at m c t z d)
  case piece7 => exact k_lo_piece m c t 0 _ x y (show (y 1).val = 0 by omega) (by omega) (by omega) fun d z => (klo0_at _ z d).trans ((kvT_at m c t z _).trans (congrArg (KR m c (bOf t) (sOf t z)) (Fin.ext (show d.val = 0 * 256 + d.val by omega))))

/-- What a grid point leaves in this result's block. -/
theorem v_point (t : Fin cfg0.N) (y : S1x4x144x512.Idx) : (outsAt0 m c t).2.2.1 y = VM m c ((win0_12.blk t).view.emb y) := by
  unfold outsAt0
  frame_out
  canon_tiles x h using (View.cover_of_tiledBy _ ![1, 1, 16, 512] (by sl_kernel_rfl) y)
  case piece0 => exact v_hi_piece m c t 3 _ x y (show (y 1).val = 3 by omega) (by omega) (by omega) fun d z => one3_at d z
  case piece1 => exact v_lo_piece m c t 3 _ x y (show (y 1).val = 3 by omega) (by omega) (by omega) fun d z => (v3_at _ d z).trans ((kvT_at m c t z _).trans (congrArg (KR m c (bOf t) (sOf t z)) (Fin.ext (show 896 + d.val = 3 * 256 + (128 + d.val) by omega))))
  case piece2 => exact v_hi_piece m c t 2 _ x y (show (y 1).val = 2 by omega) (by omega) (by omega) fun d z => one2_at d z
  case piece3 => exact v_lo_piece m c t 2 _ x y (show (y 1).val = 2 by omega) (by omega) (by omega) fun d z => (v2_at _ d z).trans ((kvT_at m c t z _).trans (congrArg (KR m c (bOf t) (sOf t z)) (Fin.ext (show 640 + d.val = 2 * 256 + (128 + d.val) by omega))))
  case piece4 => exact v_hi_piece m c t 1 _ x y (show (y 1).val = 1 by omega) (by omega) (by omega) fun d z => one1_at d z
  case piece5 => exact v_lo_piece m c t 1 _ x y (show (y 1).val = 1 by omega) (by omega) (by omega) fun d z => (v1_at _ d z).trans ((kvT_at m c t z _).trans (congrArg (KR m c (bOf t) (sOf t z)) (Fin.ext (show 384 + d.val = 1 * 256 + (128 + d.val) by omega))))
  case piece6 => exact v_hi_piece m c t 0 _ x y (show (y 1).val = 0 by omega) (by omega) (by omega) fun d z => one0_at d z
  case piece7 => exact v_lo_piece m c t 0 _ x y (show (y 1).val = 0 by omega) (by omega) (by omega) fun d z => (v0_at _ d z).trans ((kvT_at m c t z _).trans (congrArg (KR m c (bOf t) (sOf t z)) (Fin.ext (show 128 + d.val = 0 * 256 + (128 + d.val) by omega))))

/-- What a grid point leaves in this result's block, at an index. -/
theorem qkv_point_at (t : Fin cfg0.N) (y : Fin 512) (j : Fin 1536) :
    (outsAt0 m c t).2.2.2.1 (ix3 0 y j : S1x512x1536.Idx) = CM m c ((win0_13.blk t).view.emb (ix3 0 y j : S1x512x1536.Idx)) := by
  rw [qkv_emb]
  unfold outsAt0
  frame_out
  refine (qkv_at _ _ y j).trans ?_
  rw [hT_at]
  refine (pr_m m c _ _ 1536 _ j ⟨768 + j.val, by omega⟩ ⟨j.val, by omega⟩ (show 768 + j.val = 768 + (j.val) by omega) fun k => ld_768 m c t k j).trans ?_
  exact (congrArg (PR m c (bOf t) (sOf t y)) (Fin.ext (show 704 + (j.val) = 704 + j.val by omega))).trans (CM_at m c (bOf t) (sOf t y) j).symm

/-- What a grid point leaves in this result's block. -/
theorem qkv_point (t : Fin cfg0.N) (y : S1x512x1536.Idx) : (outsAt0 m c t).2.2.2.1 y = CM m c ((win0_13.blk t).view.emb y) := by
  have e : y = ix3 0 (y 1) (y 2) := (eq_ix3 y).trans (congrArg (fun z => ix3 z (y 1) (y 2)) (Subsingleton.elim (α := Fin 1) _ _))
  rw [e]
  exact qkv_point_at m c t (y 1) (y 2)

/-- What a grid point leaves in this result's block, at an index. -/
theorem z_point_at (t : Fin cfg0.N) (y : Fin 512) (j : Fin 512) :
    (outsAt0 m c t).2.2.2.2.1 (ix3 0 y j : S1x512x512.Idx) = ZM m c ((win0_14.blk t).view.emb (ix3 0 y j : S1x512x512.Idx)) := by
  rw [z_emb]
  unfold outsAt0
  frame_out
  refine (z_at _ _ y j).trans ?_
  rw [hT_at]
  refine (pr_m m c _ _ 512 _ j ⟨2304 + j.val, by omega⟩ ⟨1536 + j.val, by omega⟩ (show 2304 + j.val = 768 + (1536 + j.val) by omega) fun k => ld_2304 m c t k j).trans ?_
  exact (congrArg (PR m c (bOf t) (sOf t y)) (Fin.ext (show 704 + (1536 + j.val) = 2240 + j.val by omega))).trans (ZM_at m c (bOf t) (sOf t y) j).symm

/-- What a grid point leaves in this result's block. -/
theorem z_point (t : Fin cfg0.N) (y : S1x512x512.Idx) : (outsAt0 m c t).2.2.2.2.1 y = ZM m c ((win0_14.blk t).view.emb y) := by
  have e : y = ix3 0 (y 1) (y 2) := (eq_ix3 y).trans (congrArg (fun z => ix3 z (y 1) (y 2)) (Subsingleton.elim (α := Fin 1) _ _))
  rw [e]
  exact z_point_at m c t (y 1) (y 2)

/-- What a grid point leaves in this result's block, at an index. -/
theorem g_point_at (t : Fin cfg0.N) (y : Fin 512) (j : Fin 128) :
    (outsAt0 m c t).2.2.2.2.2 (ix3 0 y j : S1x512x128.Idx) = GM m c ((win0_15.blk t).view.emb (ix3 0 y j : S1x512x128.Idx)) := by
  rw [g_emb]
  unfold outsAt0
  frame_out
  refine (g_at _ _ y j).trans ?_
  rw [hT_at]
  by_cases hj : j.val < 16
  · refine (pr_m m c _ _ 128 _ j ⟨2816 + j.val, by omega⟩ ⟨2048 + j.val, by omega⟩ (show 2816 + j.val = 768 + (2048 + j.val) by omega) fun k => ld_2816 m c t k j).trans ?_
    exact (congrArg (PR m c (bOf t) (sOf t y)) (Fin.ext (show 704 + (2048 + j.val) = 2752 + j.val by omega))).trans (GM_lo m c (bOf t) (sOf t y) j hj).symm
  · exact (pr_z m c _ _ 128 _ j ⟨2816 + j.val, by omega⟩ (show 2832 ≤ 2816 + j.val by omega) fun k => ld_2816 m c t k j).trans (GM_hi m c (bOf t) (sOf t y) j hj).symm

/-- What a grid point leaves in this result's block. -/
theorem g_point (t : Fin cfg0.N) (y : S1x512x128.Idx) : (outsAt0 m c t).2.2.2.2.2 y = GM m c ((win0_15.blk t).view.emb y) := by
  have e : y = ix3 0 (y 1) (y 2) := (eq_ix3 y).trans (congrArg (fun z => ix3 z (y 1) (y 2)) (Subsingleton.elim (α := Fin 1) _ _))
  rw [e]
  exact g_point_at m c t (y 1) (y 2)

/-- After the run this result's array is the reference's term of the arguments. -/
theorem q_final : (dats m 0 c).arrAt 10 cfg0.N = QM m c := by
  refine (dats m 0 c).arrAt_eq_of_covers 10 _ (by decide +kernel) fun t _ y => ?_
  blk_simp
  rw [after0_10]
  exact q_point m c t y

/-- After the run this result's array is the reference's term of the arguments. -/
theorem k_final : (dats m 0 c).arrAt 11 cfg0.N = KM m c := by
  refine (dats m 0 c).arrAt_eq_of_covers 11 _ (by decide +kernel) fun t _ y => ?_
  blk_simp
  rw [after0_11]
  exact k_point m c t y

/-- After the run this result's array is the reference's term of the arguments. -/
theorem v_final : (dats m 0 c).arrAt 12 cfg0.N = VM m c := by
  refine (dats m 0 c).arrAt_eq_of_covers 12 _ (by decide +kernel) fun t _ y => ?_
  blk_simp
  rw [after0_12]
  exact v_point m c t y

/-- After the run this result's array is the reference's term of the arguments. -/
theorem qkv_final : (dats m 0 c).arrAt 13 cfg0.N = CM m c := by
  refine (dats m 0 c).arrAt_eq_of_covers 13 _ (by decide +kernel) fun t _ y => ?_
  blk_simp
  rw [after0_13]
  exact qkv_point m c t y

/-- After the run this result's array is the reference's term of the arguments. -/
theorem z_final : (dats m 0 c).arrAt 14 cfg0.N = ZM m c := by
  refine (dats m 0 c).arrAt_eq_of_covers 14 _ (by decide +kernel) fun t _ y => ?_
  blk_simp
  rw [after0_14]
  exact z_point m c t y

/-- After the run this result's array is the reference's term of the arguments. -/
theorem g_final : (dats m 0 c).arrAt 15 cfg0.N = GM m c := by
  refine (dats m 0 c).arrAt_eq_of_covers 15 _ (by decide +kernel) fun t _ y => ?_
  blk_simp
  rw [after0_15]
  exact g_point m c t y

end Cert.Kernel3Ideal.Pre
end
-- ==== Proof.PreRes.lean ====
/- The first call's reference results, as the named terms. -/
module

public import proofs.«01_k».proof.Proof.PreRef

@[expose] public section

set_option maxRecDepth 16384

noncomputable section

namespace Cert.Reference3Ideal.RefValue

open Cert.Reference3Ideal Cert.Reference3Ideal.Gen
open Idealize.ShloMosaic Idealize.ShloMosaic.TcCoe Idealize.SL.Sem

set_option maxHeartbeats 1000000 in
/-- A composed result of the reference is the named term of its arguments. -/
theorem res_q (m : (ℓ : Loc nD τ sig) → Buf (Elt Ideal) ℓ) (c : Dev nD) : Value.res_main_v146 m c = Q (UQ (m ((c.tc : Thread nD τ).loc main_arg4)) (m ((c.tc : Thread nD τ).loc main_arg5)) (PJ (m ((c.tc : Thread nD τ).loc main_arg3)) (H (m ((c.tc : Thread nD τ).loc main_arg0)) (m ((c.tc : Thread nD τ).loc main_arg1)) (m ((c.tc : Thread nD τ).loc main_arg2))))) CS SN := by
  rfl

set_option maxHeartbeats 1000000 in
/-- A composed result of the reference is the named term of its arguments. -/
theorem res_k (m : (ℓ : Loc nD τ sig) → Buf (Elt Ideal) ℓ) (c : Dev nD) : Value.res_main_v148 m c = K (PJ (m ((c.tc : Thread nD τ).loc main_arg3)) (H (m ((c.tc : Thread nD τ).loc main_arg0)) (m ((c.tc : Thread nD τ).loc main_arg1)) (m ((c.tc : Thread nD τ).loc main_arg2)))) (UK (m ((c.tc : Thread nD τ).loc main_arg6)) (m ((c.tc : Thread nD τ).loc main_arg7)) (PJ (m ((c.tc : Thread nD τ).loc main_arg3)) (H (m ((c.tc : Thread nD τ).loc main_arg0)) (m ((c.tc : Thread nD τ).loc main_arg1)) (m ((c.tc : Thread nD τ).loc main_arg2))))) CS SN := by
  rfl

set_option maxHeartbeats 1000000 in
/-- A composed result of the reference is the named term of its arguments. -/
theorem res_v (m : (ℓ : Loc nD τ sig) → Buf (Elt Ideal) ℓ) (c : Dev nD) : Value.res_main_v150 m c = V (UK (m ((c.tc : Thread nD τ).loc main_arg6)) (m ((c.tc : Thread nD τ).loc main_arg7)) (PJ (m ((c.tc : Thread nD τ).loc main_arg3)) (H (m ((c.tc : Thread nD τ).loc main_arg0)) (m ((c.tc : Thread nD τ).loc main_arg1)) (m ((c.tc : Thread nD τ).loc main_arg2))))) := by
  rfl

end Cert.Reference3Ideal.RefValue

end
-- ==== Proof.PreAlgebraic.lean ====
/- The first call: its frames, and the equality of the idealized kernel with the reference. -/
module

public import proofs.«01_k».proof.Defs
public import proofs.«01_k».proof.Proof.PreFinal
public import proofs.«01_k».proof.Proof.PreRes
public import proofs.«01_k».proof.Proof.Gen.Kernel3
public import proofs.«01_k».proof.Proof.Gen.Kernel3.Frame
public import Idealize.ShloMosaic.Lib.Claim

@[expose] public section

set_option maxRecDepth 16384

noncomputable section

namespace Cert.Proof.Pre

open Idealize.ShloMosaic Idealize.ShloMosaic.TcCoe Idealize.SL.Sem
open Cert.Kernel3Ideal.Pre (QM KM VM CM ZM GM q_final k_final v_final qkv_final z_final g_final)

/-- The first call's kernel, at machine words, runs, leaves its arguments unchanged and ends with every counter at zero. -/
theorem frame_p : Cert.quiescent_Kernel3 := fun m g _ => Cert.Kernel3.Gen.frame m g

/-- The same of the idealized kernel, at the extended reals. -/
theorem frame_pi : Cert.quiescent_Kernel3Ideal := fun m g _ => Cert.Kernel3Ideal.Gen.frame m g

/-- The reference runs, leaves its arguments unchanged and ends with every counter at zero: it has no counters. -/
theorem frame_ri : Cert.quiescent_Reference3Ideal := fun m g _ =>
  (θ_run Cert.Reference3Ideal.defs _ _).mono (fun r h => ⟨fun c => (h c).2.2.2.2.2.2,
      Idealize.ShloMosaic.sem_eq_zero_of_no_sems (by decide) r.2⟩)
    (Cert.Reference3Ideal.Value.run (F := Ideal) m g)

/-- The idealized kernel names the queries' scale: its word is the rounding of one over the square root of 192 and the logarithm of 2. -/
theorem preserves : Cert.preserves_Kernel3_Kernel3Ideal := IdealRules.named_const.statement Cert.Kernel3Ideal.κ "qk_scale" .f32 0x3DD53B95#32 _ rfl

set_option maxHeartbeats 1000000 in
/-- The idealized kernel and the reference end with equal arrays. -/
theorem algebraic : Cert.algebraic_Kernel3Ideal_Reference3Ideal := by
  intro m ρ m' ρ' _ hagree
  refine ⟨fun c => QM m c, fun c => KM m c, fun c => VM m c, fun c => CM m c, fun c => ZM m c, fun c => GM m c, ?_, ?_⟩
  · exact (θ_run Cert.Kernel3Ideal.defs _ _).mono (fun r h c => ⟨(h c).1.trans (q_final m c), (h c).2.1.trans (k_final m c),
        (h c).2.2.1.trans (v_final m c), (h c).2.2.2.1.trans (qkv_final m c), (h c).2.2.2.2.1.trans (z_final m c),
        (h c).2.2.2.2.2.1.trans (g_final m c), (h c).2.2.2.2.2.2⟩)
      (Cert.Kernel3Ideal.Value.run_blocks (F := Ideal) m ρ)
  · refine (θ_run Cert.Reference3Ideal.defs _ _).mono (fun _ h c => ⟨(h c).1.trans ?_, (h c).2.1.trans ?_, (h c).2.2.1.trans ?_,
        (h c).2.2.2.1.trans ?_, (h c).2.2.2.2.1.trans ?_, (h c).2.2.2.2.2.1.trans ?_, (h c).2.2.2.2.2.2⟩)
      (Cert.Reference3Ideal.Value.run (F := Ideal) m' ρ')
    all_goals obtain ⟨e0, e1, e2, e3, e4, e5, e6, e7⟩ := hagree c
    · refine (Cert.Reference3Ideal.RefValue.res_q m' c).trans ?_
      rw [e0, e1, e2, e3, e4, e5]
      rfl
    · refine (Cert.Reference3Ideal.RefValue.res_k m' c).trans ?_
      rw [e0, e1, e2, e3, e6, e7]
      rfl
    · refine (Cert.Reference3Ideal.RefValue.res_v m' c).trans ?_
      rw [e0, e1, e2, e3, e6, e7]
      rfl
    · rw [e0, e1, e2, e3]
      rfl
    · rw [e0, e1, e2, e3]
      rfl
    · rw [e0, e1, e2, e3]
      rfl

end Cert.Proof.Pre

end
-- ==== Proof.lean ====
module

public import proofs.«01_k».proof.Defs
public import proofs.«01_k».proof.Proof.Frames
public import proofs.«01_k».proof.Proof.Algebraic
public import proofs.«01_k».proof.Proof.PostAlgebraic
public import proofs.«01_k».proof.Proof.PreAlgebraic
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run

@[expose] public section

noncomputable section

namespace Cert.Proof

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts,
    Cert.Kernel3Ideal.Gen.facts, Cert.Reference3Ideal.Gen.facts, Cert.Pre_finite.Gen.facts,
    Frames.frame_p, Frames.frame_pi, Frames.frame_pi_finite, Frames.frame_ri, Frames.frame_ri_finite,
    Post.frame_p, Post.frame_pi, Post.frame_ri, Pre.frame_p, Pre.frame_pi, Pre.frame_ri,
    Frames.preserves, Algebraic.algebraic, Post.preserves, Post.algebraic, Pre.preserves, Pre.algebraic⟩

end Cert.Proof

end
